-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16x2048x2048 : Shape := ⟨3, ![16, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S512x2048 : Shape := ⟨2, ![512, 2048]⟩
abbrev S1 : Shape := ⟨1, ![1]⟩
abbrev S2x512x2048 : Shape := ⟨3, ![2, 512, 2048]⟩
abbrev S2 : Shape := ⟨1, ![2]⟩
abbrev S3x2048x512 : Shape := ⟨3, ![3, 2048, 512]⟩
abbrev S3 : Shape := ⟨1, ![3]⟩
abbrev S3x512x2048 : Shape := ⟨3, ![3, 512, 2048]⟩
abbrev S_ : Shape := ⟨0, ![]⟩
abbrev S1x512x2048 : Shape := ⟨3, ![1, 512, 2048]⟩
abbrev S1x2048x512 : Shape := ⟨3, ![1, 2048, 512]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 16
  | .vmem => 9
  | .smem => 1
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S32768x2048, .f32⟩
  | .hbm, ⟨6, _⟩ => ⟨S2048, .f32⟩
  | .hbm, ⟨7, _⟩ => ⟨S1x2048, .f32⟩
  | .hbm, ⟨8, _⟩ => ⟨S2048x11264, .f32⟩
  | .hbm, ⟨9, _⟩ => ⟨S2048x11264, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S32768x2048, .f32⟩
  | .hbm, ⟨15, _⟩ => ⟨S32768x2048, .bf16⟩
  | .local _ .vmem, ⟨0, _⟩ => ⟨S512x2048, .bf16⟩
  | .local _ .vmem, ⟨1, _⟩ => ⟨S2x512x2048, .f32⟩
  | .local _ .vmem, ⟨2, _⟩ => ⟨S1x2048, .f32⟩
  | .local _ .vmem, ⟨3, _⟩ => ⟨S3x2048x512, .bf16⟩
  | .local _ .vmem, ⟨4, _⟩ => ⟨S3x2048x512, .bf16⟩
  | .local _ .vmem, ⟨5, _⟩ => ⟨S3x512x2048, .bf16⟩
  | .local _ .vmem, ⟨6, _⟩ => ⟨S1x2048, .f32⟩
  | .local _ .vmem, ⟨7, _⟩ => ⟨S2x512x2048, .f32⟩
  | .local _ .vmem, ⟨8, _⟩ => ⟨S2x512x2048, .bf16⟩
  | .local _ .smem, ⟨0, _⟩ => ⟨S1, .i32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_scratch0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped3 : Ref sig .tc := ⟨.vmem, 3, rfl⟩
abbrev cc0_scoped5 : Ref sig .tc := ⟨.vmem, 4, rfl⟩
abbrev cc0_scoped7 : Ref sig .tc := ⟨.vmem, 5, rfl⟩
abbrev cc0_scoped9 : Ref sig .tc := ⟨.vmem, 6, rfl⟩
abbrev cc0_scoped10 : Ref sig .tc := ⟨.vmem, 7, rfl⟩
abbrev cc0_scoped12 : Ref sig .tc := ⟨.vmem, 8, rfl⟩
abbrev cc0_scratch1 : Ref sig .tc := ⟨.smem, 0, rfl⟩

abbrev nD : Nat := 1
abbrev τ : Topo := Topo.v7x

variable {F : FTy → Type} [FloatOps F]

abbrev grid0 : Pipeline.Grid := .none

def k0_off1 : Fin 1 → Nat :=
  let c0_i32_40_r0 : BitVec 32 := 0#32
  let c2_i32_r0 : BitVec 32 := 2#32
  let v43_r0 : BitVec 32 := Scalar.remui c0_i32_40_r0 c2_i32_r0
  ![v43_r0.toNat]
def k0_off2 : Fin 3 → Nat :=
  let c0_i32_40_r0 : BitVec 32 := 0#32
  let c2_i32_r0 : BitVec 32 := 2#32
  let v43_r0 : BitVec 32 := Scalar.remui c0_i32_40_r0 c2_i32_r0
  let c0_i32_41_r0 : BitVec 32 := 0#32
  let c0_i32_42_r0 : BitVec 32 := 0#32
  ![v43_r0.toNat, 0, 0]
def k0_off3 : Fin 1 → Nat :=
  let c0_i32_47_r0 : BitVec 32 := 0#32
  let c3_i32_r0 : BitVec 32 := 3#32
  let v50_r0 : BitVec 32 := Scalar.remui c0_i32_47_r0 c3_i32_r0
  ![v50_r0.toNat]
def k0_off4 : Fin 3 → Nat :=
  let c0_i32_47_r0 : BitVec 32 := 0#32
  let c3_i32_r0 : BitVec 32 := 3#32
  let v50_r0 : BitVec 32 := Scalar.remui c0_i32_47_r0 c3_i32_r0
  let c0_i32_48_r0 : BitVec 32 := 0#32
  let c0_i32_49_r0 : BitVec 32 := 0#32
  ![v50_r0.toNat, 0, 0]
def k0_off5 : Fin 3 → Nat :=
  let c0_i32_61_r0 : BitVec 32 := 0#32
  let c3_i32_62_r0 : BitVec 32 := 3#32
  let v64_r0 : BitVec 32 := Scalar.remui c0_i32_61_r0 c3_i32_62_r0
  let c0_i32_63_r0 : BitVec 32 := 0#32
  let c0_i32_64_r0 : BitVec 32 := 0#32
  ![v64_r0.toNat, 0, 0]
def k0_cond1 : BitVec 1 :=
  let true_70_r0 : BitVec 1 := 1#1
  let true_14_r0 : BitVec 1 := 1#1
  let c1_i32_r0 : BitVec 32 := 1#32
  let c0_i32_15_r0 : BitVec 32 := 0#32
  let v15_r0 : BitVec 32 := Scalar.select true_14_r0 c1_i32_r0 c0_i32_15_r0
  let c11_i32_r0 : BitVec 32 := 11#32
  let v16_r0 : BitVec 1 := Scalar.cmpi .eq v15_r0 c11_i32_r0
  let c0_i32_16_r0 : BitVec 32 := 0#32
  let v17_r0 : BitVec 32 := Scalar.select v16_r0 c0_i32_16_r0 v15_r0
  let c0_i32_21_r0 : BitVec 32 := 0#32
  let v22_r0 : BitVec 32 := Scalar.addi v17_r0 c0_i32_21_r0
  let c0_i32_69_r0 : BitVec 32 := 0#32
  let v71_r0 : BitVec 1 := Scalar.cmpi .ne v22_r0 c0_i32_69_r0
  let v72_r0 : BitVec 1 := Scalar.andi true_70_r0 v71_r0
  let true_71_r0 : BitVec 1 := 1#1
  let v73_r0 : BitVec 1 := Scalar.andi v72_r0 true_71_r0
  let v74_r0 : BitVec 32 := Scalar.extui v73_r0
  let c0_i32_72_r0 : BitVec 32 := 0#32
  let v75_r0 : BitVec 1 := Scalar.cmpi .ne v74_r0 c0_i32_72_r0
  v75_r0

def k0_off6 : Fin 1 → Nat :=
  let c0_i32_52_r0 : BitVec 32 := 0#32
  let c1_i32_53_r0 : BitVec 32 := 1#32
  let v56_r0 : BitVec 32 := Scalar.addi c0_i32_52_r0 c1_i32_53_r0
  let c3_i32_156_r0 : BitVec 32 := 3#32
  let v159_r0 : BitVec 32 := Scalar.remui v56_r0 c3_i32_156_r0
  ![v159_r0.toNat]
def k0_off7 : Fin 3 → Nat :=
  let c0_i32_52_r0 : BitVec 32 := 0#32
  let c1_i32_53_r0 : BitVec 32 := 1#32
  let v56_r0 : BitVec 32 := Scalar.addi c0_i32_52_r0 c1_i32_53_r0
  let c3_i32_156_r0 : BitVec 32 := 3#32
  let v159_r0 : BitVec 32 := Scalar.remui v56_r0 c3_i32_156_r0
  let c0_i32_158_r0 : BitVec 32 := 0#32
  let c0_i32_159_r0 : BitVec 32 := 0#32
  ![v159_r0.toNat, 0, 0]
def k0_off8 : Fin 2 → Nat :=
  let c0_i32_160_r0 : BitVec 32 := 0#32
  let c512_i32_157_r0 : BitVec 32 := 512#32
  let true_14_r0 : BitVec 1 := 1#1
  let c1_i32_r0 : BitVec 32 := 1#32
  let c0_i32_15_r0 : BitVec 32 := 0#32
  let v15_r0 : BitVec 32 := Scalar.select true_14_r0 c1_i32_r0 c0_i32_15_r0
  let c11_i32_r0 : BitVec 32 := 11#32
  let v16_r0 : BitVec 1 := Scalar.cmpi .eq v15_r0 c11_i32_r0
  let c0_i32_16_r0 : BitVec 32 := 0#32
  let v17_r0 : BitVec 32 := Scalar.select v16_r0 c0_i32_16_r0 v15_r0
  let c0_i32_21_r0 : BitVec 32 := 0#32
  let v22_r0 : BitVec 32 := Scalar.addi v17_r0 c0_i32_21_r0
  let v160_r0 : BitVec 32 := Scalar.muli c512_i32_157_r0 v22_r0
  ![0, v160_r0.toNat]
def k0_cond2 : BitVec 1 :=
  let true_76_r0 : BitVec 1 := 1#1
  let c11_i32_74_r0 : BitVec 32 := 11#32
  let true_14_r0 : BitVec 1 := 1#1
  let c1_i32_r0 : BitVec 32 := 1#32
  let c0_i32_15_r0 : BitVec 32 := 0#32
  let v15_r0 : BitVec 32 := Scalar.select true_14_r0 c1_i32_r0 c0_i32_15_r0
  let c11_i32_r0 : BitVec 32 := 11#32
  let v16_r0 : BitVec 1 := Scalar.cmpi .eq v15_r0 c11_i32_r0
  let c0_i32_16_r0 : BitVec 32 := 0#32
  let v17_r0 : BitVec 32 := Scalar.select v16_r0 c0_i32_16_r0 v15_r0
  let c0_i32_21_r0 : BitVec 32 := 0#32
  let v22_r0 : BitVec 32 := Scalar.addi v17_r0 c0_i32_21_r0
  let v78_r0 : BitVec 32 := Scalar.addi c11_i32_74_r0 v22_r0
  let c11_i32_75_r0 : BitVec 32 := 11#32
  let v79_r0 : BitVec 1 := Scalar.cmpi .ne v78_r0 c11_i32_75_r0
  let v80_r0 : BitVec 1 := Scalar.andi true_76_r0 v79_r0
  let true_77_r0 : BitVec 1 := 1#1
  let v81_r0 : BitVec 1 := Scalar.andi v80_r0 true_77_r0
  let v82_r0 : BitVec 32 := Scalar.extui v81_r0
  let c0_i32_78_r0 : BitVec 32 := 0#32
  let v83_r0 : BitVec 1 := Scalar.cmpi .ne v82_r0 c0_i32_78_r0
  v83_r0

def k0_off9 : Fin 1 → Nat :=
  let c0_i32_59_r0 : BitVec 32 := 0#32
  let c1_i32_60_r0 : BitVec 32 := 1#32
  let v63_r0 : BitVec 32 := Scalar.addi c0_i32_59_r0 c1_i32_60_r0
  let c3_i32_156_r0 : BitVec 32 := 3#32
  let v159_r0 : BitVec 32 := Scalar.remui v63_r0 c3_i32_156_r0
  ![v159_r0.toNat]
def k0_off10 : Fin 3 → Nat :=
  let c0_i32_59_r0 : BitVec 32 := 0#32
  let c1_i32_60_r0 : BitVec 32 := 1#32
  let v63_r0 : BitVec 32 := Scalar.addi c0_i32_59_r0 c1_i32_60_r0
  let c3_i32_156_r0 : BitVec 32 := 3#32
  let v159_r0 : BitVec 32 := Scalar.remui v63_r0 c3_i32_156_r0
  let c0_i32_159_r0 : BitVec 32 := 0#32
  let c0_i32_160_r0 : BitVec 32 := 0#32
  ![v159_r0.toNat, 0, 0]
def k0_off11 : Fin 2 → Nat :=
  let c0_i32_161_r0 : BitVec 32 := 0#32
  let c512_i32_158_r0 : BitVec 32 := 512#32
  let c11_i32_157_r0 : BitVec 32 := 11#32
  let true_14_r0 : BitVec 1 := 1#1
  let c1_i32_r0 : BitVec 32 := 1#32
  let c0_i32_15_r0 : BitVec 32 := 0#32
  let v15_r0 : BitVec 32 := Scalar.select true_14_r0 c1_i32_r0 c0_i32_15_r0
  let c11_i32_r0 : BitVec 32 := 11#32
  let v16_r0 : BitVec 1 := Scalar.cmpi .eq v15_r0 c11_i32_r0
  let c0_i32_16_r0 : BitVec 32 := 0#32
  let v17_r0 : BitVec 32 := Scalar.select v16_r0 c0_i32_16_r0 v15_r0
  let c0_i32_21_r0 : BitVec 32 := 0#32
  let v22_r0 : BitVec 32 := Scalar.addi v17_r0 c0_i32_21_r0
  let v160_r0 : BitVec 32 := Scalar.addi c11_i32_157_r0 v22_r0
  let v161_r0 : BitVec 32 := Scalar.muli c512_i32_158_r0 v160_r0
  ![0, v161_r0.toNat]
def k0_cond3 : BitVec 1 :=
  let true_81_r0 : BitVec 1 := 1#1
  let true_14_r0 : BitVec 1 := 1#1
  let c1_i32_r0 : BitVec 32 := 1#32
  let c0_i32_15_r0 : BitVec 32 := 0#32
  let v15_r0 : BitVec 32 := Scalar.select true_14_r0 c1_i32_r0 c0_i32_15_r0
  let c11_i32_r0 : BitVec 32 := 11#32
  let v16_r0 : BitVec 1 := Scalar.cmpi .eq v15_r0 c11_i32_r0
  let c0_i32_16_r0 : BitVec 32 := 0#32
  let v17_r0 : BitVec 32 := Scalar.select v16_r0 c0_i32_16_r0 v15_r0
  let c0_i32_21_r0 : BitVec 32 := 0#32
  let v22_r0 : BitVec 32 := Scalar.addi v17_r0 c0_i32_21_r0
  let c0_i32_80_r0 : BitVec 32 := 0#32
  let v86_r0 : BitVec 1 := Scalar.cmpi .ne v22_r0 c0_i32_80_r0
  let v87_r0 : BitVec 1 := Scalar.andi true_81_r0 v86_r0
  let true_82_r0 : BitVec 1 := 1#1
  let v88_r0 : BitVec 1 := Scalar.andi v87_r0 true_82_r0
  let v89_r0 : BitVec 32 := Scalar.extui v88_r0
  let c0_i32_83_r0 : BitVec 32 := 0#32
  let v90_r0 : BitVec 1 := Scalar.cmpi .ne v89_r0 c0_i32_83_r0
  v90_r0

def k0_off12 : Fin 1 → Nat :=
  let c0_i32_67_r0 : BitVec 32 := 0#32
  let c1_i32_68_r0 : BitVec 32 := 1#32
  let v70_r0 : BitVec 32 := Scalar.addi c0_i32_67_r0 c1_i32_68_r0
  let c3_i32_156_r0 : BitVec 32 := 3#32
  let v159_r0 : BitVec 32 := Scalar.remui v70_r0 c3_i32_156_r0
  ![v159_r0.toNat]
def k0_off13 : Fin 3 → Nat :=
  let c0_i32_67_r0 : BitVec 32 := 0#32
  let c1_i32_68_r0 : BitVec 32 := 1#32
  let v70_r0 : BitVec 32 := Scalar.addi c0_i32_67_r0 c1_i32_68_r0
  let c3_i32_156_r0 : BitVec 32 := 3#32
  let v159_r0 : BitVec 32 := Scalar.remui v70_r0 c3_i32_156_r0
  let c0_i32_158_r0 : BitVec 32 := 0#32
  let c0_i32_159_r0 : BitVec 32 := 0#32
  ![v159_r0.toNat, 0, 0]
def k0_off14 : Fin 2 → Nat :=
  let c512_i32_157_r0 : BitVec 32 := 512#32
  let true_14_r0 : BitVec 1 := 1#1
  let c1_i32_r0 : BitVec 32 := 1#32
  let c0_i32_15_r0 : BitVec 32 := 0#32
  let v15_r0 : BitVec 32 := Scalar.select true_14_r0 c1_i32_r0 c0_i32_15_r0
  let c11_i32_r0 : BitVec 32 := 11#32
  let v16_r0 : BitVec 1 := Scalar.cmpi .eq v15_r0 c11_i32_r0
  let c0_i32_16_r0 : BitVec 32 := 0#32
  let v17_r0 : BitVec 32 := Scalar.select v16_r0 c0_i32_16_r0 v15_r0
  let c0_i32_21_r0 : BitVec 32 := 0#32
  let v22_r0 : BitVec 32 := Scalar.addi v17_r0 c0_i32_21_r0
  let v160_r0 : BitVec 32 := Scalar.muli c512_i32_157_r0 v22_r0
  let c0_i32_160_r0 : BitVec 32 := 0#32
  ![v160_r0.toNat, 0]
@[reducible] def k0_t1_loop : Scf.Loop 32 :=
  let c0_i32_99_r0 : BitVec 32 := 0#32
  let c704_i32_r0 : BitVec 32 := 704#32
  let v93_r0 : BitVec 32 := Scalar.addi c0_i32_99_r0 c704_i32_r0
  let c1_i32_100_r0 : BitVec 32 := 1#32
  ⟨c0_i32_99_r0, v93_r0, c1_i32_100_r0⟩
def k0_off15 (arg11_r0 : BitVec 32) : Fin 1 → Nat :=
  let c2_i32_314_r0 : BitVec 32 := 2#32
  let v436_r0 : BitVec 32 := Scalar.remui arg11_r0 c2_i32_314_r0
  ![v436_r0.toNat]
def k0_cond4 (k0_t1 : Fin k0_t1_loop.trips) (arg25_r0 : BitVec 32) (arg26_r0 : BitVec 32) : BitVec 1 :=
  let c0_i32_157_r0 : BitVec 32 := 0#32
  let v161_r0 : BitVec 32 := Scalar.addi arg25_r0 c0_i32_157_r0
  let true_169_r0 : BitVec 1 := 1#1
  let c1_i32_168_r0 : BitVec 32 := 1#32
  let v173_r0 : BitVec 32 := Scalar.addi arg26_r0 c1_i32_168_r0
  let v174_r0 : BitVec 32 := Scalar.select true_169_r0 v173_r0 arg26_r0
  let c11_i32_170_r0 : BitVec 32 := 11#32
  let v175_r0 : BitVec 1 := Scalar.cmpi .eq v174_r0 c11_i32_170_r0
  let c1_i32_172_r0 : BitVec 32 := 1#32
  let v177_r0 : BitVec 32 := Scalar.addi arg25_r0 c1_i32_172_r0
  let v178_r0 : BitVec 32 := Scalar.select v175_r0 v177_r0 arg25_r0
  let c64_i32_173_r0 : BitVec 32 := 64#32
  let v179_r0 : BitVec 1 := Scalar.cmpi .eq v178_r0 c64_i32_173_r0
  let c0_i32_174_r0 : BitVec 32 := 0#32
  let v180_r0 : BitVec 32 := Scalar.select v179_r0 c0_i32_174_r0 v178_r0
  let c0_i32_175_r0 : BitVec 32 := 0#32
  let v181_r0 : BitVec 32 := Scalar.addi v180_r0 c0_i32_175_r0
  let v203_r0 : BitVec 1 := Scalar.cmpi .ne v161_r0 v181_r0
  let c0_i32_99_r0 : BitVec 32 := 0#32
  let c1_i32_100_r0 : BitVec 32 := 1#32
  let arg10_r0 : BitVec 32 := Scf.iv c0_i32_99_r0 c1_i32_100_r0 k0_t1
  let c703_i32_195_r0 : BitVec 32 := 703#32
  let v204_r0 : BitVec 1 := Scalar.cmpi .sge arg10_r0 c703_i32_195_r0
  let true_196_r0 : BitVec 1 := 1#1
  let v205_r0 : BitVec 1 := Scalar.xori v204_r0 true_196_r0
  let v206_r0 : BitVec 1 := Scalar.andi v203_r0 v205_r0
  let true_197_r0 : BitVec 1 := 1#1
  let v207_r0 : BitVec 1 := Scalar.andi v206_r0 true_197_r0
  let v208_r0 : BitVec 32 := Scalar.extui v207_r0
  let c0_i32_198_r0 : BitVec 32 := 0#32
  let v209_r0 : BitVec 1 := Scalar.cmpi .ne v208_r0 c0_i32_198_r0
  v209_r0

def k0_off16 (arg11_r0 : BitVec 32) : Fin 3 → Nat :=
  let c2_i32_314_r0 : BitVec 32 := 2#32
  let v436_r0 : BitVec 32 := Scalar.remui arg11_r0 c2_i32_314_r0
  let c0_i32_316_r0 : BitVec 32 := 0#32
  let c0_i32_317_r0 : BitVec 32 := 0#32
  ![v436_r0.toNat, 0, 0]
def k0_off17 (arg25_r0 : BitVec 32) (arg26_r0 : BitVec 32) : Fin 2 → Nat :=
  let c512_i32_315_r0 : BitVec 32 := 512#32
  let true_169_r0 : BitVec 1 := 1#1
  let c1_i32_168_r0 : BitVec 32 := 1#32
  let v173_r0 : BitVec 32 := Scalar.addi arg26_r0 c1_i32_168_r0
  let v174_r0 : BitVec 32 := Scalar.select true_169_r0 v173_r0 arg26_r0
  let c11_i32_170_r0 : BitVec 32 := 11#32
  let v175_r0 : BitVec 1 := Scalar.cmpi .eq v174_r0 c11_i32_170_r0
  let c1_i32_172_r0 : BitVec 32 := 1#32
  let v177_r0 : BitVec 32 := Scalar.addi arg25_r0 c1_i32_172_r0
  let v178_r0 : BitVec 32 := Scalar.select v175_r0 v177_r0 arg25_r0
  let c64_i32_173_r0 : BitVec 32 := 64#32
  let v179_r0 : BitVec 1 := Scalar.cmpi .eq v178_r0 c64_i32_173_r0
  let c0_i32_174_r0 : BitVec 32 := 0#32
  let v180_r0 : BitVec 32 := Scalar.select v179_r0 c0_i32_174_r0 v178_r0
  let c0_i32_175_r0 : BitVec 32 := 0#32
  let v181_r0 : BitVec 32 := Scalar.addi v180_r0 c0_i32_175_r0
  let v437_r0 : BitVec 32 := Scalar.muli c512_i32_315_r0 v181_r0
  let c0_i32_318_r0 : BitVec 32 := 0#32
  ![v437_r0.toNat, 0]
def k0_off18 (arg14_r0 : BitVec 32) : Fin 1 → Nat :=
  let c3_i32_314_r0 : BitVec 32 := 3#32
  let v436_r0 : BitVec 32 := Scalar.remui arg14_r0 c3_i32_314_r0
  ![v436_r0.toNat]
def k0_cond5 (k0_t1 : Fin k0_t1_loop.trips) (arg26_r0 : BitVec 32) : BitVec 1 :=
  let true_169_r0 : BitVec 1 := 1#1
  let c1_i32_168_r0 : BitVec 32 := 1#32
  let v173_r0 : BitVec 32 := Scalar.addi arg26_r0 c1_i32_168_r0
  let v174_r0 : BitVec 32 := Scalar.select true_169_r0 v173_r0 arg26_r0
  let c11_i32_170_r0 : BitVec 32 := 11#32
  let v175_r0 : BitVec 1 := Scalar.cmpi .eq v174_r0 c11_i32_170_r0
  let c0_i32_171_r0 : BitVec 32 := 0#32
  let v176_r0 : BitVec 32 := Scalar.select v175_r0 c0_i32_171_r0 v174_r0
  let c0_i32_176_r0 : BitVec 32 := 0#32
  let v182_r0 : BitVec 32 := Scalar.addi v176_r0 c0_i32_176_r0
  let true_178_r0 : BitVec 1 := 1#1
  let c1_i32_177_r0 : BitVec 32 := 1#32
  let v183_r0 : BitVec 32 := Scalar.addi v176_r0 c1_i32_177_r0
  let v184_r0 : BitVec 32 := Scalar.select true_178_r0 v183_r0 v176_r0
  let c11_i32_179_r0 : BitVec 32 := 11#32
  let v185_r0 : BitVec 1 := Scalar.cmpi .eq v184_r0 c11_i32_179_r0
  let c0_i32_180_r0 : BitVec 32 := 0#32
  let v186_r0 : BitVec 32 := Scalar.select v185_r0 c0_i32_180_r0 v184_r0
  let c0_i32_185_r0 : BitVec 32 := 0#32
  let v192_r0 : BitVec 32 := Scalar.addi v186_r0 c0_i32_185_r0
  let v213_r0 : BitVec 1 := Scalar.cmpi .ne v182_r0 v192_r0
  let c0_i32_99_r0 : BitVec 32 := 0#32
  let c1_i32_100_r0 : BitVec 32 := 1#32
  let arg10_r0 : BitVec 32 := Scf.iv c0_i32_99_r0 c1_i32_100_r0 k0_t1
  let c702_i32_r0 : BitVec 32 := 702#32
  let v214_r0 : BitVec 1 := Scalar.cmpi .sge arg10_r0 c702_i32_r0
  let true_201_r0 : BitVec 1 := 1#1
  let v215_r0 : BitVec 1 := Scalar.xori v214_r0 true_201_r0
  let v216_r0 : BitVec 1 := Scalar.andi v213_r0 v215_r0
  let true_202_r0 : BitVec 1 := 1#1
  let v217_r0 : BitVec 1 := Scalar.andi v216_r0 true_202_r0
  let v218_r0 : BitVec 32 := Scalar.extui v217_r0
  let c0_i32_203_r0 : BitVec 32 := 0#32
  let v219_r0 : BitVec 1 := Scalar.cmpi .ne v218_r0 c0_i32_203_r0
  v219_r0

def k0_off19 (arg14_r0 : BitVec 32) : Fin 3 → Nat :=
  let c3_i32_314_r0 : BitVec 32 := 3#32
  let v436_r0 : BitVec 32 := Scalar.remui arg14_r0 c3_i32_314_r0
  let c0_i32_316_r0 : BitVec 32 := 0#32
  let c0_i32_317_r0 : BitVec 32 := 0#32
  ![v436_r0.toNat, 0, 0]
def k0_off20 (arg26_r0 : BitVec 32) : Fin 2 → Nat :=
  let c0_i32_318_r0 : BitVec 32 := 0#32
  let c512_i32_315_r0 : BitVec 32 := 512#32
  let true_178_r0 : BitVec 1 := 1#1
  let true_169_r0 : BitVec 1 := 1#1
  let c1_i32_168_r0 : BitVec 32 := 1#32
  let v173_r0 : BitVec 32 := Scalar.addi arg26_r0 c1_i32_168_r0
  let v174_r0 : BitVec 32 := Scalar.select true_169_r0 v173_r0 arg26_r0
  let c11_i32_170_r0 : BitVec 32 := 11#32
  let v175_r0 : BitVec 1 := Scalar.cmpi .eq v174_r0 c11_i32_170_r0
  let c0_i32_171_r0 : BitVec 32 := 0#32
  let v176_r0 : BitVec 32 := Scalar.select v175_r0 c0_i32_171_r0 v174_r0
  let c1_i32_177_r0 : BitVec 32 := 1#32
  let v183_r0 : BitVec 32 := Scalar.addi v176_r0 c1_i32_177_r0
  let v184_r0 : BitVec 32 := Scalar.select true_178_r0 v183_r0 v176_r0
  let c11_i32_179_r0 : BitVec 32 := 11#32
  let v185_r0 : BitVec 1 := Scalar.cmpi .eq v184_r0 c11_i32_179_r0
  let c0_i32_180_r0 : BitVec 32 := 0#32
  let v186_r0 : BitVec 32 := Scalar.select v185_r0 c0_i32_180_r0 v184_r0
  let c0_i32_185_r0 : BitVec 32 := 0#32
  let v192_r0 : BitVec 32 := Scalar.addi v186_r0 c0_i32_185_r0
  let v437_r0 : BitVec 32 := Scalar.muli c512_i32_315_r0 v192_r0
  ![0, v437_r0.toNat]
def k0_off21 (arg16_r0 : BitVec 32) : Fin 1 → Nat :=
  let c3_i32_314_r0 : BitVec 32 := 3#32
  let v436_r0 : BitVec 32 := Scalar.remui arg16_r0 c3_i32_314_r0
  ![v436_r0.toNat]
def k0_cond6 (k0_t1 : Fin k0_t1_loop.trips) (arg26_r0 : BitVec 32) : BitVec 1 :=
  let c11_i32_206_r0 : BitVec 32 := 11#32
  let true_169_r0 : BitVec 1 := 1#1
  let c1_i32_168_r0 : BitVec 32 := 1#32
  let v173_r0 : BitVec 32 := Scalar.addi arg26_r0 c1_i32_168_r0
  let v174_r0 : BitVec 32 := Scalar.select true_169_r0 v173_r0 arg26_r0
  let c11_i32_170_r0 : BitVec 32 := 11#32
  let v175_r0 : BitVec 1 := Scalar.cmpi .eq v174_r0 c11_i32_170_r0
  let c0_i32_171_r0 : BitVec 32 := 0#32
  let v176_r0 : BitVec 32 := Scalar.select v175_r0 c0_i32_171_r0 v174_r0
  let c0_i32_176_r0 : BitVec 32 := 0#32
  let v182_r0 : BitVec 32 := Scalar.addi v176_r0 c0_i32_176_r0
  let v223_r0 : BitVec 32 := Scalar.addi c11_i32_206_r0 v182_r0
  let c11_i32_207_r0 : BitVec 32 := 11#32
  let true_178_r0 : BitVec 1 := 1#1
  let c1_i32_177_r0 : BitVec 32 := 1#32
  let v183_r0 : BitVec 32 := Scalar.addi v176_r0 c1_i32_177_r0
  let v184_r0 : BitVec 32 := Scalar.select true_178_r0 v183_r0 v176_r0
  let c11_i32_179_r0 : BitVec 32 := 11#32
  let v185_r0 : BitVec 1 := Scalar.cmpi .eq v184_r0 c11_i32_179_r0
  let c0_i32_180_r0 : BitVec 32 := 0#32
  let v186_r0 : BitVec 32 := Scalar.select v185_r0 c0_i32_180_r0 v184_r0
  let c0_i32_185_r0 : BitVec 32 := 0#32
  let v192_r0 : BitVec 32 := Scalar.addi v186_r0 c0_i32_185_r0
  let v224_r0 : BitVec 32 := Scalar.addi c11_i32_207_r0 v192_r0
  let v225_r0 : BitVec 1 := Scalar.cmpi .ne v223_r0 v224_r0
  let c0_i32_99_r0 : BitVec 32 := 0#32
  let c1_i32_100_r0 : BitVec 32 := 1#32
  let arg10_r0 : BitVec 32 := Scf.iv c0_i32_99_r0 c1_i32_100_r0 k0_t1
  let c702_i32_208_r0 : BitVec 32 := 702#32
  let v226_r0 : BitVec 1 := Scalar.cmpi .sge arg10_r0 c702_i32_208_r0
  let true_209_r0 : BitVec 1 := 1#1
  let v227_r0 : BitVec 1 := Scalar.xori v226_r0 true_209_r0
  let v228_r0 : BitVec 1 := Scalar.andi v225_r0 v227_r0
  let true_210_r0 : BitVec 1 := 1#1
  let v229_r0 : BitVec 1 := Scalar.andi v228_r0 true_210_r0
  let v230_r0 : BitVec 32 := Scalar.extui v229_r0
  let c0_i32_211_r0 : BitVec 32 := 0#32
  let v231_r0 : BitVec 1 := Scalar.cmpi .ne v230_r0 c0_i32_211_r0
  v231_r0

def k0_off22 (arg16_r0 : BitVec 32) : Fin 3 → Nat :=
  let c3_i32_314_r0 : BitVec 32 := 3#32
  let v436_r0 : BitVec 32 := Scalar.remui arg16_r0 c3_i32_314_r0
  let c0_i32_317_r0 : BitVec 32 := 0#32
  let c0_i32_318_r0 : BitVec 32 := 0#32
  ![v436_r0.toNat, 0, 0]
def k0_off23 (arg26_r0 : BitVec 32) : Fin 2 → Nat :=
  let c0_i32_319_r0 : BitVec 32 := 0#32
  let c512_i32_316_r0 : BitVec 32 := 512#32
  let c11_i32_315_r0 : BitVec 32 := 11#32
  let true_178_r0 : BitVec 1 := 1#1
  let true_169_r0 : BitVec 1 := 1#1
  let c1_i32_168_r0 : BitVec 32 := 1#32
  let v173_r0 : BitVec 32 := Scalar.addi arg26_r0 c1_i32_168_r0
  let v174_r0 : BitVec 32 := Scalar.select true_169_r0 v173_r0 arg26_r0
  let c11_i32_170_r0 : BitVec 32 := 11#32
  let v175_r0 : BitVec 1 := Scalar.cmpi .eq v174_r0 c11_i32_170_r0
  let c0_i32_171_r0 : BitVec 32 := 0#32
  let v176_r0 : BitVec 32 := Scalar.select v175_r0 c0_i32_171_r0 v174_r0
  let c1_i32_177_r0 : BitVec 32 := 1#32
  let v183_r0 : BitVec 32 := Scalar.addi v176_r0 c1_i32_177_r0
  let v184_r0 : BitVec 32 := Scalar.select true_178_r0 v183_r0 v176_r0
  let c11_i32_179_r0 : BitVec 32 := 11#32
  let v185_r0 : BitVec 1 := Scalar.cmpi .eq v184_r0 c11_i32_179_r0
  let c0_i32_180_r0 : BitVec 32 := 0#32
  let v186_r0 : BitVec 32 := Scalar.select v185_r0 c0_i32_180_r0 v184_r0
  let c0_i32_185_r0 : BitVec 32 := 0#32
  let v192_r0 : BitVec 32 := Scalar.addi v186_r0 c0_i32_185_r0
  let v437_r0 : BitVec 32 := Scalar.addi c11_i32_315_r0 v192_r0
  let v438_r0 : BitVec 32 := Scalar.muli c512_i32_316_r0 v437_r0
  ![0, v438_r0.toNat]
def k0_off24 (arg18_r0 : BitVec 32) : Fin 1 → Nat :=
  let c3_i32_314_r0 : BitVec 32 := 3#32
  let v436_r0 : BitVec 32 := Scalar.remui arg18_r0 c3_i32_314_r0
  ![v436_r0.toNat]
def k0_cond7 (k0_t1 : Fin k0_t1_loop.trips) (arg26_r0 : BitVec 32) : BitVec 1 :=
  let true_169_r0 : BitVec 1 := 1#1
  let c1_i32_168_r0 : BitVec 32 := 1#32
  let v173_r0 : BitVec 32 := Scalar.addi arg26_r0 c1_i32_168_r0
  let v174_r0 : BitVec 32 := Scalar.select true_169_r0 v173_r0 arg26_r0
  let c11_i32_170_r0 : BitVec 32 := 11#32
  let v175_r0 : BitVec 1 := Scalar.cmpi .eq v174_r0 c11_i32_170_r0
  let c0_i32_171_r0 : BitVec 32 := 0#32
  let v176_r0 : BitVec 32 := Scalar.select v175_r0 c0_i32_171_r0 v174_r0
  let c0_i32_176_r0 : BitVec 32 := 0#32
  let v182_r0 : BitVec 32 := Scalar.addi v176_r0 c0_i32_176_r0
  let true_178_r0 : BitVec 1 := 1#1
  let c1_i32_177_r0 : BitVec 32 := 1#32
  let v183_r0 : BitVec 32 := Scalar.addi v176_r0 c1_i32_177_r0
  let v184_r0 : BitVec 32 := Scalar.select true_178_r0 v183_r0 v176_r0
  let c11_i32_179_r0 : BitVec 32 := 11#32
  let v185_r0 : BitVec 1 := Scalar.cmpi .eq v184_r0 c11_i32_179_r0
  let c0_i32_180_r0 : BitVec 32 := 0#32
  let v186_r0 : BitVec 32 := Scalar.select v185_r0 c0_i32_180_r0 v184_r0
  let c0_i32_185_r0 : BitVec 32 := 0#32
  let v192_r0 : BitVec 32 := Scalar.addi v186_r0 c0_i32_185_r0
  let v235_r0 : BitVec 1 := Scalar.cmpi .ne v182_r0 v192_r0
  let c0_i32_99_r0 : BitVec 32 := 0#32
  let c1_i32_100_r0 : BitVec 32 := 1#32
  let arg10_r0 : BitVec 32 := Scf.iv c0_i32_99_r0 c1_i32_100_r0 k0_t1
  let c702_i32_214_r0 : BitVec 32 := 702#32
  let v236_r0 : BitVec 1 := Scalar.cmpi .sge arg10_r0 c702_i32_214_r0
  let true_215_r0 : BitVec 1 := 1#1
  let v237_r0 : BitVec 1 := Scalar.xori v236_r0 true_215_r0
  let v238_r0 : BitVec 1 := Scalar.andi v235_r0 v237_r0
  let true_216_r0 : BitVec 1 := 1#1
  let v239_r0 : BitVec 1 := Scalar.andi v238_r0 true_216_r0
  let v240_r0 : BitVec 32 := Scalar.extui v239_r0
  let c0_i32_217_r0 : BitVec 32 := 0#32
  let v241_r0 : BitVec 1 := Scalar.cmpi .ne v240_r0 c0_i32_217_r0
  v241_r0

def k0_off25 (arg18_r0 : BitVec 32) : Fin 3 → Nat :=
  let c3_i32_314_r0 : BitVec 32 := 3#32
  let v436_r0 : BitVec 32 := Scalar.remui arg18_r0 c3_i32_314_r0
  let c0_i32_316_r0 : BitVec 32 := 0#32
  let c0_i32_317_r0 : BitVec 32 := 0#32
  ![v436_r0.toNat, 0, 0]
def k0_off26 (arg26_r0 : BitVec 32) : Fin 2 → Nat :=
  let c512_i32_315_r0 : BitVec 32 := 512#32
  let true_178_r0 : BitVec 1 := 1#1
  let true_169_r0 : BitVec 1 := 1#1
  let c1_i32_168_r0 : BitVec 32 := 1#32
  let v173_r0 : BitVec 32 := Scalar.addi arg26_r0 c1_i32_168_r0
  let v174_r0 : BitVec 32 := Scalar.select true_169_r0 v173_r0 arg26_r0
  let c11_i32_170_r0 : BitVec 32 := 11#32
  let v175_r0 : BitVec 1 := Scalar.cmpi .eq v174_r0 c11_i32_170_r0
  let c0_i32_171_r0 : BitVec 32 := 0#32
  let v176_r0 : BitVec 32 := Scalar.select v175_r0 c0_i32_171_r0 v174_r0
  let c1_i32_177_r0 : BitVec 32 := 1#32
  let v183_r0 : BitVec 32 := Scalar.addi v176_r0 c1_i32_177_r0
  let v184_r0 : BitVec 32 := Scalar.select true_178_r0 v183_r0 v176_r0
  let c11_i32_179_r0 : BitVec 32 := 11#32
  let v185_r0 : BitVec 1 := Scalar.cmpi .eq v184_r0 c11_i32_179_r0
  let c0_i32_180_r0 : BitVec 32 := 0#32
  let v186_r0 : BitVec 32 := Scalar.select v185_r0 c0_i32_180_r0 v184_r0
  let c0_i32_185_r0 : BitVec 32 := 0#32
  let v192_r0 : BitVec 32 := Scalar.addi v186_r0 c0_i32_185_r0
  let v437_r0 : BitVec 32 := Scalar.muli c512_i32_315_r0 v192_r0
  let c0_i32_318_r0 : BitVec 32 := 0#32
  ![v437_r0.toNat, 0]
def k0_off27 (arg12_r0 : BitVec 32) : Fin 1 → Nat :=
  let c2_i32_315_r0 : BitVec 32 := 2#32
  let v437_r0 : BitVec 32 := Scalar.remui arg12_r0 c2_i32_315_r0
  ![v437_r0.toNat]
def k0_cond8 (k0_t1 : Fin k0_t1_loop.trips) (arg25_r0 : BitVec 32) (arg26_r0 : BitVec 32) : BitVec 1 :=
  let c0_i32_157_r0 : BitVec 32 := 0#32
  let v161_r0 : BitVec 32 := Scalar.addi arg25_r0 c0_i32_157_r0
  let true_160_r0 : BitVec 1 := 1#1
  let c1_i32_159_r0 : BitVec 32 := 1#32
  let v163_r0 : BitVec 32 := Scalar.subi arg26_r0 c1_i32_159_r0
  let v164_r0 : BitVec 32 := Scalar.select true_160_r0 v163_r0 arg26_r0
  let c_m1_i32_161_r0 : BitVec 32 := 4294967295#32
  let v165_r0 : BitVec 1 := Scalar.cmpi .eq v164_r0 c_m1_i32_161_r0
  let c1_i32_163_r0 : BitVec 32 := 1#32
  let v167_r0 : BitVec 32 := Scalar.subi arg25_r0 c1_i32_163_r0
  let v168_r0 : BitVec 32 := Scalar.select v165_r0 v167_r0 arg25_r0
  let c_m1_i32_164_r0 : BitVec 32 := 4294967295#32
  let v169_r0 : BitVec 1 := Scalar.cmpi .eq v168_r0 c_m1_i32_164_r0
  let c63_i32_165_r0 : BitVec 32 := 63#32
  let v170_r0 : BitVec 32 := Scalar.select v169_r0 c63_i32_165_r0 v168_r0
  let c0_i32_166_r0 : BitVec 32 := 0#32
  let v171_r0 : BitVec 32 := Scalar.addi v170_r0 c0_i32_166_r0
  let v253_r0 : BitVec 1 := Scalar.cmpi .ne v161_r0 v171_r0
  let c0_i32_99_r0 : BitVec 32 := 0#32
  let c1_i32_100_r0 : BitVec 32 := 1#32
  let arg10_r0 : BitVec 32 := Scf.iv c0_i32_99_r0 c1_i32_100_r0 k0_t1
  let c0_i32_156_r0 : BitVec 32 := 0#32
  let v159_r0 : BitVec 1 := Scalar.cmpi .eq arg10_r0 c0_i32_156_r0
  let v254_r0 : BitVec 1 := Scalar.ori v253_r0 v159_r0
  let c0_i32_224_r0 : BitVec 32 := 0#32
  let v255_r0 : BitVec 1 := Scalar.cmpi .sge arg10_r0 c0_i32_224_r0
  let v256_r0 : BitVec 1 := Scalar.andi v254_r0 v255_r0
  let v257_r0 : BitVec 32 := Scalar.extui v256_r0
  let c0_i32_225_r0 : BitVec 32 := 0#32
  let v258_r0 : BitVec 1 := Scalar.cmpi .ne v257_r0 c0_i32_225_r0
  v258_r0

def k0_off28 (arg12_r0 : BitVec 32) : Fin 3 → Nat :=
  let c2_i32_315_r0 : BitVec 32 := 2#32
  let v437_r0 : BitVec 32 := Scalar.remui arg12_r0 c2_i32_315_r0
  let c0_i32_316_r0 : BitVec 32 := 0#32
  let c0_i32_317_r0 : BitVec 32 := 0#32
  ![v437_r0.toNat, 0, 0]
def k0_off29 (arg25_r0 : BitVec 32) : Fin 2 → Nat :=
  let c512_i32_314_r0 : BitVec 32 := 512#32
  let c0_i32_157_r0 : BitVec 32 := 0#32
  let v161_r0 : BitVec 32 := Scalar.addi arg25_r0 c0_i32_157_r0
  let v436_r0 : BitVec 32 := Scalar.muli c512_i32_314_r0 v161_r0
  let c0_i32_318_r0 : BitVec 32 := 0#32
  ![v436_r0.toNat, 0]
def k0_off30 (arg15_r0 : BitVec 32) : Fin 1 → Nat :=
  let c3_i32_315_r0 : BitVec 32 := 3#32
  let v437_r0 : BitVec 32 := Scalar.remui arg15_r0 c3_i32_315_r0
  ![v437_r0.toNat]
def k0_cond9 (k0_t1 : Fin k0_t1_loop.trips) (arg26_r0 : BitVec 32) : BitVec 1 :=
  let c0_i32_158_r0 : BitVec 32 := 0#32
  let v162_r0 : BitVec 32 := Scalar.addi arg26_r0 c0_i32_158_r0
  let true_160_r0 : BitVec 1 := 1#1
  let c1_i32_159_r0 : BitVec 32 := 1#32
  let v163_r0 : BitVec 32 := Scalar.subi arg26_r0 c1_i32_159_r0
  let v164_r0 : BitVec 32 := Scalar.select true_160_r0 v163_r0 arg26_r0
  let c_m1_i32_161_r0 : BitVec 32 := 4294967295#32
  let v165_r0 : BitVec 1 := Scalar.cmpi .eq v164_r0 c_m1_i32_161_r0
  let c10_i32_162_r0 : BitVec 32 := 10#32
  let v166_r0 : BitVec 32 := Scalar.select v165_r0 c10_i32_162_r0 v164_r0
  let c0_i32_167_r0 : BitVec 32 := 0#32
  let v172_r0 : BitVec 32 := Scalar.addi v166_r0 c0_i32_167_r0
  let v259_r0 : BitVec 1 := Scalar.cmpi .ne v162_r0 v172_r0
  let c0_i32_99_r0 : BitVec 32 := 0#32
  let c1_i32_100_r0 : BitVec 32 := 1#32
  let arg10_r0 : BitVec 32 := Scf.iv c0_i32_99_r0 c1_i32_100_r0 k0_t1
  let c0_i32_156_r0 : BitVec 32 := 0#32
  let v159_r0 : BitVec 1 := Scalar.cmpi .eq arg10_r0 c0_i32_156_r0
  let v260_r0 : BitVec 1 := Scalar.ori v259_r0 v159_r0
  let c0_i32_226_r0 : BitVec 32 := 0#32
  let v261_r0 : BitVec 1 := Scalar.cmpi .sge arg10_r0 c0_i32_226_r0
  let v262_r0 : BitVec 1 := Scalar.andi v260_r0 v261_r0
  let v263_r0 : BitVec 32 := Scalar.extui v262_r0
  let c0_i32_227_r0 : BitVec 32 := 0#32
  let v264_r0 : BitVec 1 := Scalar.cmpi .ne v263_r0 c0_i32_227_r0
  v264_r0

def k0_off31 (arg15_r0 : BitVec 32) : Fin 3 → Nat :=
  let c3_i32_315_r0 : BitVec 32 := 3#32
  let v437_r0 : BitVec 32 := Scalar.remui arg15_r0 c3_i32_315_r0
  let c0_i32_316_r0 : BitVec 32 := 0#32
  let c0_i32_317_r0 : BitVec 32 := 0#32
  ![v437_r0.toNat, 0, 0]
def k0_off32 (arg26_r0 : BitVec 32) : Fin 2 → Nat :=
  let c0_i32_318_r0 : BitVec 32 := 0#32
  let c512_i32_314_r0 : BitVec 32 := 512#32
  let c0_i32_158_r0 : BitVec 32 := 0#32
  let v162_r0 : BitVec 32 := Scalar.addi arg26_r0 c0_i32_158_r0
  let v436_r0 : BitVec 32 := Scalar.muli c512_i32_314_r0 v162_r0
  ![0, v436_r0.toNat]
def k0_off33 (arg17_r0 : BitVec 32) : Fin 1 → Nat :=
  let c3_i32_316_r0 : BitVec 32 := 3#32
  let v438_r0 : BitVec 32 := Scalar.remui arg17_r0 c3_i32_316_r0
  ![v438_r0.toNat]
def k0_cond10 (k0_t1 : Fin k0_t1_loop.trips) (arg26_r0 : BitVec 32) : BitVec 1 :=
  let c11_i32_228_r0 : BitVec 32 := 11#32
  let c0_i32_158_r0 : BitVec 32 := 0#32
  let v162_r0 : BitVec 32 := Scalar.addi arg26_r0 c0_i32_158_r0
  let v265_r0 : BitVec 32 := Scalar.addi c11_i32_228_r0 v162_r0
  let c11_i32_229_r0 : BitVec 32 := 11#32
  let true_160_r0 : BitVec 1 := 1#1
  let c1_i32_159_r0 : BitVec 32 := 1#32
  let v163_r0 : BitVec 32 := Scalar.subi arg26_r0 c1_i32_159_r0
  let v164_r0 : BitVec 32 := Scalar.select true_160_r0 v163_r0 arg26_r0
  let c_m1_i32_161_r0 : BitVec 32 := 4294967295#32
  let v165_r0 : BitVec 1 := Scalar.cmpi .eq v164_r0 c_m1_i32_161_r0
  let c10_i32_162_r0 : BitVec 32 := 10#32
  let v166_r0 : BitVec 32 := Scalar.select v165_r0 c10_i32_162_r0 v164_r0
  let c0_i32_167_r0 : BitVec 32 := 0#32
  let v172_r0 : BitVec 32 := Scalar.addi v166_r0 c0_i32_167_r0
  let v266_r0 : BitVec 32 := Scalar.addi c11_i32_229_r0 v172_r0
  let v267_r0 : BitVec 1 := Scalar.cmpi .ne v265_r0 v266_r0
  let c0_i32_99_r0 : BitVec 32 := 0#32
  let c1_i32_100_r0 : BitVec 32 := 1#32
  let arg10_r0 : BitVec 32 := Scf.iv c0_i32_99_r0 c1_i32_100_r0 k0_t1
  let c0_i32_156_r0 : BitVec 32 := 0#32
  let v159_r0 : BitVec 1 := Scalar.cmpi .eq arg10_r0 c0_i32_156_r0
  let v268_r0 : BitVec 1 := Scalar.ori v267_r0 v159_r0
  let c0_i32_230_r0 : BitVec 32 := 0#32
  let v269_r0 : BitVec 1 := Scalar.cmpi .sge arg10_r0 c0_i32_230_r0
  let v270_r0 : BitVec 1 := Scalar.andi v268_r0 v269_r0
  let v271_r0 : BitVec 32 := Scalar.extui v270_r0
  let c0_i32_231_r0 : BitVec 32 := 0#32
  let v272_r0 : BitVec 1 := Scalar.cmpi .ne v271_r0 c0_i32_231_r0
  v272_r0

def k0_off34 (arg17_r0 : BitVec 32) : Fin 3 → Nat :=
  let c3_i32_316_r0 : BitVec 32 := 3#32
  let v438_r0 : BitVec 32 := Scalar.remui arg17_r0 c3_i32_316_r0
  let c0_i32_317_r0 : BitVec 32 := 0#32
  let c0_i32_318_r0 : BitVec 32 := 0#32
  ![v438_r0.toNat, 0, 0]
def k0_off35 (arg26_r0 : BitVec 32) : Fin 2 → Nat :=
  let c0_i32_319_r0 : BitVec 32 := 0#32
  let c512_i32_315_r0 : BitVec 32 := 512#32
  let c11_i32_314_r0 : BitVec 32 := 11#32
  let c0_i32_158_r0 : BitVec 32 := 0#32
  let v162_r0 : BitVec 32 := Scalar.addi arg26_r0 c0_i32_158_r0
  let v436_r0 : BitVec 32 := Scalar.addi c11_i32_314_r0 v162_r0
  let v437_r0 : BitVec 32 := Scalar.muli c512_i32_315_r0 v436_r0
  ![0, v437_r0.toNat]
def k0_off36 (arg19_r0 : BitVec 32) : Fin 1 → Nat :=
  let c3_i32_315_r0 : BitVec 32 := 3#32
  let v437_r0 : BitVec 32 := Scalar.remui arg19_r0 c3_i32_315_r0
  ![v437_r0.toNat]
def k0_cond11 (k0_t1 : Fin k0_t1_loop.trips) (arg26_r0 : BitVec 32) : BitVec 1 :=
  let c0_i32_158_r0 : BitVec 32 := 0#32
  let v162_r0 : BitVec 32 := Scalar.addi arg26_r0 c0_i32_158_r0
  let true_160_r0 : BitVec 1 := 1#1
  let c1_i32_159_r0 : BitVec 32 := 1#32
  let v163_r0 : BitVec 32 := Scalar.subi arg26_r0 c1_i32_159_r0
  let v164_r0 : BitVec 32 := Scalar.select true_160_r0 v163_r0 arg26_r0
  let c_m1_i32_161_r0 : BitVec 32 := 4294967295#32
  let v165_r0 : BitVec 1 := Scalar.cmpi .eq v164_r0 c_m1_i32_161_r0
  let c10_i32_162_r0 : BitVec 32 := 10#32
  let v166_r0 : BitVec 32 := Scalar.select v165_r0 c10_i32_162_r0 v164_r0
  let c0_i32_167_r0 : BitVec 32 := 0#32
  let v172_r0 : BitVec 32 := Scalar.addi v166_r0 c0_i32_167_r0
  let v273_r0 : BitVec 1 := Scalar.cmpi .ne v162_r0 v172_r0
  let c0_i32_99_r0 : BitVec 32 := 0#32
  let c1_i32_100_r0 : BitVec 32 := 1#32
  let arg10_r0 : BitVec 32 := Scf.iv c0_i32_99_r0 c1_i32_100_r0 k0_t1
  let c0_i32_156_r0 : BitVec 32 := 0#32
  let v159_r0 : BitVec 1 := Scalar.cmpi .eq arg10_r0 c0_i32_156_r0
  let v274_r0 : BitVec 1 := Scalar.ori v273_r0 v159_r0
  let c0_i32_232_r0 : BitVec 32 := 0#32
  let v275_r0 : BitVec 1 := Scalar.cmpi .sge arg10_r0 c0_i32_232_r0
  let v276_r0 : BitVec 1 := Scalar.andi v274_r0 v275_r0
  let v277_r0 : BitVec 32 := Scalar.extui v276_r0
  let c0_i32_233_r0 : BitVec 32 := 0#32
  let v278_r0 : BitVec 1 := Scalar.cmpi .ne v277_r0 c0_i32_233_r0
  v278_r0

def k0_off37 (arg19_r0 : BitVec 32) : Fin 3 → Nat :=
  let c3_i32_315_r0 : BitVec 32 := 3#32
  let v437_r0 : BitVec 32 := Scalar.remui arg19_r0 c3_i32_315_r0
  let c0_i32_316_r0 : BitVec 32 := 0#32
  let c0_i32_317_r0 : BitVec 32 := 0#32
  ![v437_r0.toNat, 0, 0]
def k0_off38 (arg26_r0 : BitVec 32) : Fin 2 → Nat :=
  let c512_i32_314_r0 : BitVec 32 := 512#32
  let c0_i32_158_r0 : BitVec 32 := 0#32
  let v162_r0 : BitVec 32 := Scalar.addi arg26_r0 c0_i32_158_r0
  let v436_r0 : BitVec 32 := Scalar.muli c512_i32_314_r0 v162_r0
  let c0_i32_318_r0 : BitVec 32 := 0#32
  ![v436_r0.toNat, 0]
def k0_off39 (arg12_r0 : BitVec 32) : Fin 3 → Nat :=
  let c2_i32_238_r0 : BitVec 32 := 2#32
  let v291_r0 : BitVec 32 := Scalar.remui arg12_r0 c2_i32_238_r0
  let v436_r0 : Index := Scalar.indexCast v291_r0
  let c0_314_r0 : Index := 0#32
  let c0_315_r0 : Index := 0#32
  ![v436_r0.toNat, 0, 0]
def k0_cond14 (v297_r0 : BitVec 32) : BitVec 1 :=
  let c11_i32_247_r0 : BitVec 32 := 11#32
  let v300_r0 : BitVec 32 := Scalar.remsi v297_r0 c11_i32_247_r0
  let c0_i32_248_r0 : BitVec 32 := 0#32
  let v301_r0 : BitVec 1 := Scalar.cmpi .eq v300_r0 c0_i32_248_r0
  let v302_r0 : BitVec 32 := Scalar.extui v301_r0
  let c0_i32_249_r0 : BitVec 32 := 0#32
  let v303_r0 : BitVec 1 := Scalar.cmpi .ne v302_r0 c0_i32_249_r0
  v303_r0

def k0_off40 (arg21_r0 : BitVec 32) : Fin 3 → Nat :=
  let c2_i32_242_r0 : BitVec 32 := 2#32
  let v295_r0 : BitVec 32 := Scalar.remui arg21_r0 c2_i32_242_r0
  let v458_r0 : Index := Scalar.indexCast v295_r0
  let c0_324_r0 : Index := 0#32
  let c0_325_r0 : Index := 0#32
  ![v458_r0.toNat, 0, 0]
def k0_off41 (arg15_r0 : BitVec 32) : Fin 3 → Nat :=
  let c3_i32_239_r0 : BitVec 32 := 3#32
  let v292_r0 : BitVec 32 := Scalar.remui arg15_r0 c3_i32_239_r0
  let v305_r0 : Index := Scalar.indexCast v292_r0
  let c0_252_r0 : Index := 0#32
  let c0_253_r0 : Index := 0#32
  ![v305_r0.toNat, 0, 0]

def k0_chk3 (arg15_r0 : BitVec 32) : Prop :=
  (∀ a, (k0_off41 arg15_r0) a + S1x2048x512.size a ≤ S3x2048x512.size a)
theorem k0_off41_inb : ∀ (arg15_r0 : BitVec 32) (k0_hw3 : k0_chk3 arg15_r0), ∀ a, (k0_off41 arg15_r0) a + S1x2048x512.size a ≤ S3x2048x512.size a := fun arg15_r0 k0_hw3 => k0_hw3

def k0_off42 (arg17_r0 : BitVec 32) : Fin 3 → Nat :=
  let c3_i32_240_r0 : BitVec 32 := 3#32
  let v293_r0 : BitVec 32 := Scalar.remui arg17_r0 c3_i32_240_r0
  let v309_r0 : Index := Scalar.indexCast v293_r0
  let c0_254_r0 : Index := 0#32
  let c0_255_r0 : Index := 0#32
  ![v309_r0.toNat, 0, 0]

def k0_chk4 (arg17_r0 : BitVec 32) : Prop :=
  (∀ a, (k0_off42 arg17_r0) a + S1x2048x512.size a ≤ S3x2048x512.size a)
theorem k0_off42_inb : ∀ (arg17_r0 : BitVec 32) (k0_hw4 : k0_chk4 arg17_r0), ∀ a, (k0_off42 arg17_r0) a + S1x2048x512.size a ≤ S3x2048x512.size a := fun arg17_r0 k0_hw4 => k0_hw4

def k0_off43 (arg21_r0 : BitVec 32) : Fin 3 → Nat :=
  let c2_i32_242_r0 : BitVec 32 := 2#32
  let v295_r0 : BitVec 32 := Scalar.remui arg21_r0 c2_i32_242_r0
  let v317_r0 : Index := Scalar.indexCast v295_r0
  let c0_257_r0 : Index := 0#32
  let c0_258_r0 : Index := 0#32
  ![v317_r0.toNat, 0, 0]

def k0_chk5 (arg21_r0 : BitVec 32) : Prop :=
  (∀ a, (k0_off43 arg21_r0) a + S1x512x2048.size a ≤ S2x512x2048.size a)
theorem k0_off43_inb : ∀ (arg21_r0 : BitVec 32) (k0_hw5 : k0_chk5 arg21_r0), ∀ a, (k0_off43 arg21_r0) a + S1x512x2048.size a ≤ S2x512x2048.size a := fun arg21_r0 k0_hw5 => k0_hw5

def k0_off44 (arg19_r0 : BitVec 32) : Fin 3 → Nat :=
  let c3_i32_241_r0 : BitVec 32 := 3#32
  let v294_r0 : BitVec 32 := Scalar.remui arg19_r0 c3_i32_241_r0
  let v320_r0 : Index := Scalar.indexCast v294_r0
  let c0_259_r0 : Index := 0#32
  let c0_260_r0 : Index := 0#32
  ![v320_r0.toNat, 0, 0]

def k0_chk6 (arg19_r0 : BitVec 32) : Prop :=
  (∀ a, (k0_off44 arg19_r0) a + S1x512x2048.size a ≤ S3x512x2048.size a)
theorem k0_off44_inb : ∀ (arg19_r0 : BitVec 32) (k0_hw6 : k0_chk6 arg19_r0), ∀ a, (k0_off44 arg19_r0) a + S1x512x2048.size a ≤ S3x512x2048.size a := fun arg19_r0 k0_hw6 => k0_hw6

def k0_off45 (arg12_r0 : BitVec 32) : Fin 3 → Nat :=
  let c2_i32_238_r0 : BitVec 32 := 2#32
  let v291_r0 : BitVec 32 := Scalar.remui arg12_r0 c2_i32_238_r0
  let v436_r0 : Index := Scalar.indexCast v291_r0
  let c0_314_r0 : Index := 0#32
  let c0_315_r0 : Index := 0#32
  ![v436_r0.toNat, 0, 0]
def k0_cond15 (v297_r0 : BitVec 32) : BitVec 1 :=
  let c11_i32_247_r0 : BitVec 32 := 11#32
  let v300_r0 : BitVec 32 := Scalar.remsi v297_r0 c11_i32_247_r0
  let c10_i32_264_r0 : BitVec 32 := 10#32
  let v329_r0 : BitVec 1 := Scalar.cmpi .eq v300_r0 c10_i32_264_r0
  let v330_r0 : BitVec 32 := Scalar.extui v329_r0
  let c0_i32_265_r0 : BitVec 32 := 0#32
  let v331_r0 : BitVec 1 := Scalar.cmpi .ne v330_r0 c0_i32_265_r0
  v331_r0

def k0_off46 (arg21_r0 : BitVec 32) : Fin 3 → Nat :=
  let c2_i32_242_r0 : BitVec 32 := 2#32
  let v295_r0 : BitVec 32 := Scalar.remui arg21_r0 c2_i32_242_r0
  let v439_r0 : Index := Scalar.indexCast v295_r0
  let c0_316_r0 : Index := 0#32
  let c0_317_r0 : Index := 0#32
  ![v439_r0.toNat, 0, 0]
def k0_off47 (arg23_r0 : BitVec 32) : Fin 3 → Nat :=
  let c2_i32_243_r0 : BitVec 32 := 2#32
  let v296_r0 : BitVec 32 := Scalar.remui arg23_r0 c2_i32_243_r0
  let v464_r0 : Index := Scalar.indexCast v296_r0
  let c0_326_r0 : Index := 0#32
  let c0_327_r0 : Index := 0#32
  ![v464_r0.toNat, 0, 0]

def k0_chk2 (arg12_r0 : BitVec 32) (arg21_r0 : BitVec 32) (arg23_r0 : BitVec 32) (v297_r0 : BitVec 32) : Prop :=
  (∀ (k0_h14 : k0_cond14 v297_r0 = 1#1), ∀ a, (k0_off39 arg12_r0) a + S1x512x2048.size a ≤ S2x512x2048.size a) ∧
  (∀ (k0_h14 : k0_cond14 v297_r0 = 1#1), ∀ a, (k0_off40 arg21_r0) a + S1x512x2048.size a ≤ S2x512x2048.size a) ∧
  (∀ (k0_h15 : k0_cond15 v297_r0 = 1#1), ∀ a, (k0_off45 arg12_r0) a + S1x512x2048.size a ≤ S2x512x2048.size a) ∧
  (∀ (k0_h15 : k0_cond15 v297_r0 = 1#1), ∀ a, (k0_off46 arg21_r0) a + S1x512x2048.size a ≤ S2x512x2048.size a) ∧
  (∀ (k0_h15 : k0_cond15 v297_r0 = 1#1), ∀ a, (k0_off47 arg23_r0) a + S1x512x2048.size a ≤ S2x512x2048.size a) ∧
  (∀ (k0_h15 : k0_cond15 v297_r0 = 1#1), ∀ (hinb : ∀ a, (k0_off47 arg23_r0) a + S1x512x2048.size a ≤ S2x512x2048.size a), (Rect.unit (s := S2x512x2048) (k0_off47 arg23_r0) S1x512x2048.size hinb).PackedRows (EltTy.packing .bf16))
theorem k0_off39_inb : ∀ (arg12_r0 : BitVec 32) (arg21_r0 : BitVec 32) (arg23_r0 : BitVec 32) (v297_r0 : BitVec 32) (k0_hw2 : k0_chk2 arg12_r0 arg21_r0 arg23_r0 v297_r0), ∀ (k0_h14 : k0_cond14 v297_r0 = 1#1), ∀ a, (k0_off39 arg12_r0) a + S1x512x2048.size a ≤ S2x512x2048.size a := fun arg12_r0 arg21_r0 arg23_r0 v297_r0 k0_hw2 k0_h14 => k0_hw2.1 k0_h14
theorem k0_off40_inb : ∀ (arg12_r0 : BitVec 32) (arg21_r0 : BitVec 32) (arg23_r0 : BitVec 32) (v297_r0 : BitVec 32) (k0_hw2 : k0_chk2 arg12_r0 arg21_r0 arg23_r0 v297_r0), ∀ (k0_h14 : k0_cond14 v297_r0 = 1#1), ∀ a, (k0_off40 arg21_r0) a + S1x512x2048.size a ≤ S2x512x2048.size a := fun arg12_r0 arg21_r0 arg23_r0 v297_r0 k0_hw2 k0_h14 => k0_hw2.2.1 k0_h14
theorem k0_off45_inb : ∀ (arg12_r0 : BitVec 32) (arg21_r0 : BitVec 32) (arg23_r0 : BitVec 32) (v297_r0 : BitVec 32) (k0_hw2 : k0_chk2 arg12_r0 arg21_r0 arg23_r0 v297_r0), ∀ (k0_h15 : k0_cond15 v297_r0 = 1#1), ∀ a, (k0_off45 arg12_r0) a + S1x512x2048.size a ≤ S2x512x2048.size a := fun arg12_r0 arg21_r0 arg23_r0 v297_r0 k0_hw2 k0_h15 => k0_hw2.2.2.1 k0_h15
theorem k0_off46_inb : ∀ (arg12_r0 : BitVec 32) (arg21_r0 : BitVec 32) (arg23_r0 : BitVec 32) (v297_r0 : BitVec 32) (k0_hw2 : k0_chk2 arg12_r0 arg21_r0 arg23_r0 v297_r0), ∀ (k0_h15 : k0_cond15 v297_r0 = 1#1), ∀ a, (k0_off46 arg21_r0) a + S1x512x2048.size a ≤ S2x512x2048.size a := fun arg12_r0 arg21_r0 arg23_r0 v297_r0 k0_hw2 k0_h15 => k0_hw2.2.2.2.1 k0_h15
theorem k0_off47_inb : ∀ (arg12_r0 : BitVec 32) (arg21_r0 : BitVec 32) (arg23_r0 : BitVec 32) (v297_r0 : BitVec 32) (k0_hw2 : k0_chk2 arg12_r0 arg21_r0 arg23_r0 v297_r0), ∀ (k0_h15 : k0_cond15 v297_r0 = 1#1), ∀ a, (k0_off47 arg23_r0) a + S1x512x2048.size a ≤ S2x512x2048.size a := fun arg12_r0 arg21_r0 arg23_r0 v297_r0 k0_hw2 k0_h15 => k0_hw2.2.2.2.2.1 k0_h15
theorem k0_off47_packedbf16 : ∀ (arg12_r0 : BitVec 32) (arg21_r0 : BitVec 32) (arg23_r0 : BitVec 32) (v297_r0 : BitVec 32) (k0_hw2 : k0_chk2 arg12_r0 arg21_r0 arg23_r0 v297_r0), ∀ (k0_h15 : k0_cond15 v297_r0 = 1#1), (Rect.unit (s := S2x512x2048) (k0_off47 arg23_r0) S1x512x2048.size (k0_off47_inb arg12_r0 arg21_r0 arg23_r0 v297_r0 k0_hw2 k0_h15)).PackedRows (EltTy.packing .bf16) := fun arg12_r0 arg21_r0 arg23_r0 v297_r0 k0_hw2 k0_h15 => k0_hw2.2.2.2.2.2 k0_h15 (k0_off47_inb arg12_r0 arg21_r0 arg23_r0 v297_r0 k0_hw2 k0_h15)

def k0_off48 (arg21_r0 : BitVec 32) : Fin 1 → Nat :=
  let c2_i32_314_r0 : BitVec 32 := 2#32
  let v436_r0 : BitVec 32 := Scalar.remui arg21_r0 c2_i32_314_r0
  ![v436_r0.toNat]
def k0_cond20 (k0_t1 : Fin k0_t1_loop.trips) (arg25_r0 : BitVec 32) (arg26_r0 : BitVec 32) : BitVec 1 :=
  let c0_i32_157_r0 : BitVec 32 := 0#32
  let v161_r0 : BitVec 32 := Scalar.addi arg25_r0 c0_i32_157_r0
  let true_169_r0 : BitVec 1 := 1#1
  let c1_i32_168_r0 : BitVec 32 := 1#32
  let v173_r0 : BitVec 32 := Scalar.addi arg26_r0 c1_i32_168_r0
  let v174_r0 : BitVec 32 := Scalar.select true_169_r0 v173_r0 arg26_r0
  let c11_i32_170_r0 : BitVec 32 := 11#32
  let v175_r0 : BitVec 1 := Scalar.cmpi .eq v174_r0 c11_i32_170_r0
  let c1_i32_172_r0 : BitVec 32 := 1#32
  let v177_r0 : BitVec 32 := Scalar.addi arg25_r0 c1_i32_172_r0
  let v178_r0 : BitVec 32 := Scalar.select v175_r0 v177_r0 arg25_r0
  let c64_i32_173_r0 : BitVec 32 := 64#32
  let v179_r0 : BitVec 1 := Scalar.cmpi .eq v178_r0 c64_i32_173_r0
  let c0_i32_174_r0 : BitVec 32 := 0#32
  let v180_r0 : BitVec 32 := Scalar.select v179_r0 c0_i32_174_r0 v178_r0
  let c0_i32_175_r0 : BitVec 32 := 0#32
  let v181_r0 : BitVec 32 := Scalar.addi v180_r0 c0_i32_175_r0
  let v352_r0 : BitVec 1 := Scalar.cmpi .ne v161_r0 v181_r0
  let c0_i32_99_r0 : BitVec 32 := 0#32
  let c1_i32_100_r0 : BitVec 32 := 1#32
  let arg10_r0 : BitVec 32 := Scf.iv c0_i32_99_r0 c1_i32_100_r0 k0_t1
  let c703_i32_r0 : BitVec 32 := 703#32
  let v160_r0 : BitVec 1 := Scalar.cmpi .eq arg10_r0 c703_i32_r0
  let v353_r0 : BitVec 1 := Scalar.ori v352_r0 v160_r0
  let v354_r0 : BitVec 32 := Scalar.extui v353_r0
  let c0_i32_273_r0 : BitVec 32 := 0#32
  let v355_r0 : BitVec 1 := Scalar.cmpi .ne v354_r0 c0_i32_273_r0
  v355_r0

def k0_off49 (arg25_r0 : BitVec 32) : Fin 2 → Nat :=
  let c512_i32_315_r0 : BitVec 32 := 512#32
  let c0_i32_157_r0 : BitVec 32 := 0#32
  let v161_r0 : BitVec 32 := Scalar.addi arg25_r0 c0_i32_157_r0
  let v437_r0 : BitVec 32 := Scalar.muli c512_i32_315_r0 v161_r0
  let c0_i32_316_r0 : BitVec 32 := 0#32
  ![v437_r0.toNat, 0]
def k0_off50 (arg21_r0 : BitVec 32) : Fin 3 → Nat :=
  let c2_i32_314_r0 : BitVec 32 := 2#32
  let v436_r0 : BitVec 32 := Scalar.remui arg21_r0 c2_i32_314_r0
  let c0_i32_317_r0 : BitVec 32 := 0#32
  let c0_i32_318_r0 : BitVec 32 := 0#32
  ![v436_r0.toNat, 0, 0]
def k0_off51 (arg23_r0 : BitVec 32) : Fin 1 → Nat :=
  let c2_i32_314_r0 : BitVec 32 := 2#32
  let v436_r0 : BitVec 32 := Scalar.remui arg23_r0 c2_i32_314_r0
  ![v436_r0.toNat]
def k0_cond21 (k0_t1 : Fin k0_t1_loop.trips) (arg25_r0 : BitVec 32) (arg26_r0 : BitVec 32) : BitVec 1 :=
  let c0_i32_157_r0 : BitVec 32 := 0#32
  let v161_r0 : BitVec 32 := Scalar.addi arg25_r0 c0_i32_157_r0
  let true_169_r0 : BitVec 1 := 1#1
  let c1_i32_168_r0 : BitVec 32 := 1#32
  let v173_r0 : BitVec 32 := Scalar.addi arg26_r0 c1_i32_168_r0
  let v174_r0 : BitVec 32 := Scalar.select true_169_r0 v173_r0 arg26_r0
  let c11_i32_170_r0 : BitVec 32 := 11#32
  let v175_r0 : BitVec 1 := Scalar.cmpi .eq v174_r0 c11_i32_170_r0
  let c1_i32_172_r0 : BitVec 32 := 1#32
  let v177_r0 : BitVec 32 := Scalar.addi arg25_r0 c1_i32_172_r0
  let v178_r0 : BitVec 32 := Scalar.select v175_r0 v177_r0 arg25_r0
  let c64_i32_173_r0 : BitVec 32 := 64#32
  let v179_r0 : BitVec 1 := Scalar.cmpi .eq v178_r0 c64_i32_173_r0
  let c0_i32_174_r0 : BitVec 32 := 0#32
  let v180_r0 : BitVec 32 := Scalar.select v179_r0 c0_i32_174_r0 v178_r0
  let c0_i32_175_r0 : BitVec 32 := 0#32
  let v181_r0 : BitVec 32 := Scalar.addi v180_r0 c0_i32_175_r0
  let v359_r0 : BitVec 1 := Scalar.cmpi .ne v161_r0 v181_r0
  let c0_i32_99_r0 : BitVec 32 := 0#32
  let c1_i32_100_r0 : BitVec 32 := 1#32
  let arg10_r0 : BitVec 32 := Scf.iv c0_i32_99_r0 c1_i32_100_r0 k0_t1
  let c703_i32_r0 : BitVec 32 := 703#32
  let v160_r0 : BitVec 1 := Scalar.cmpi .eq arg10_r0 c703_i32_r0
  let v360_r0 : BitVec 1 := Scalar.ori v359_r0 v160_r0
  let v361_r0 : BitVec 32 := Scalar.extui v360_r0
  let c0_i32_276_r0 : BitVec 32 := 0#32
  let v362_r0 : BitVec 1 := Scalar.cmpi .ne v361_r0 c0_i32_276_r0
  v362_r0

def k0_off52 (arg25_r0 : BitVec 32) : Fin 2 → Nat :=
  let c512_i32_315_r0 : BitVec 32 := 512#32
  let c0_i32_157_r0 : BitVec 32 := 0#32
  let v161_r0 : BitVec 32 := Scalar.addi arg25_r0 c0_i32_157_r0
  let v437_r0 : BitVec 32 := Scalar.muli c512_i32_315_r0 v161_r0
  let c0_i32_316_r0 : BitVec 32 := 0#32
  ![v437_r0.toNat, 0]
def k0_off53 (arg23_r0 : BitVec 32) : Fin 3 → Nat :=
  let c2_i32_314_r0 : BitVec 32 := 2#32
  let v436_r0 : BitVec 32 := Scalar.remui arg23_r0 c2_i32_314_r0
  let c0_i32_317_r0 : BitVec 32 := 0#32
  let c0_i32_318_r0 : BitVec 32 := 0#32
  ![v436_r0.toNat, 0, 0]
def k0_off54 (arg22_r0 : BitVec 32) : Fin 1 → Nat :=
  let c2_i32_314_r0 : BitVec 32 := 2#32
  let v436_r0 : BitVec 32 := Scalar.remui arg22_r0 c2_i32_314_r0
  ![v436_r0.toNat]
def k0_cond26 (k0_t1 : Fin k0_t1_loop.trips) (arg25_r0 : BitVec 32) (arg26_r0 : BitVec 32) : BitVec 1 :=
  let c0_i32_157_r0 : BitVec 32 := 0#32
  let v161_r0 : BitVec 32 := Scalar.addi arg25_r0 c0_i32_157_r0
  let true_160_r0 : BitVec 1 := 1#1
  let c1_i32_159_r0 : BitVec 32 := 1#32
  let v163_r0 : BitVec 32 := Scalar.subi arg26_r0 c1_i32_159_r0
  let v164_r0 : BitVec 32 := Scalar.select true_160_r0 v163_r0 arg26_r0
  let c_m1_i32_161_r0 : BitVec 32 := 4294967295#32
  let v165_r0 : BitVec 1 := Scalar.cmpi .eq v164_r0 c_m1_i32_161_r0
  let c1_i32_163_r0 : BitVec 32 := 1#32
  let v167_r0 : BitVec 32 := Scalar.subi arg25_r0 c1_i32_163_r0
  let v168_r0 : BitVec 32 := Scalar.select v165_r0 v167_r0 arg25_r0
  let c_m1_i32_164_r0 : BitVec 32 := 4294967295#32
  let v169_r0 : BitVec 1 := Scalar.cmpi .eq v168_r0 c_m1_i32_164_r0
  let c63_i32_165_r0 : BitVec 32 := 63#32
  let v170_r0 : BitVec 32 := Scalar.select v169_r0 c63_i32_165_r0 v168_r0
  let c0_i32_166_r0 : BitVec 32 := 0#32
  let v171_r0 : BitVec 32 := Scalar.addi v170_r0 c0_i32_166_r0
  let v390_r0 : BitVec 1 := Scalar.cmpi .ne v161_r0 v171_r0
  let c0_i32_99_r0 : BitVec 32 := 0#32
  let c1_i32_100_r0 : BitVec 32 := 1#32
  let arg10_r0 : BitVec 32 := Scf.iv c0_i32_99_r0 c1_i32_100_r0 k0_t1
  let c0_i32_156_r0 : BitVec 32 := 0#32
  let v159_r0 : BitVec 1 := Scalar.cmpi .eq arg10_r0 c0_i32_156_r0
  let true_291_r0 : BitVec 1 := 1#1
  let v391_r0 : BitVec 1 := Scalar.xori v159_r0 true_291_r0
  let v392_r0 : BitVec 1 := Scalar.andi v390_r0 v391_r0
  let v393_r0 : BitVec 32 := Scalar.extui v392_r0
  let c0_i32_292_r0 : BitVec 32 := 0#32
  let v394_r0 : BitVec 1 := Scalar.cmpi .ne v393_r0 c0_i32_292_r0
  v394_r0

def k0_off55 (arg25_r0 : BitVec 32) (arg26_r0 : BitVec 32) : Fin 2 → Nat :=
  let c512_i32_315_r0 : BitVec 32 := 512#32
  let true_160_r0 : BitVec 1 := 1#1
  let c1_i32_159_r0 : BitVec 32 := 1#32
  let v163_r0 : BitVec 32 := Scalar.subi arg26_r0 c1_i32_159_r0
  let v164_r0 : BitVec 32 := Scalar.select true_160_r0 v163_r0 arg26_r0
  let c_m1_i32_161_r0 : BitVec 32 := 4294967295#32
  let v165_r0 : BitVec 1 := Scalar.cmpi .eq v164_r0 c_m1_i32_161_r0
  let c1_i32_163_r0 : BitVec 32 := 1#32
  let v167_r0 : BitVec 32 := Scalar.subi arg25_r0 c1_i32_163_r0
  let v168_r0 : BitVec 32 := Scalar.select v165_r0 v167_r0 arg25_r0
  let c_m1_i32_164_r0 : BitVec 32 := 4294967295#32
  let v169_r0 : BitVec 1 := Scalar.cmpi .eq v168_r0 c_m1_i32_164_r0
  let c63_i32_165_r0 : BitVec 32 := 63#32
  let v170_r0 : BitVec 32 := Scalar.select v169_r0 c63_i32_165_r0 v168_r0
  let c0_i32_166_r0 : BitVec 32 := 0#32
  let v171_r0 : BitVec 32 := Scalar.addi v170_r0 c0_i32_166_r0
  let v437_r0 : BitVec 32 := Scalar.muli c512_i32_315_r0 v171_r0
  let c0_i32_316_r0 : BitVec 32 := 0#32
  ![v437_r0.toNat, 0]
def k0_off56 (arg22_r0 : BitVec 32) : Fin 3 → Nat :=
  let c2_i32_314_r0 : BitVec 32 := 2#32
  let v436_r0 : BitVec 32 := Scalar.remui arg22_r0 c2_i32_314_r0
  let c0_i32_317_r0 : BitVec 32 := 0#32
  let c0_i32_318_r0 : BitVec 32 := 0#32
  ![v436_r0.toNat, 0, 0]
def k0_off57 (arg24_r0 : BitVec 32) : Fin 1 → Nat :=
  let c2_i32_314_r0 : BitVec 32 := 2#32
  let v436_r0 : BitVec 32 := Scalar.remui arg24_r0 c2_i32_314_r0
  ![v436_r0.toNat]
def k0_cond27 (k0_t1 : Fin k0_t1_loop.trips) (arg25_r0 : BitVec 32) (arg26_r0 : BitVec 32) : BitVec 1 :=
  let c0_i32_157_r0 : BitVec 32 := 0#32
  let v161_r0 : BitVec 32 := Scalar.addi arg25_r0 c0_i32_157_r0
  let true_160_r0 : BitVec 1 := 1#1
  let c1_i32_159_r0 : BitVec 32 := 1#32
  let v163_r0 : BitVec 32 := Scalar.subi arg26_r0 c1_i32_159_r0
  let v164_r0 : BitVec 32 := Scalar.select true_160_r0 v163_r0 arg26_r0
  let c_m1_i32_161_r0 : BitVec 32 := 4294967295#32
  let v165_r0 : BitVec 1 := Scalar.cmpi .eq v164_r0 c_m1_i32_161_r0
  let c1_i32_163_r0 : BitVec 32 := 1#32
  let v167_r0 : BitVec 32 := Scalar.subi arg25_r0 c1_i32_163_r0
  let v168_r0 : BitVec 32 := Scalar.select v165_r0 v167_r0 arg25_r0
  let c_m1_i32_164_r0 : BitVec 32 := 4294967295#32
  let v169_r0 : BitVec 1 := Scalar.cmpi .eq v168_r0 c_m1_i32_164_r0
  let c63_i32_165_r0 : BitVec 32 := 63#32
  let v170_r0 : BitVec 32 := Scalar.select v169_r0 c63_i32_165_r0 v168_r0
  let c0_i32_166_r0 : BitVec 32 := 0#32
  let v171_r0 : BitVec 32 := Scalar.addi v170_r0 c0_i32_166_r0
  let v398_r0 : BitVec 1 := Scalar.cmpi .ne v161_r0 v171_r0
  let c0_i32_99_r0 : BitVec 32 := 0#32
  let c1_i32_100_r0 : BitVec 32 := 1#32
  let arg10_r0 : BitVec 32 := Scf.iv c0_i32_99_r0 c1_i32_100_r0 k0_t1
  let c0_i32_156_r0 : BitVec 32 := 0#32
  let v159_r0 : BitVec 1 := Scalar.cmpi .eq arg10_r0 c0_i32_156_r0
  let true_295_r0 : BitVec 1 := 1#1
  let v399_r0 : BitVec 1 := Scalar.xori v159_r0 true_295_r0
  let v400_r0 : BitVec 1 := Scalar.andi v398_r0 v399_r0
  let v401_r0 : BitVec 32 := Scalar.extui v400_r0
  let c0_i32_296_r0 : BitVec 32 := 0#32
  let v402_r0 : BitVec 1 := Scalar.cmpi .ne v401_r0 c0_i32_296_r0
  v402_r0

def k0_off58 (arg25_r0 : BitVec 32) (arg26_r0 : BitVec 32) : Fin 2 → Nat :=
  let c512_i32_315_r0 : BitVec 32 := 512#32
  let true_160_r0 : BitVec 1 := 1#1
  let c1_i32_159_r0 : BitVec 32 := 1#32
  let v163_r0 : BitVec 32 := Scalar.subi arg26_r0 c1_i32_159_r0
  let v164_r0 : BitVec 32 := Scalar.select true_160_r0 v163_r0 arg26_r0
  let c_m1_i32_161_r0 : BitVec 32 := 4294967295#32
  let v165_r0 : BitVec 1 := Scalar.cmpi .eq v164_r0 c_m1_i32_161_r0
  let c1_i32_163_r0 : BitVec 32 := 1#32
  let v167_r0 : BitVec 32 := Scalar.subi arg25_r0 c1_i32_163_r0
  let v168_r0 : BitVec 32 := Scalar.select v165_r0 v167_r0 arg25_r0
  let c_m1_i32_164_r0 : BitVec 32 := 4294967295#32
  let v169_r0 : BitVec 1 := Scalar.cmpi .eq v168_r0 c_m1_i32_164_r0
  let c63_i32_165_r0 : BitVec 32 := 63#32
  let v170_r0 : BitVec 32 := Scalar.select v169_r0 c63_i32_165_r0 v168_r0
  let c0_i32_166_r0 : BitVec 32 := 0#32
  let v171_r0 : BitVec 32 := Scalar.addi v170_r0 c0_i32_166_r0
  let v437_r0 : BitVec 32 := Scalar.muli c512_i32_315_r0 v171_r0
  let c0_i32_316_r0 : BitVec 32 := 0#32
  ![v437_r0.toNat, 0]
def k0_off59 (arg24_r0 : BitVec 32) : Fin 3 → Nat :=
  let c2_i32_314_r0 : BitVec 32 := 2#32
  let v436_r0 : BitVec 32 := Scalar.remui arg24_r0 c2_i32_314_r0
  let c0_i32_317_r0 : BitVec 32 := 0#32
  let c0_i32_318_r0 : BitVec 32 := 0#32
  ![v436_r0.toNat, 0, 0]

def k0_chk1_0 (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) : Prop :=
  (∀ (k0_h4 : k0_cond4 k0_t1 arg25_r0 arg26_r0 = 1#1), ∀ a, (k0_off15 arg11_r0) a + S1.size a ≤ S2.size a) ∧
  (∀ (k0_h4 : k0_cond4 k0_t1 arg25_r0 arg26_r0 = 1#1), ∀ a, (k0_off16 arg11_r0) a + S1x512x2048.size a ≤ S2x512x2048.size a) ∧
  (∀ (k0_h4 : k0_cond4 k0_t1 arg25_r0 arg26_r0 = 1#1), ∀ a, (k0_off17 arg25_r0 arg26_r0) a + S512x2048.size a ≤ S32768x2048.size a) ∧
  (∀ (k0_h5 : k0_cond5 k0_t1 arg26_r0 = 1#1), ∀ a, (k0_off18 arg14_r0) a + S1.size a ≤ S3.size a) ∧
  (∀ (k0_h5 : k0_cond5 k0_t1 arg26_r0 = 1#1), ∀ a, (k0_off19 arg14_r0) a + S1x2048x512.size a ≤ S3x2048x512.size a) ∧
  (∀ (k0_h5 : k0_cond5 k0_t1 arg26_r0 = 1#1), ∀ a, (k0_off20 arg26_r0) a + S2048x512.size a ≤ S2048x11264.size a) ∧
  (∀ (k0_h5 : k0_cond5 k0_t1 arg26_r0 = 1#1), ∀ (hinb : ∀ a, (k0_off20 arg26_r0) a + S2048x512.size a ≤ S2048x11264.size a), (Rect.unit (s := S2048x11264) (k0_off20 arg26_r0) S2048x512.size hinb).WholeWords (EltTy.packing .bf16)) ∧
  (∀ (k0_h5 : k0_cond5 k0_t1 arg26_r0 = 1#1), ∀ (hinb : ∀ a, (k0_off19 arg14_r0) a + S1x2048x512.size a ≤ S3x2048x512.size a), (Rect.unit (s := S3x2048x512) (k0_off19 arg14_r0) S1x2048x512.size hinb).WholeWords (EltTy.packing .bf16)) ∧
  (∀ (k0_h6 : k0_cond6 k0_t1 arg26_r0 = 1#1), ∀ a, (k0_off21 arg16_r0) a + S1.size a ≤ S3.size a) ∧
  (∀ (k0_h6 : k0_cond6 k0_t1 arg26_r0 = 1#1), ∀ a, (k0_off22 arg16_r0) a + S1x2048x512.size a ≤ S3x2048x512.size a) ∧
  (∀ (k0_h6 : k0_cond6 k0_t1 arg26_r0 = 1#1), ∀ a, (k0_off23 arg26_r0) a + S2048x512.size a ≤ S2048x11264.size a) ∧
  (∀ (k0_h6 : k0_cond6 k0_t1 arg26_r0 = 1#1), ∀ (hinb : ∀ a, (k0_off23 arg26_r0) a + S2048x512.size a ≤ S2048x11264.size a), (Rect.unit (s := S2048x11264) (k0_off23 arg26_r0) S2048x512.size hinb).WholeWords (EltTy.packing .bf16)) ∧
  (∀ (k0_h6 : k0_cond6 k0_t1 arg26_r0 = 1#1), ∀ (hinb : ∀ a, (k0_off22 arg16_r0) a + S1x2048x512.size a ≤ S3x2048x512.size a), (Rect.unit (s := S3x2048x512) (k0_off22 arg16_r0) S1x2048x512.size hinb).WholeWords (EltTy.packing .bf16)) ∧
  (∀ (k0_h7 : k0_cond7 k0_t1 arg26_r0 = 1#1), ∀ a, (k0_off24 arg18_r0) a + S1.size a ≤ S3.size a) ∧
  (∀ (k0_h7 : k0_cond7 k0_t1 arg26_r0 = 1#1), ∀ a, (k0_off25 arg18_r0) a + S1x512x2048.size a ≤ S3x512x2048.size a) ∧
  (∀ (k0_h7 : k0_cond7 k0_t1 arg26_r0 = 1#1), ∀ a, (k0_off26 arg26_r0) a + S512x2048.size a ≤ S5632x2048.size a) ∧
  (∀ (k0_h7 : k0_cond7 k0_t1 arg26_r0 = 1#1), ∀ (hinb : ∀ a, (k0_off26 arg26_r0) a + S512x2048.size a ≤ S5632x2048.size a), (Rect.unit (s := S5632x2048) (k0_off26 arg26_r0) S512x2048.size hinb).WholeWords (EltTy.packing .bf16)) ∧
  (∀ (k0_h7 : k0_cond7 k0_t1 arg26_r0 = 1#1), ∀ (hinb : ∀ a, (k0_off25 arg18_r0) a + S1x512x2048.size a ≤ S3x512x2048.size a), (Rect.unit (s := S3x512x2048) (k0_off25 arg18_r0) S1x512x2048.size hinb).WholeWords (EltTy.packing .bf16)) ∧
  (∀ (k0_h8 : k0_cond8 k0_t1 arg25_r0 arg26_r0 = 1#1), ∀ a, (k0_off27 arg12_r0) a + S1.size a ≤ S2.size a) ∧
  (∀ (k0_h8 : k0_cond8 k0_t1 arg25_r0 arg26_r0 = 1#1), ∀ a, (k0_off28 arg12_r0) a + S1x512x2048.size a ≤ S2x512x2048.size a) ∧
  (∀ (k0_h8 : k0_cond8 k0_t1 arg25_r0 arg26_r0 = 1#1), ∀ a, (k0_off29 arg25_r0) a + S512x2048.size a ≤ S32768x2048.size a) ∧
  (∀ (k0_h9 : k0_cond9 k0_t1 arg26_r0 = 1#1), ∀ a, (k0_off30 arg15_r0) a + S1.size a ≤ S3.size a) ∧
  (∀ (k0_h9 : k0_cond9 k0_t1 arg26_r0 = 1#1), ∀ a, (k0_off31 arg15_r0) a + S1x2048x512.size a ≤ S3x2048x512.size a) ∧
  (∀ (k0_h9 : k0_cond9 k0_t1 arg26_r0 = 1#1), ∀ a, (k0_off32 arg26_r0) a + S2048x512.size a ≤ S2048x11264.size a) ∧
  (∀ (k0_h9 : k0_cond9 k0_t1 arg26_r0 = 1#1), ∀ (hinb : ∀ a, (k0_off32 arg26_r0) a + S2048x512.size a ≤ S2048x11264.size a), (Rect.unit (s := S2048x11264) (k0_off32 arg26_r0) S2048x512.size hinb).WholeWords (EltTy.packing .bf16)) ∧
  (∀ (k0_h9 : k0_cond9 k0_t1 arg26_r0 = 1#1), ∀ (hinb : ∀ a, (k0_off31 arg15_r0) a + S1x2048x512.size a ≤ S3x2048x512.size a), (Rect.unit (s := S3x2048x512) (k0_off31 arg15_r0) S1x2048x512.size hinb).WholeWords (EltTy.packing .bf16)) ∧
  (∀ (k0_h10 : k0_cond10 k0_t1 arg26_r0 = 1#1), ∀ a, (k0_off33 arg17_r0) a + S1.size a ≤ S3.size a) ∧
  (∀ (k0_h10 : k0_cond10 k0_t1 arg26_r0 = 1#1), ∀ a, (k0_off34 arg17_r0) a + S1x2048x512.size a ≤ S3x2048x512.size a) ∧
  (∀ (k0_h10 : k0_cond10 k0_t1 arg26_r0 = 1#1), ∀ a, (k0_off35 arg26_r0) a + S2048x512.size a ≤ S2048x11264.size a) ∧
  (∀ (k0_h10 : k0_cond10 k0_t1 arg26_r0 = 1#1), ∀ (hinb : ∀ a, (k0_off35 arg26_r0) a + S2048x512.size a ≤ S2048x11264.size a), (Rect.unit (s := S2048x11264) (k0_off35 arg26_r0) S2048x512.size hinb).WholeWords (EltTy.packing .bf16)) ∧
  (∀ (k0_h10 : k0_cond10 k0_t1 arg26_r0 = 1#1), ∀ (hinb : ∀ a, (k0_off34 arg17_r0) a + S1x2048x512.size a ≤ S3x2048x512.size a), (Rect.unit (s := S3x2048x512) (k0_off34 arg17_r0) S1x2048x512.size hinb).WholeWords (EltTy.packing .bf16)) ∧
  (∀ (k0_h11 : k0_cond11 k0_t1 arg26_r0 = 1#1), ∀ a, (k0_off36 arg19_r0) a + S1.size a ≤ S3.size a)
def k0_chk1_1 (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) : Prop :=
  (∀ (k0_h11 : k0_cond11 k0_t1 arg26_r0 = 1#1), ∀ a, (k0_off37 arg19_r0) a + S1x512x2048.size a ≤ S3x512x2048.size a) ∧
  (∀ (k0_h11 : k0_cond11 k0_t1 arg26_r0 = 1#1), ∀ a, (k0_off38 arg26_r0) a + S512x2048.size a ≤ S5632x2048.size a) ∧
  (∀ (k0_h11 : k0_cond11 k0_t1 arg26_r0 = 1#1), ∀ (hinb : ∀ a, (k0_off38 arg26_r0) a + S512x2048.size a ≤ S5632x2048.size a), (Rect.unit (s := S5632x2048) (k0_off38 arg26_r0) S512x2048.size hinb).WholeWords (EltTy.packing .bf16)) ∧
  (∀ (k0_h11 : k0_cond11 k0_t1 arg26_r0 = 1#1), ∀ (hinb : ∀ a, (k0_off37 arg19_r0) a + S1x512x2048.size a ≤ S3x512x2048.size a), (Rect.unit (s := S3x512x2048) (k0_off37 arg19_r0) S1x512x2048.size hinb).WholeWords (EltTy.packing .bf16)) ∧
  (∀ (k0_h20 : k0_cond20 k0_t1 arg25_r0 arg26_r0 = 1#1), ∀ a, (k0_off48 arg21_r0) a + S1.size a ≤ S2.size a) ∧
  (∀ (k0_h20 : k0_cond20 k0_t1 arg25_r0 arg26_r0 = 1#1), ∀ a, (k0_off49 arg25_r0) a + S512x2048.size a ≤ S32768x2048.size a) ∧
  (∀ (k0_h20 : k0_cond20 k0_t1 arg25_r0 arg26_r0 = 1#1), ∀ a, (k0_off50 arg21_r0) a + S1x512x2048.size a ≤ S2x512x2048.size a) ∧
  (∀ (k0_h21 : k0_cond21 k0_t1 arg25_r0 arg26_r0 = 1#1), ∀ a, (k0_off51 arg23_r0) a + S1.size a ≤ S2.size a) ∧
  (∀ (k0_h21 : k0_cond21 k0_t1 arg25_r0 arg26_r0 = 1#1), ∀ a, (k0_off52 arg25_r0) a + S512x2048.size a ≤ S32768x2048.size a) ∧
  (∀ (k0_h21 : k0_cond21 k0_t1 arg25_r0 arg26_r0 = 1#1), ∀ a, (k0_off53 arg23_r0) a + S1x512x2048.size a ≤ S2x512x2048.size a) ∧
  (∀ (k0_h21 : k0_cond21 k0_t1 arg25_r0 arg26_r0 = 1#1), ∀ (hinb : ∀ a, (k0_off53 arg23_r0) a + S1x512x2048.size a ≤ S2x512x2048.size a), (Rect.unit (s := S2x512x2048) (k0_off53 arg23_r0) S1x512x2048.size hinb).WholeWords (EltTy.packing .bf16)) ∧
  (∀ (k0_h21 : k0_cond21 k0_t1 arg25_r0 arg26_r0 = 1#1), ∀ (hinb : ∀ a, (k0_off52 arg25_r0) a + S512x2048.size a ≤ S32768x2048.size a), (Rect.unit (s := S32768x2048) (k0_off52 arg25_r0) S512x2048.size hinb).WholeWords (EltTy.packing .bf16)) ∧
  (∀ (k0_h26 : k0_cond26 k0_t1 arg25_r0 arg26_r0 = 1#1), ∀ a, (k0_off54 arg22_r0) a + S1.size a ≤ S2.size a) ∧
  (∀ (k0_h26 : k0_cond26 k0_t1 arg25_r0 arg26_r0 = 1#1), ∀ a, (k0_off55 arg25_r0 arg26_r0) a + S512x2048.size a ≤ S32768x2048.size a) ∧
  (∀ (k0_h26 : k0_cond26 k0_t1 arg25_r0 arg26_r0 = 1#1), ∀ a, (k0_off56 arg22_r0) a + S1x512x2048.size a ≤ S2x512x2048.size a) ∧
  (∀ (k0_h27 : k0_cond27 k0_t1 arg25_r0 arg26_r0 = 1#1), ∀ a, (k0_off57 arg24_r0) a + S1.size a ≤ S2.size a) ∧
  (∀ (k0_h27 : k0_cond27 k0_t1 arg25_r0 arg26_r0 = 1#1), ∀ a, (k0_off58 arg25_r0 arg26_r0) a + S512x2048.size a ≤ S32768x2048.size a) ∧
  (∀ (k0_h27 : k0_cond27 k0_t1 arg25_r0 arg26_r0 = 1#1), ∀ a, (k0_off59 arg24_r0) a + S1x512x2048.size a ≤ S2x512x2048.size a) ∧
  (∀ (k0_h27 : k0_cond27 k0_t1 arg25_r0 arg26_r0 = 1#1), ∀ (hinb : ∀ a, (k0_off59 arg24_r0) a + S1x512x2048.size a ≤ S2x512x2048.size a), (Rect.unit (s := S2x512x2048) (k0_off59 arg24_r0) S1x512x2048.size hinb).WholeWords (EltTy.packing .bf16)) ∧
  (∀ (k0_h27 : k0_cond27 k0_t1 arg25_r0 arg26_r0 = 1#1), ∀ (hinb : ∀ a, (k0_off58 arg25_r0 arg26_r0) a + S512x2048.size a ≤ S32768x2048.size a), (Rect.unit (s := S32768x2048) (k0_off58 arg25_r0 arg26_r0) S512x2048.size hinb).WholeWords (EltTy.packing .bf16))
def k0_chk1 (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) : Prop :=
  k0_chk1_0 k0_t1 arg11_r0 arg12_r0 arg14_r0 arg15_r0 arg16_r0 arg17_r0 arg18_r0 arg19_r0 arg21_r0 arg22_r0 arg23_r0 arg24_r0 arg25_r0 arg26_r0 ∧
  k0_chk1_1 k0_t1 arg11_r0 arg12_r0 arg14_r0 arg15_r0 arg16_r0 arg17_r0 arg18_r0 arg19_r0 arg21_r0 arg22_r0 arg23_r0 arg24_r0 arg25_r0 arg26_r0
theorem k0_off15_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h4 : k0_cond4 k0_t1 arg25_r0 arg26_r0 = 1#1), ∀ a, (k0_off15 arg11_r0) a + S1.size a ≤ S2.size a := fun k0_t1 arg11_r0 arg12_r0 arg14_r0 arg15_r0 arg16_r0 arg17_r0 arg18_r0 arg19_r0 arg21_r0 arg22_r0 arg23_r0 arg24_r0 arg25_r0 arg26_r0 k0_hw1 k0_h4 => k0_hw1.1.1 k0_h4
theorem k0_off16_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h4 : k0_cond4 k0_t1 arg25_r0 arg26_r0 = 1#1), ∀ a, (k0_off16 arg11_r0) a + S1x512x2048.size a ≤ S2x512x2048.size a := fun k0_t1 arg11_r0 arg12_r0 arg14_r0 arg15_r0 arg16_r0 arg17_r0 arg18_r0 arg19_r0 arg21_r0 arg22_r0 arg23_r0 arg24_r0 arg25_r0 arg26_r0 k0_hw1 k0_h4 => k0_hw1.1.2.1 k0_h4
theorem k0_off17_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h4 : k0_cond4 k0_t1 arg25_r0 arg26_r0 = 1#1), ∀ a, (k0_off17 arg25_r0 arg26_r0) a + S512x2048.size a ≤ S32768x2048.size a := fun k0_t1 arg11_r0 arg12_r0 arg14_r0 arg15_r0 arg16_r0 arg17_r0 arg18_r0 arg19_r0 arg21_r0 arg22_r0 arg23_r0 arg24_r0 arg25_r0 arg26_r0 k0_hw1 k0_h4 => k0_hw1.1.2.2.1 k0_h4
theorem k0_off18_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h5 : k0_cond5 k0_t1 arg26_r0 = 1#1), ∀ a, (k0_off18 arg14_r0) a + S1.size a ≤ S3.size a := fun k0_t1 arg11_r0 arg12_r0 arg14_r0 arg15_r0 arg16_r0 arg17_r0 arg18_r0 arg19_r0 arg21_r0 arg22_r0 arg23_r0 arg24_r0 arg25_r0 arg26_r0 k0_hw1 k0_h5 => k0_hw1.1.2.2.2.1 k0_h5
theorem k0_off19_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h5 : k0_cond5 k0_t1 arg26_r0 = 1#1), ∀ a, (k0_off19 arg14_r0) a + S1x2048x512.size a ≤ S3x2048x512.size a := fun k0_t1 arg11_r0 arg12_r0 arg14_r0 arg15_r0 arg16_r0 arg17_r0 arg18_r0 arg19_r0 arg21_r0 arg22_r0 arg23_r0 arg24_r0 arg25_r0 arg26_r0 k0_hw1 k0_h5 => k0_hw1.1.2.2.2.2.1 k0_h5
theorem k0_off20_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h5 : k0_cond5 k0_t1 arg26_r0 = 1#1), ∀ a, (k0_off20 arg26_r0) a + S2048x512.size a ≤ S2048x11264.size a := fun k0_t1 arg11_r0 arg12_r0 arg14_r0 arg15_r0 arg16_r0 arg17_r0 arg18_r0 arg19_r0 arg21_r0 arg22_r0 arg23_r0 arg24_r0 arg25_r0 arg26_r0 k0_hw1 k0_h5 => k0_hw1.1.2.2.2.2.2.1 k0_h5
theorem k0_off20_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h5 : k0_cond5 k0_t1 arg26_r0 = 1#1), (Rect.unit (s := S2048x11264) (k0_off20 arg26_r0) S2048x512.size (k0_off20_inb k0_t1 arg11_r0 arg12_r0 arg14_r0 arg15_r0 arg16_r0 arg17_r0 arg18_r0 arg19_r0 arg21_r0 arg22_r0 arg23_r0 arg24_r0 arg25_r0 arg26_r0 k0_hw1 k0_h5)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h5 => k0_hw1.1.2.2.2.2.2.2.1 k0_h5 (k0_off20_inb k0_t1 arg11_r0 arg12_r0 arg14_r0 arg15_r0 arg16_r0 arg17_r0 arg18_r0 arg19_r0 arg21_r0 arg22_r0 arg23_r0 arg24_r0 arg25_r0 arg26_r0 k0_hw1 k0_h5)
theorem k0_off19_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h5 : k0_cond5 k0_t1 arg26_r0 = 1#1), (Rect.unit (s := S3x2048x512) (k0_off19 arg14_r0) S1x2048x512.size (k0_off19_inb k0_t1 arg11_r0 arg12_r0 arg14_r0 arg15_r0 arg16_r0 arg17_r0 arg18_r0 arg19_r0 arg21_r0 arg22_r0 arg23_r0 arg24_r0 arg25_r0 arg26_r0 k0_hw1 k0_h5)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h5 => k0_hw1.1.2.2.2.2.2.2.2.1 k0_h5 (k0_off19_inb k0_t1 arg11_r0 arg12_r0 arg14_r0 arg15_r0 arg16_r0 arg17_r0 arg18_r0 arg19_r0 arg21_r0 arg22_r0 arg23_r0 arg24_r0 arg25_r0 arg26_r0 k0_hw1 k0_h5)
theorem k0_off21_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h6 : k0_cond6 k0_t1 arg26_r0 = 1#1), ∀ a, (k0_off21 arg16_r0) a + S1.size a ≤ S3.size a := fun k0_t1 arg11_r0 arg12_r0 arg14_r0 arg15_r0 arg16_r0 arg17_r0 arg18_r0 arg19_r0 arg21_r0 arg22_r0 arg23_r0 arg24_r0 arg25_r0 arg26_r0 k0_hw1 k0_h6 => k0_hw1.1.2.2.2.2.2.2.2.2.1 k0_h6
theorem k0_off22_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h6 : k0_cond6 k0_t1 arg26_r0 = 1#1), ∀ a, (k0_off22 arg16_r0) a + S1x2048x512.size a ≤ S3x2048x512.size a := fun k0_t1 arg11_r0 arg12_r0 arg14_r0 arg15_r0 arg16_r0 arg17_r0 arg18_r0 arg19_r0 arg21_r0 arg22_r0 arg23_r0 arg24_r0 arg25_r0 arg26_r0 k0_hw1 k0_h6 => k0_hw1.1.2.2.2.2.2.2.2.2.2.1 k0_h6
theorem k0_off23_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h6 : k0_cond6 k0_t1 arg26_r0 = 1#1), ∀ a, (k0_off23 arg26_r0) a + S2048x512.size a ≤ S2048x11264.size a := fun k0_t1 arg11_r0 arg12_r0 arg14_r0 arg15_r0 arg16_r0 arg17_r0 arg18_r0 arg19_r0 arg21_r0 arg22_r0 arg23_r0 arg24_r0 arg25_r0 arg26_r0 k0_hw1 k0_h6 => k0_hw1.1.2.2.2.2.2.2.2.2.2.2.1 k0_h6
theorem k0_off23_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h6 : k0_cond6 k0_t1 arg26_r0 = 1#1), (Rect.unit (s := S2048x11264) (k0_off23 arg26_r0) S2048x512.size (k0_off23_inb k0_t1 arg11_r0 arg12_r0 arg14_r0 arg15_r0 arg16_r0 arg17_r0 arg18_r0 arg19_r0 arg21_r0 arg22_r0 arg23_r0 arg24_r0 arg25_r0 arg26_r0 k0_hw1 k0_h6)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h6 => k0_hw1.1.2.2.2.2.2.2.2.2.2.2.2.1 k0_h6 (k0_off23_inb k0_t1 arg11_r0 arg12_r0 arg14_r0 arg15_r0 arg16_r0 arg17_r0 arg18_r0 arg19_r0 arg21_r0 arg22_r0 arg23_r0 arg24_r0 arg25_r0 arg26_r0 k0_hw1 k0_h6)
theorem k0_off22_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h6 : k0_cond6 k0_t1 arg26_r0 = 1#1), (Rect.unit (s := S3x2048x512) (k0_off22 arg16_r0) S1x2048x512.size (k0_off22_inb k0_t1 arg11_r0 arg12_r0 arg14_r0 arg15_r0 arg16_r0 arg17_r0 arg18_r0 arg19_r0 arg21_r0 arg22_r0 arg23_r0 arg24_r0 arg25_r0 arg26_r0 k0_hw1 k0_h6)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h6 => k0_hw1.1.2.2.2.2.2.2.2.2.2.2.2.2.1 k0_h6 (k0_off22_inb k0_t1 arg11_r0 arg12_r0 arg14_r0 arg15_r0 arg16_r0 arg17_r0 arg18_r0 arg19_r0 arg21_r0 arg22_r0 arg23_r0 arg24_r0 arg25_r0 arg26_r0 k0_hw1 k0_h6)
theorem k0_off24_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h7 : k0_cond7 k0_t1 arg26_r0 = 1#1), ∀ a, (k0_off24 arg18_r0) a + S1.size a ≤ S3.size a := fun k0_t1 arg11_r0 arg12_r0 arg14_r0 arg15_r0 arg16_r0 arg17_r0 arg18_r0 arg19_r0 arg21_r0 arg22_r0 arg23_r0 arg24_r0 arg25_r0 arg26_r0 k0_hw1 k0_h7 => k0_hw1.1.2.2.2.2.2.2.2.2.2.2.2.2.2.1 k0_h7
theorem k0_off25_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h7 : k0_cond7 k0_t1 arg26_r0 = 1#1), ∀ a, (k0_off25 arg18_r0) a + S1x512x2048.size a ≤ S3x512x2048.size a := fun k0_t1 arg11_r0 arg12_r0 arg14_r0 arg15_r0 arg16_r0 arg17_r0 arg18_r0 arg19_r0 arg21_r0 arg22_r0 arg23_r0 arg24_r0 arg25_r0 arg26_r0 k0_hw1 k0_h7 => k0_hw1.1.2.2.2.2.2.2.2.2.2.2.2.2.2.2.1 k0_h7
theorem k0_off26_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h7 : k0_cond7 k0_t1 arg26_r0 = 1#1), ∀ a, (k0_off26 arg26_r0) a + S512x2048.size a ≤ S5632x2048.size a := fun k0_t1 arg11_r0 arg12_r0 arg14_r0 arg15_r0 arg16_r0 arg17_r0 arg18_r0 arg19_r0 arg21_r0 arg22_r0 arg23_r0 arg24_r0 arg25_r0 arg26_r0 k0_hw1 k0_h7 => k0_hw1.1.2.2.2.2.2.2.2.2.2.2.2.2.2.2.2.1 k0_h7
theorem k0_off26_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h7 : k0_cond7 k0_t1 arg26_r0 = 1#1), (Rect.unit (s := S5632x2048) (k0_off26 arg26_r0) S512x2048.size (k0_off26_inb k0_t1 arg11_r0 arg12_r0 arg14_r0 arg15_r0 arg16_r0 arg17_r0 arg18_r0 arg19_r0 arg21_r0 arg22_r0 arg23_r0 arg24_r0 arg25_r0 arg26_r0 k0_hw1 k0_h7)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h7 => k0_hw1.1.2.2.2.2.2.2.2.2.2.2.2.2.2.2.2.2.1 k0_h7 (k0_off26_inb k0_t1 arg11_r0 arg12_r0 arg14_r0 arg15_r0 arg16_r0 arg17_r0 arg18_r0 arg19_r0 arg21_r0 arg22_r0 arg23_r0 arg24_r0 arg25_r0 arg26_r0 k0_hw1 k0_h7)
theorem k0_off25_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h7 : k0_cond7 k0_t1 arg26_r0 = 1#1), (Rect.unit (s := S3x512x2048) (k0_off25 arg18_r0) S1x512x2048.size (k0_off25_inb k0_t1 arg11_r0 arg12_r0 arg14_r0 arg15_r0 arg16_r0 arg17_r0 arg18_r0 arg19_r0 arg21_r0 arg22_r0 arg23_r0 arg24_r0 arg25_r0 arg26_r0 k0_hw1 k0_h7)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h7 => k0_hw1.1.2.2.2.2.2.2.2.2.2.2.2.2.2.2.2.2.2.1 k0_h7 (k0_off25_inb k0_t1 arg11_r0 arg12_r0 arg14_r0 arg15_r0 arg16_r0 arg17_r0 arg18_r0 arg19_r0 arg21_r0 arg22_r0 arg23_r0 arg24_r0 arg25_r0 arg26_r0 k0_hw1 k0_h7)
theorem k0_off27_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h8 : k0_cond8 k0_t1 arg25_r0 arg26_r0 = 1#1), ∀ a, (k0_off27 arg12_r0) a + S1.size a ≤ S2.size a := fun k0_t1 arg11_r0 arg12_r0 arg14_r0 arg15_r0 arg16_r0 arg17_r0 arg18_r0 arg19_r0 arg21_r0 arg22_r0 arg23_r0 arg24_r0 arg25_r0 arg26_r0 k0_hw1 k0_h8 => k0_hw1.1.2.2.2.2.2.2.2.2.2.2.2.2.2.2.2.2.2.2.1 k0_h8
theorem k0_off28_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h8 : k0_cond8 k0_t1 arg25_r0 arg26_r0 = 1#1), ∀ a, (k0_off28 arg12_r0) a + S1x512x2048.size a ≤ S2x512x2048.size a := fun k0_t1 arg11_r0 arg12_r0 arg14_r0 arg15_r0 arg16_r0 arg17_r0 arg18_r0 arg19_r0 arg21_r0 arg22_r0 arg23_r0 arg24_r0 arg25_r0 arg26_r0 k0_hw1 k0_h8 => k0_hw1.1.2.2.2.2.2.2.2.2.2.2.2.2.2.2.2.2.2.2.2.1 k0_h8
theorem k0_off29_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h8 : k0_cond8 k0_t1 arg25_r0 arg26_r0 = 1#1), ∀ a, (k0_off29 arg25_r0) a + S512x2048.size a ≤ S32768x2048.size a := fun k0_t1 arg11_r0 arg12_r0 arg14_r0 arg15_r0 arg16_r0 arg17_r0 arg18_r0 arg19_r0 arg21_r0 arg22_r0 arg23_r0 arg24_r0 arg25_r0 arg26_r0 k0_hw1 k0_h8 => k0_hw1.1.2.2.2.2.2.2.2.2.2.2.2.2.2.2.2.2.2.2.2.2.1 k0_h8
theorem k0_off30_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h9 : k0_cond9 k0_t1 arg26_r0 = 1#1), ∀ a, (k0_off30 arg15_r0) a + S1.size a ≤ S3.size a := fun k0_t1 arg11_r0 arg12_r0 arg14_r0 arg15_r0 arg16_r0 arg17_r0 arg18_r0 arg19_r0 arg21_r0 arg22_r0 arg23_r0 arg24_r0 arg25_r0 arg26_r0 k0_hw1 k0_h9 => k0_hw1.1.2.2.2.2.2.2.2.2.2.2.2.2.2.2.2.2.2.2.2.2.2.1 k0_h9
theorem k0_off31_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h9 : k0_cond9 k0_t1 arg26_r0 = 1#1), ∀ a, (k0_off31 arg15_r0) a + S1x2048x512.size a ≤ S3x2048x512.size a := fun k0_t1 arg11_r0 arg12_r0 arg14_r0 arg15_r0 arg16_r0 arg17_r0 arg18_r0 arg19_r0 arg21_r0 arg22_r0 arg23_r0 arg24_r0 arg25_r0 arg26_r0 k0_hw1 k0_h9 => k0_hw1.1.2.2.2.2.2.2.2.2.2.2.2.2.2.2.2.2.2.2.2.2.2.2.1 k0_h9
theorem k0_off32_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h9 : k0_cond9 k0_t1 arg26_r0 = 1#1), ∀ a, (k0_off32 arg26_r0) a + S2048x512.size a ≤ S2048x11264.size a := fun k0_t1 arg11_r0 arg12_r0 arg14_r0 arg15_r0 arg16_r0 arg17_r0 arg18_r0 arg19_r0 arg21_r0 arg22_r0 arg23_r0 arg24_r0 arg25_r0 arg26_r0 k0_hw1 k0_h9 => k0_hw1.1.2.2.2.2.2.2.2.2.2.2.2.2.2.2.2.2.2.2.2.2.2.2.2.1 k0_h9
theorem k0_off32_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h9 : k0_cond9 k0_t1 arg26_r0 = 1#1), (Rect.unit (s := S2048x11264) (k0_off32 arg26_r0) S2048x512.size (k0_off32_inb k0_t1 arg11_r0 arg12_r0 arg14_r0 arg15_r0 arg16_r0 arg17_r0 arg18_r0 arg19_r0 arg21_r0 arg22_r0 arg23_r0 arg24_r0 arg25_r0 arg26_r0 k0_hw1 k0_h9)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h9 => k0_hw1.1.2.2.2.2.2.2.2.2.2.2.2.2.2.2.2.2.2.2.2.2.2.2.2.2.1 k0_h9 (k0_off32_inb k0_t1 arg11_r0 arg12_r0 arg14_r0 arg15_r0 arg16_r0 arg17_r0 arg18_r0 arg19_r0 arg21_r0 arg22_r0 arg23_r0 arg24_r0 arg25_r0 arg26_r0 k0_hw1 k0_h9)
theorem k0_off31_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h9 : k0_cond9 k0_t1 arg26_r0 = 1#1), (Rect.unit (s := S3x2048x512) (k0_off31 arg15_r0) S1x2048x512.size (k0_off31_inb k0_t1 arg11_r0 arg12_r0 arg14_r0 arg15_r0 arg16_r0 arg17_r0 arg18_r0 arg19_r0 arg21_r0 arg22_r0 arg23_r0 arg24_r0 arg25_r0 arg26_r0 k0_hw1 k0_h9)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h9 => k0_hw1.1.2.2.2.2.2.2.2.2.2.2.2.2.2.2.2.2.2.2.2.2.2.2.2.2.2.1 k0_h9 (k0_off31_inb k0_t1 arg11_r0 arg12_r0 arg14_r0 arg15_r0 arg16_r0 arg17_r0 arg18_r0 arg19_r0 arg21_r0 arg22_r0 arg23_r0 arg24_r0 arg25_r0 arg26_r0 k0_hw1 k0_h9)
theorem k0_off33_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h10 : k0_cond10 k0_t1 arg26_r0 = 1#1), ∀ a, (k0_off33 arg17_r0) a + S1.size a ≤ S3.size a := fun k0_t1 arg11_r0 arg12_r0 arg14_r0 arg15_r0 arg16_r0 arg17_r0 arg18_r0 arg19_r0 arg21_r0 arg22_r0 arg23_r0 arg24_r0 arg25_r0 arg26_r0 k0_hw1 k0_h10 => k0_hw1.1.2.2.2.2.2.2.2.2.2.2.2.2.2.2.2.2.2.2.2.2.2.2.2.2.2.2.1 k0_h10
theorem k0_off34_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h10 : k0_cond10 k0_t1 arg26_r0 = 1#1), ∀ a, (k0_off34 arg17_r0) a + S1x2048x512.size a ≤ S3x2048x512.size a := fun k0_t1 arg11_r0 arg12_r0 arg14_r0 arg15_r0 arg16_r0 arg17_r0 arg18_r0 arg19_r0 arg21_r0 arg22_r0 arg23_r0 arg24_r0 arg25_r0 arg26_r0 k0_hw1 k0_h10 => k0_hw1.1.2.2.2.2.2.2.2.2.2.2.2.2.2.2.2.2.2.2.2.2.2.2.2.2.2.2.2.1 k0_h10
theorem k0_off35_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h10 : k0_cond10 k0_t1 arg26_r0 = 1#1), ∀ a, (k0_off35 arg26_r0) a + S2048x512.size a ≤ S2048x11264.size a := fun k0_t1 arg11_r0 arg12_r0 arg14_r0 arg15_r0 arg16_r0 arg17_r0 arg18_r0 arg19_r0 arg21_r0 arg22_r0 arg23_r0 arg24_r0 arg25_r0 arg26_r0 k0_hw1 k0_h10 => k0_hw1.1.2.2.2.2.2.2.2.2.2.2.2.2.2.2.2.2.2.2.2.2.2.2.2.2.2.2.2.2.1 k0_h10
theorem k0_off35_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h10 : k0_cond10 k0_t1 arg26_r0 = 1#1), (Rect.unit (s := S2048x11264) (k0_off35 arg26_r0) S2048x512.size (k0_off35_inb k0_t1 arg11_r0 arg12_r0 arg14_r0 arg15_r0 arg16_r0 arg17_r0 arg18_r0 arg19_r0 arg21_r0 arg22_r0 arg23_r0 arg24_r0 arg25_r0 arg26_r0 k0_hw1 k0_h10)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h10 => k0_hw1.1.2.2.2.2.2.2.2.2.2.2.2.2.2.2.2.2.2.2.2.2.2.2.2.2.2.2.2.2.2.1 k0_h10 (k0_off35_inb k0_t1 arg11_r0 arg12_r0 arg14_r0 arg15_r0 arg16_r0 arg17_r0 arg18_r0 arg19_r0 arg21_r0 arg22_r0 arg23_r0 arg24_r0 arg25_r0 arg26_r0 k0_hw1 k0_h10)
theorem k0_off34_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h10 : k0_cond10 k0_t1 arg26_r0 = 1#1), (Rect.unit (s := S3x2048x512) (k0_off34 arg17_r0) S1x2048x512.size (k0_off34_inb k0_t1 arg11_r0 arg12_r0 arg14_r0 arg15_r0 arg16_r0 arg17_r0 arg18_r0 arg19_r0 arg21_r0 arg22_r0 arg23_r0 arg24_r0 arg25_r0 arg26_r0 k0_hw1 k0_h10)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h10 => k0_hw1.1.2.2.2.2.2.2.2.2.2.2.2.2.2.2.2.2.2.2.2.2.2.2.2.2.2.2.2.2.2.2.1 k0_h10 (k0_off34_inb k0_t1 arg11_r0 arg12_r0 arg14_r0 arg15_r0 arg16_r0 arg17_r0 arg18_r0 arg19_r0 arg21_r0 arg22_r0 arg23_r0 arg24_r0 arg25_r0 arg26_r0 k0_hw1 k0_h10)
theorem k0_off36_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h11 : k0_cond11 k0_t1 arg26_r0 = 1#1), ∀ a, (k0_off36 arg19_r0) a + S1.size a ≤ S3.size a := fun k0_t1 arg11_r0 arg12_r0 arg14_r0 arg15_r0 arg16_r0 arg17_r0 arg18_r0 arg19_r0 arg21_r0 arg22_r0 arg23_r0 arg24_r0 arg25_r0 arg26_r0 k0_hw1 k0_h11 => k0_hw1.1.2.2.2.2.2.2.2.2.2.2.2.2.2.2.2.2.2.2.2.2.2.2.2.2.2.2.2.2.2.2.2 k0_h11
theorem k0_off37_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h11 : k0_cond11 k0_t1 arg26_r0 = 1#1), ∀ a, (k0_off37 arg19_r0) a + S1x512x2048.size a ≤ S3x512x2048.size a := fun k0_t1 arg11_r0 arg12_r0 arg14_r0 arg15_r0 arg16_r0 arg17_r0 arg18_r0 arg19_r0 arg21_r0 arg22_r0 arg23_r0 arg24_r0 arg25_r0 arg26_r0 k0_hw1 k0_h11 => k0_hw1.2.1 k0_h11
theorem k0_off38_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h11 : k0_cond11 k0_t1 arg26_r0 = 1#1), ∀ a, (k0_off38 arg26_r0) a + S512x2048.size a ≤ S5632x2048.size a := fun k0_t1 arg11_r0 arg12_r0 arg14_r0 arg15_r0 arg16_r0 arg17_r0 arg18_r0 arg19_r0 arg21_r0 arg22_r0 arg23_r0 arg24_r0 arg25_r0 arg26_r0 k0_hw1 k0_h11 => k0_hw1.2.2.1 k0_h11
theorem k0_off38_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h11 : k0_cond11 k0_t1 arg26_r0 = 1#1), (Rect.unit (s := S5632x2048) (k0_off38 arg26_r0) S512x2048.size (k0_off38_inb k0_t1 arg11_r0 arg12_r0 arg14_r0 arg15_r0 arg16_r0 arg17_r0 arg18_r0 arg19_r0 arg21_r0 arg22_r0 arg23_r0 arg24_r0 arg25_r0 arg26_r0 k0_hw1 k0_h11)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h11 => k0_hw1.2.2.2.1 k0_h11 (k0_off38_inb k0_t1 arg11_r0 arg12_r0 arg14_r0 arg15_r0 arg16_r0 arg17_r0 arg18_r0 arg19_r0 arg21_r0 arg22_r0 arg23_r0 arg24_r0 arg25_r0 arg26_r0 k0_hw1 k0_h11)
theorem k0_off37_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h11 : k0_cond11 k0_t1 arg26_r0 = 1#1), (Rect.unit (s := S3x512x2048) (k0_off37 arg19_r0) S1x512x2048.size (k0_off37_inb k0_t1 arg11_r0 arg12_r0 arg14_r0 arg15_r0 arg16_r0 arg17_r0 arg18_r0 arg19_r0 arg21_r0 arg22_r0 arg23_r0 arg24_r0 arg25_r0 arg26_r0 k0_hw1 k0_h11)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h11 => k0_hw1.2.2.2.2.1 k0_h11 (k0_off37_inb k0_t1 arg11_r0 arg12_r0 arg14_r0 arg15_r0 arg16_r0 arg17_r0 arg18_r0 arg19_r0 arg21_r0 arg22_r0 arg23_r0 arg24_r0 arg25_r0 arg26_r0 k0_hw1 k0_h11)
theorem k0_off48_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h20 : k0_cond20 k0_t1 arg25_r0 arg26_r0 = 1#1), ∀ a, (k0_off48 arg21_r0) a + S1.size a ≤ S2.size a := fun k0_t1 arg11_r0 arg12_r0 arg14_r0 arg15_r0 arg16_r0 arg17_r0 arg18_r0 arg19_r0 arg21_r0 arg22_r0 arg23_r0 arg24_r0 arg25_r0 arg26_r0 k0_hw1 k0_h20 => k0_hw1.2.2.2.2.2.1 k0_h20
theorem k0_off49_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h20 : k0_cond20 k0_t1 arg25_r0 arg26_r0 = 1#1), ∀ a, (k0_off49 arg25_r0) a + S512x2048.size a ≤ S32768x2048.size a := fun k0_t1 arg11_r0 arg12_r0 arg14_r0 arg15_r0 arg16_r0 arg17_r0 arg18_r0 arg19_r0 arg21_r0 arg22_r0 arg23_r0 arg24_r0 arg25_r0 arg26_r0 k0_hw1 k0_h20 => k0_hw1.2.2.2.2.2.2.1 k0_h20
theorem k0_off50_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h20 : k0_cond20 k0_t1 arg25_r0 arg26_r0 = 1#1), ∀ a, (k0_off50 arg21_r0) a + S1x512x2048.size a ≤ S2x512x2048.size a := fun k0_t1 arg11_r0 arg12_r0 arg14_r0 arg15_r0 arg16_r0 arg17_r0 arg18_r0 arg19_r0 arg21_r0 arg22_r0 arg23_r0 arg24_r0 arg25_r0 arg26_r0 k0_hw1 k0_h20 => k0_hw1.2.2.2.2.2.2.2.1 k0_h20
theorem k0_off51_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h21 : k0_cond21 k0_t1 arg25_r0 arg26_r0 = 1#1), ∀ a, (k0_off51 arg23_r0) a + S1.size a ≤ S2.size a := fun k0_t1 arg11_r0 arg12_r0 arg14_r0 arg15_r0 arg16_r0 arg17_r0 arg18_r0 arg19_r0 arg21_r0 arg22_r0 arg23_r0 arg24_r0 arg25_r0 arg26_r0 k0_hw1 k0_h21 => k0_hw1.2.2.2.2.2.2.2.2.1 k0_h21
theorem k0_off52_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h21 : k0_cond21 k0_t1 arg25_r0 arg26_r0 = 1#1), ∀ a, (k0_off52 arg25_r0) a + S512x2048.size a ≤ S32768x2048.size a := fun k0_t1 arg11_r0 arg12_r0 arg14_r0 arg15_r0 arg16_r0 arg17_r0 arg18_r0 arg19_r0 arg21_r0 arg22_r0 arg23_r0 arg24_r0 arg25_r0 arg26_r0 k0_hw1 k0_h21 => k0_hw1.2.2.2.2.2.2.2.2.2.1 k0_h21
theorem k0_off53_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h21 : k0_cond21 k0_t1 arg25_r0 arg26_r0 = 1#1), ∀ a, (k0_off53 arg23_r0) a + S1x512x2048.size a ≤ S2x512x2048.size a := fun k0_t1 arg11_r0 arg12_r0 arg14_r0 arg15_r0 arg16_r0 arg17_r0 arg18_r0 arg19_r0 arg21_r0 arg22_r0 arg23_r0 arg24_r0 arg25_r0 arg26_r0 k0_hw1 k0_h21 => k0_hw1.2.2.2.2.2.2.2.2.2.2.1 k0_h21
theorem k0_off53_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h21 : k0_cond21 k0_t1 arg25_r0 arg26_r0 = 1#1), (Rect.unit (s := S2x512x2048) (k0_off53 arg23_r0) S1x512x2048.size (k0_off53_inb k0_t1 arg11_r0 arg12_r0 arg14_r0 arg15_r0 arg16_r0 arg17_r0 arg18_r0 arg19_r0 arg21_r0 arg22_r0 arg23_r0 arg24_r0 arg25_r0 arg26_r0 k0_hw1 k0_h21)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h21 => k0_hw1.2.2.2.2.2.2.2.2.2.2.2.1 k0_h21 (k0_off53_inb k0_t1 arg11_r0 arg12_r0 arg14_r0 arg15_r0 arg16_r0 arg17_r0 arg18_r0 arg19_r0 arg21_r0 arg22_r0 arg23_r0 arg24_r0 arg25_r0 arg26_r0 k0_hw1 k0_h21)
theorem k0_off52_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h21 : k0_cond21 k0_t1 arg25_r0 arg26_r0 = 1#1), (Rect.unit (s := S32768x2048) (k0_off52 arg25_r0) S512x2048.size (k0_off52_inb k0_t1 arg11_r0 arg12_r0 arg14_r0 arg15_r0 arg16_r0 arg17_r0 arg18_r0 arg19_r0 arg21_r0 arg22_r0 arg23_r0 arg24_r0 arg25_r0 arg26_r0 k0_hw1 k0_h21)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h21 => k0_hw1.2.2.2.2.2.2.2.2.2.2.2.2.1 k0_h21 (k0_off52_inb k0_t1 arg11_r0 arg12_r0 arg14_r0 arg15_r0 arg16_r0 arg17_r0 arg18_r0 arg19_r0 arg21_r0 arg22_r0 arg23_r0 arg24_r0 arg25_r0 arg26_r0 k0_hw1 k0_h21)
theorem k0_off54_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h26 : k0_cond26 k0_t1 arg25_r0 arg26_r0 = 1#1), ∀ a, (k0_off54 arg22_r0) a + S1.size a ≤ S2.size a := fun k0_t1 arg11_r0 arg12_r0 arg14_r0 arg15_r0 arg16_r0 arg17_r0 arg18_r0 arg19_r0 arg21_r0 arg22_r0 arg23_r0 arg24_r0 arg25_r0 arg26_r0 k0_hw1 k0_h26 => k0_hw1.2.2.2.2.2.2.2.2.2.2.2.2.2.1 k0_h26
theorem k0_off55_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h26 : k0_cond26 k0_t1 arg25_r0 arg26_r0 = 1#1), ∀ a, (k0_off55 arg25_r0 arg26_r0) a + S512x2048.size a ≤ S32768x2048.size a := fun k0_t1 arg11_r0 arg12_r0 arg14_r0 arg15_r0 arg16_r0 arg17_r0 arg18_r0 arg19_r0 arg21_r0 arg22_r0 arg23_r0 arg24_r0 arg25_r0 arg26_r0 k0_hw1 k0_h26 => k0_hw1.2.2.2.2.2.2.2.2.2.2.2.2.2.2.1 k0_h26
theorem k0_off56_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h26 : k0_cond26 k0_t1 arg25_r0 arg26_r0 = 1#1), ∀ a, (k0_off56 arg22_r0) a + S1x512x2048.size a ≤ S2x512x2048.size a := fun k0_t1 arg11_r0 arg12_r0 arg14_r0 arg15_r0 arg16_r0 arg17_r0 arg18_r0 arg19_r0 arg21_r0 arg22_r0 arg23_r0 arg24_r0 arg25_r0 arg26_r0 k0_hw1 k0_h26 => k0_hw1.2.2.2.2.2.2.2.2.2.2.2.2.2.2.2.1 k0_h26
theorem k0_off57_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h27 : k0_cond27 k0_t1 arg25_r0 arg26_r0 = 1#1), ∀ a, (k0_off57 arg24_r0) a + S1.size a ≤ S2.size a := fun k0_t1 arg11_r0 arg12_r0 arg14_r0 arg15_r0 arg16_r0 arg17_r0 arg18_r0 arg19_r0 arg21_r0 arg22_r0 arg23_r0 arg24_r0 arg25_r0 arg26_r0 k0_hw1 k0_h27 => k0_hw1.2.2.2.2.2.2.2.2.2.2.2.2.2.2.2.2.1 k0_h27
theorem k0_off58_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h27 : k0_cond27 k0_t1 arg25_r0 arg26_r0 = 1#1), ∀ a, (k0_off58 arg25_r0 arg26_r0) a + S512x2048.size a ≤ S32768x2048.size a := fun k0_t1 arg11_r0 arg12_r0 arg14_r0 arg15_r0 arg16_r0 arg17_r0 arg18_r0 arg19_r0 arg21_r0 arg22_r0 arg23_r0 arg24_r0 arg25_r0 arg26_r0 k0_hw1 k0_h27 => k0_hw1.2.2.2.2.2.2.2.2.2.2.2.2.2.2.2.2.2.1 k0_h27
theorem k0_off59_inb : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h27 : k0_cond27 k0_t1 arg25_r0 arg26_r0 = 1#1), ∀ a, (k0_off59 arg24_r0) a + S1x512x2048.size a ≤ S2x512x2048.size a := fun k0_t1 arg11_r0 arg12_r0 arg14_r0 arg15_r0 arg16_r0 arg17_r0 arg18_r0 arg19_r0 arg21_r0 arg22_r0 arg23_r0 arg24_r0 arg25_r0 arg26_r0 k0_hw1 k0_h27 => k0_hw1.2.2.2.2.2.2.2.2.2.2.2.2.2.2.2.2.2.2.1 k0_h27
theorem k0_off59_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h27 : k0_cond27 k0_t1 arg25_r0 arg26_r0 = 1#1), (Rect.unit (s := S2x512x2048) (k0_off59 arg24_r0) S1x512x2048.size (k0_off59_inb k0_t1 arg11_r0 arg12_r0 arg14_r0 arg15_r0 arg16_r0 arg17_r0 arg18_r0 arg19_r0 arg21_r0 arg22_r0 arg23_r0 arg24_r0 arg25_r0 arg26_r0 k0_hw1 k0_h27)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h27 => k0_hw1.2.2.2.2.2.2.2.2.2.2.2.2.2.2.2.2.2.2.2.1 k0_h27 (k0_off59_inb k0_t1 arg11_r0 arg12_r0 arg14_r0 arg15_r0 arg16_r0 arg17_r0 arg18_r0 arg19_r0 arg21_r0 arg22_r0 arg23_r0 arg24_r0 arg25_r0 arg26_r0 k0_hw1 k0_h27)
theorem k0_off58_wordsbf16 : ∀ (k0_t1 : Fin k0_t1_loop.trips) (arg11_r0 : BitVec 32) (arg12_r0 : BitVec 32) (arg14_r0 : BitVec 32) (arg15_r0 : BitVec 32) (arg16_r0 : BitVec 32) (arg17_r0 : BitVec 32) (arg18_r0 : BitVec 32) (arg19_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg11_r0 arg12_r0 arg14_r0 arg15_r0 arg16_r0 arg17_r0 arg18_r0 arg19_r0 arg21_r0 arg22_r0 arg23_r0 arg24_r0 arg25_r0 arg26_r0), ∀ (k0_h27 : k0_cond27 k0_t1 arg25_r0 arg26_r0 = 1#1), (Rect.unit (s := S32768x2048) (k0_off58 arg25_r0 arg26_r0) S512x2048.size (k0_off58_inb k0_t1 arg11_r0 arg12_r0 arg14_r0 arg15_r0 arg16_r0 arg17_r0 arg18_r0 arg19_r0 arg21_r0 arg22_r0 arg23_r0 arg24_r0 arg25_r0 arg26_r0 k0_hw1 k0_h27)).WholeWords (EltTy.packing .bf16) := fun k0_t1 arg11_r0 arg12_r0 arg14_r0 arg15_r0 arg16_r0 arg17_r0 arg18_r0 arg19_r0 arg21_r0 arg22_r0 arg23_r0 arg24_r0 arg25_r0 arg26_r0 k0_hw1 k0_h27 => k0_hw1.2.2.2.2.2.2.2.2.2.2.2.2.2.2.2.2.2.2.2.2 k0_h27 (k0_off58_inb k0_t1 arg11_r0 arg12_r0 arg14_r0 arg15_r0 arg16_r0 arg17_r0 arg18_r0 arg19_r0 arg21_r0 arg22_r0 arg23_r0 arg24_r0 arg25_r0 arg26_r0 k0_hw1 k0_h27)

def k0_off60 (v94_11_r0 : BitVec 32) : Fin 1 → Nat :=
  let c2_i32_147_r0 : BitVec 32 := 2#32
  let v145_r0 : BitVec 32 := Scalar.remui v94_11_r0 c2_i32_147_r0
  ![v145_r0.toNat]

def k0_off61 (v94_15_r0 : BitVec 32) (v94_14_r0 : BitVec 32) : Fin 2 → Nat :=
  let c512_i32_r0 : BitVec 32 := 512#32
  let true_103_r0 : BitVec 1 := 1#1
  let c1_i32_102_r0 : BitVec 32 := 1#32
  let v95_r0 : BitVec 32 := Scalar.subi v94_15_r0 c1_i32_102_r0
  let v96_r0 : BitVec 32 := Scalar.select true_103_r0 v95_r0 v94_15_r0
  let c_m1_i32_104_r0 : BitVec 32 := 4294967295#32
  let v97_r0 : BitVec 1 := Scalar.cmpi .eq v96_r0 c_m1_i32_104_r0
  let c1_i32_106_r0 : BitVec 32 := 1#32
  let v99_r0 : BitVec 32 := Scalar.subi v94_14_r0 c1_i32_106_r0
  let v100_r0 : BitVec 32 := Scalar.select v97_r0 v99_r0 v94_14_r0
  let c_m1_i32_107_r0 : BitVec 32 := 4294967295#32
  let v101_r0 : BitVec 1 := Scalar.cmpi .eq v100_r0 c_m1_i32_107_r0
  let c63_i32_108_r0 : BitVec 32 := 63#32
  let v102_r0 : BitVec 32 := Scalar.select v101_r0 c63_i32_108_r0 v100_r0
  let c0_i32_109_r0 : BitVec 32 := 0#32
  let v103_r0 : BitVec 32 := Scalar.addi v102_r0 c0_i32_109_r0
  let v146_r0 : BitVec 32 := Scalar.muli c512_i32_r0 v103_r0
  let c0_i32_148_r0 : BitVec 32 := 0#32
  ![v146_r0.toNat, 0]

def k0_off62 (v94_11_r0 : BitVec 32) : Fin 3 → Nat :=
  let c2_i32_147_r0 : BitVec 32 := 2#32
  let v145_r0 : BitVec 32 := Scalar.remui v94_11_r0 c2_i32_147_r0
  let c0_i32_149_r0 : BitVec 32 := 0#32
  let c0_i32_150_r0 : BitVec 32 := 0#32
  ![v145_r0.toNat, 0, 0]

def k0_chk7 (v94_11_r0 : BitVec 32) : Prop :=
  (∀ a, (k0_off60 v94_11_r0) a + S1.size a ≤ S2.size a) ∧
  (∀ a, (k0_off62 v94_11_r0) a + S1x512x2048.size a ≤ S2x512x2048.size a)
theorem k0_off60_inb : ∀ (v94_11_r0 : BitVec 32) (k0_hw7 : k0_chk7 v94_11_r0), ∀ a, (k0_off60 v94_11_r0) a + S1.size a ≤ S2.size a := fun v94_11_r0 k0_hw7 => k0_hw7.1
theorem k0_off62_inb : ∀ (v94_11_r0 : BitVec 32) (k0_hw7 : k0_chk7 v94_11_r0), ∀ a, (k0_off62 v94_11_r0) a + S1x512x2048.size a ≤ S2x512x2048.size a := fun v94_11_r0 k0_hw7 => k0_hw7.2

def k0_off63 (v94_13_r0 : BitVec 32) : Fin 1 → Nat :=
  let c2_i32_151_r0 : BitVec 32 := 2#32
  let v152_r0 : BitVec 32 := Scalar.remui v94_13_r0 c2_i32_151_r0
  ![v152_r0.toNat]

def k0_off64 (v94_15_r0 : BitVec 32) (v94_14_r0 : BitVec 32) : Fin 2 → Nat :=
  let c512_i32_152_r0 : BitVec 32 := 512#32
  let true_103_r0 : BitVec 1 := 1#1
  let c1_i32_102_r0 : BitVec 32 := 1#32
  let v95_r0 : BitVec 32 := Scalar.subi v94_15_r0 c1_i32_102_r0
  let v96_r0 : BitVec 32 := Scalar.select true_103_r0 v95_r0 v94_15_r0
  let c_m1_i32_104_r0 : BitVec 32 := 4294967295#32
  let v97_r0 : BitVec 1 := Scalar.cmpi .eq v96_r0 c_m1_i32_104_r0
  let c1_i32_106_r0 : BitVec 32 := 1#32
  let v99_r0 : BitVec 32 := Scalar.subi v94_14_r0 c1_i32_106_r0
  let v100_r0 : BitVec 32 := Scalar.select v97_r0 v99_r0 v94_14_r0
  let c_m1_i32_107_r0 : BitVec 32 := 4294967295#32
  let v101_r0 : BitVec 1 := Scalar.cmpi .eq v100_r0 c_m1_i32_107_r0
  let c63_i32_108_r0 : BitVec 32 := 63#32
  let v102_r0 : BitVec 32 := Scalar.select v101_r0 c63_i32_108_r0 v100_r0
  let c0_i32_109_r0 : BitVec 32 := 0#32
  let v103_r0 : BitVec 32 := Scalar.addi v102_r0 c0_i32_109_r0
  let v153_r0 : BitVec 32 := Scalar.muli c512_i32_152_r0 v103_r0
  let c0_i32_153_r0 : BitVec 32 := 0#32
  ![v153_r0.toNat, 0]
def k0_off65 (v94_13_r0 : BitVec 32) : Fin 3 → Nat :=
  let c2_i32_151_r0 : BitVec 32 := 2#32
  let v152_r0 : BitVec 32 := Scalar.remui v94_13_r0 c2_i32_151_r0
  let c0_i32_154_r0 : BitVec 32 := 0#32
  let c0_i32_155_r0 : BitVec 32 := 0#32
  ![v152_r0.toNat, 0, 0]

def k0_chk9 (v94_13_r0 : BitVec 32) : Prop :=
  (∀ a, (k0_off63 v94_13_r0) a + S1.size a ≤ S2.size a) ∧
  (∀ a, (k0_off65 v94_13_r0) a + S1x512x2048.size a ≤ S2x512x2048.size a) ∧
  (∀ (hinb : ∀ a, (k0_off65 v94_13_r0) a + S1x512x2048.size a ≤ S2x512x2048.size a), (Rect.unit (s := S2x512x2048) (k0_off65 v94_13_r0) S1x512x2048.size hinb).WholeWords (EltTy.packing .bf16))
theorem k0_off63_inb : ∀ (v94_13_r0 : BitVec 32) (k0_hw9 : k0_chk9 v94_13_r0), ∀ a, (k0_off63 v94_13_r0) a + S1.size a ≤ S2.size a := fun v94_13_r0 k0_hw9 => k0_hw9.1
theorem k0_off65_inb : ∀ (v94_13_r0 : BitVec 32) (k0_hw9 : k0_chk9 v94_13_r0), ∀ a, (k0_off65 v94_13_r0) a + S1x512x2048.size a ≤ S2x512x2048.size a := fun v94_13_r0 k0_hw9 => k0_hw9.2.1
theorem k0_off65_wordsbf16 : ∀ (v94_13_r0 : BitVec 32) (k0_hw9 : k0_chk9 v94_13_r0), (Rect.unit (s := S2x512x2048) (k0_off65 v94_13_r0) S1x512x2048.size (k0_off65_inb v94_13_r0 k0_hw9)).WholeWords (EltTy.packing .bf16) := fun v94_13_r0 k0_hw9 => k0_hw9.2.2 (k0_off65_inb v94_13_r0 k0_hw9)

def k0_chk8 (v94_15_r0 : BitVec 32) (v94_14_r0 : BitVec 32) : Prop :=
  (∀ a, (k0_off61 v94_15_r0 v94_14_r0) a + S512x2048.size a ≤ S32768x2048.size a) ∧
  (∀ a, (k0_off64 v94_15_r0 v94_14_r0) a + S512x2048.size a ≤ S32768x2048.size a) ∧
  (∀ (hinb : ∀ a, (k0_off64 v94_15_r0 v94_14_r0) a + S512x2048.size a ≤ S32768x2048.size a), (Rect.unit (s := S32768x2048) (k0_off64 v94_15_r0 v94_14_r0) S512x2048.size hinb).WholeWords (EltTy.packing .bf16))
theorem k0_off61_inb : ∀ (v94_15_r0 : BitVec 32) (v94_14_r0 : BitVec 32) (k0_hw8 : k0_chk8 v94_15_r0 v94_14_r0), ∀ a, (k0_off61 v94_15_r0 v94_14_r0) a + S512x2048.size a ≤ S32768x2048.size a := fun v94_15_r0 v94_14_r0 k0_hw8 => k0_hw8.1
theorem k0_off64_inb : ∀ (v94_15_r0 : BitVec 32) (v94_14_r0 : BitVec 32) (k0_hw8 : k0_chk8 v94_15_r0 v94_14_r0), ∀ a, (k0_off64 v94_15_r0 v94_14_r0) a + S512x2048.size a ≤ S32768x2048.size a := fun v94_15_r0 v94_14_r0 k0_hw8 => k0_hw8.2.1
theorem k0_off64_wordsbf16 : ∀ (v94_15_r0 : BitVec 32) (v94_14_r0 : BitVec 32) (k0_hw8 : k0_chk8 v94_15_r0 v94_14_r0), (Rect.unit (s := S32768x2048) (k0_off64 v94_15_r0 v94_14_r0) S512x2048.size (k0_off64_inb v94_15_r0 v94_14_r0 k0_hw8)).WholeWords (EltTy.packing .bf16) := fun v94_15_r0 v94_14_r0 k0_hw8 => k0_hw8.2.2 (k0_off64_inb v94_15_r0 v94_14_r0 k0_hw8)
-- ==== ReferenceIdeal.lean ====
abbrev S16x2048x2048 : Shape := ⟨3, ![16, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x11264 : Shape := ⟨2, ![2048, 11264]⟩
abbrev S5632x2048 : Shape := ⟨2, ![5632, 2048]⟩
abbrev S16x2048x11264 : Shape := ⟨3, ![16, 2048, 11264]⟩
abbrev S16x2048x5632 : Shape := ⟨3, ![16, 2048, 5632]⟩
abbrev S32768x2048 : Shape := ⟨2, ![32768, 2048]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S2048x11264, .f32⟩
  | .hbm, ⟨23, _⟩ => ⟨S5632x2048, .f32⟩
  | .hbm, ⟨24, _⟩ => ⟨S16x2048x11264, .f32⟩
  | .hbm, ⟨25, _⟩ => ⟨S16x2048x5632, .f32⟩
  | .hbm, ⟨26, _⟩ => ⟨S16x2048x5632, .f32⟩
  | .hbm, ⟨27, _⟩ => ⟨S16x2048x5632, .f32⟩
  | .hbm, ⟨28, _⟩ => ⟨S16x2048x5632, .f32⟩
  | .hbm, ⟨29, _⟩ => ⟨S_, .f32⟩
  | .hbm, ⟨30, _⟩ => ⟨S16x2048x5632, .f32⟩
  | .hbm, ⟨31, _⟩ => ⟨S16x2048x5632, .f32⟩
  | .hbm, ⟨32, _⟩ => ⟨S_, .f32⟩
  | .hbm, ⟨33, _⟩ => ⟨S16x2048x5632, .f32⟩
  | .hbm, ⟨34, _⟩ => ⟨S16x2048x5632, .f32⟩
  | .hbm, ⟨35, _⟩ => ⟨S16x2048x5632, .f32⟩
  | .hbm, ⟨36, _⟩ => ⟨S16x2048x5632, .f32⟩
  | .hbm, ⟨37, _⟩ => ⟨S16x2048x2048, .f32⟩
  | .hbm, ⟨38, _⟩ => ⟨S_, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S2048, .f32⟩
  | .hbm, ⟨43, _⟩ => ⟨S16x2048x2048, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S16x2048x1, .f32⟩
  | .hbm, ⟨54, _⟩ => ⟨S16x2048x2048, .f32⟩
  | .hbm, ⟨55, _⟩ => ⟨S16x2048x2048, .f32⟩
  | .hbm, ⟨56, _⟩ => ⟨S1x1x2048, .f32⟩
  | .hbm, ⟨57, _⟩ => ⟨S16x2048x2048, .f32⟩
  | .hbm, ⟨58, _⟩ => ⟨S16x2048x2048, .f32⟩
  | .hbm, ⟨59, _⟩ => ⟨S32768x2048, .f32⟩
  | .hbm, ⟨60, _⟩ => ⟨S32768x2048, .f32⟩
  | .hbm, ⟨61, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel2.lean ====
abbrev S16x2048x2048 : Shape := ⟨3, ![16, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S32768x2048 : Shape := ⟨2, ![32768, 2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 14
  | .vmem => 13
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S32768x2048, .f32⟩
  | .hbm, ⟨6, _⟩ => ⟨S2048, .f32⟩
  | .hbm, ⟨7, _⟩ => ⟨S1x2048, .f32⟩
  | .hbm, ⟨8, _⟩ => ⟨S2048x11264, .f32⟩
  | .hbm, ⟨9, _⟩ => ⟨S2048x11264, .bf16⟩
  | .hbm, ⟨10, _⟩ => ⟨S5632x2048, .f32⟩
  | .hbm, ⟨11, _⟩ => ⟨S5632x2048, .bf16⟩
  | .hbm, ⟨12, _⟩ => ⟨S1x2048, .f32⟩
  | .hbm, ⟨13, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16x2048x2048 : Shape := ⟨3, ![16, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x11264 : Shape := ⟨2, ![2048, 11264]⟩
abbrev S5632x2048 : Shape := ⟨2, ![5632, 2048]⟩
abbrev S16x2048x11264 : Shape := ⟨3, ![16, 2048, 11264]⟩
abbrev S16x2048x5632 : Shape := ⟨3, ![16, 2048, 5632]⟩
abbrev S32768x2048 : Shape := ⟨2, ![32768, 2048]⟩

abbrev nBuf : Space → Nat
  | .hbm => 59
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S2048x11264, .f32⟩
  | .hbm, ⟨23, _⟩ => ⟨S5632x2048, .f32⟩
  | .hbm, ⟨24, _⟩ => ⟨S16x2048x11264, .f32⟩
  | .hbm, ⟨25, _⟩ => ⟨S16x2048x5632, .f32⟩
  | .hbm, ⟨26, _⟩ => ⟨S16x2048x5632, .f32⟩
  | .hbm, ⟨27, _⟩ => ⟨S16x2048x5632, .f32⟩
  | .hbm, ⟨28, _⟩ => ⟨S16x2048x5632, .f32⟩
  | .hbm, ⟨29, _⟩ => ⟨S_, .f32⟩
  | .hbm, ⟨30, _⟩ => ⟨S16x2048x5632, .f32⟩
  | .hbm, ⟨31, _⟩ => ⟨S16x2048x5632, .f32⟩
  | .hbm, ⟨32, _⟩ => ⟨S_, .f32⟩
  | .hbm, ⟨33, _⟩ => ⟨S16x2048x5632, .f32⟩
  | .hbm, ⟨34, _⟩ => ⟨S16x2048x5632, .f32⟩
  | .hbm, ⟨35, _⟩ => ⟨S16x2048x5632, .f32⟩
  | .hbm, ⟨36, _⟩ => ⟨S16x2048x5632, .f32⟩
  | .hbm, ⟨37, _⟩ => ⟨S16x2048x2048, .f32⟩
  | .hbm, ⟨38, _⟩ => ⟨S_, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S16x2048x1, .f32⟩
  | .hbm, ⟨53, _⟩ => ⟨S16x2048x2048, .f32⟩
  | .hbm, ⟨54, _⟩ => ⟨S16x2048x2048, .f32⟩
  | .hbm, ⟨55, _⟩ => ⟨S1x1x2048, .f32⟩
  | .hbm, ⟨56, _⟩ => ⟨S16x2048x2048, .f32⟩
  | .hbm, ⟨57, _⟩ => ⟨S16x2048x2048, .f32⟩
  | .hbm, ⟨58, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel3.lean ====
abbrev S32768x2048 : Shape := ⟨2, ![32768, 2048]⟩
abbrev S1x2048x8192 : Shape := ⟨3, ![1, 2048, 8192]⟩
abbrev S2048x8192 : Shape := ⟨2, ![2048, 8192]⟩
abbrev S2048x2048 : Shape := ⟨2, ![2048, 2048]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S1x2048x8192, .f32⟩
  | .hbm, ⟨2, _⟩ => ⟨S2048x8192, .f32⟩
  | .hbm, ⟨3, _⟩ => ⟨S2048x2048, .f32⟩
  | .hbm, ⟨4, _⟩ => ⟨S2048x2048, .bf16⟩
  | .hbm, ⟨5, _⟩ => ⟨S32768x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x2048 : Shape := ⟨2, ![32768, 2048]⟩
abbrev S1x2048x8192 : Shape := ⟨3, ![1, 2048, 8192]⟩
abbrev S2048x8192 : Shape := ⟨2, ![2048, 8192]⟩
abbrev S32768x8192 : Shape := ⟨2, ![32768, 8192]⟩
abbrev S32768x1024 : Shape := ⟨2, ![32768, 1024]⟩

abbrev nBuf : Space → Nat
  | .hbm => 13
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x8192, .f32⟩
  | .hbm, ⟨2, _⟩ => ⟨S32768x2048, .f32⟩
  | .hbm, ⟨3, _⟩ => ⟨S2048x8192, .f32⟩
  | .hbm, ⟨4, _⟩ => ⟨S32768x8192, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel4.lean ====
abbrev S32768x2048 : Shape := ⟨2, ![32768, 2048]⟩
abbrev S1x2048x8192 : Shape := ⟨3, ![1, 2048, 8192]⟩
abbrev S2048x8192 : Shape := ⟨2, ![2048, 8192]⟩
abbrev S2048x1024 : Shape := ⟨2, ![2048, 1024]⟩
abbrev S1024x2048 : Shape := ⟨2, ![1024, 2048]⟩
abbrev S1024x32768 : Shape := ⟨2, ![1024, 32768]⟩
abbrev S2048x2048 : Shape := ⟨2, ![2048, 2048]⟩

abbrev nBuf : Space → Nat
  | .hbm => 7
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S1x2048x8192, .f32⟩
  | .hbm, ⟨2, _⟩ => ⟨S2048x8192, .f32⟩
  | .hbm, ⟨3, _⟩ => ⟨S2048x1024, .f32⟩
  | .hbm, ⟨4, _⟩ => ⟨S1024x2048, .f32⟩
  | .hbm, ⟨5, _⟩ => ⟨S1024x2048, .bf16⟩
  | .hbm, ⟨6, _⟩ => ⟨S1024x32768, .bf16⟩
  | .local _ .vmem, ⟨0, _⟩ => ⟨S1024x2048, .bf16⟩
  | .local _ .vmem, ⟨1, _⟩ => ⟨S2048x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S32768x2048 : Shape := ⟨2, ![32768, 2048]⟩
abbrev S1x2048x8192 : Shape := ⟨3, ![1, 2048, 8192]⟩
abbrev S2048x8192 : Shape := ⟨2, ![2048, 8192]⟩
abbrev S32768x8192 : Shape := ⟨2, ![32768, 8192]⟩
abbrev S32768x1024 : Shape := ⟨2, ![32768, 1024]⟩
abbrev S1024x32768 : Shape := ⟨2, ![1024, 32768]⟩

abbrev nBuf : Space → Nat
  | .hbm => 13
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x8192, .f32⟩
  | .hbm, ⟨2, _⟩ => ⟨S32768x2048, .f32⟩
  | .hbm, ⟨3, _⟩ => ⟨S2048x8192, .f32⟩
  | .hbm, ⟨4, _⟩ => ⟨S32768x8192, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S32768x2048, .f32⟩
  | .hbm, ⟨10, _⟩ => ⟨S32768x2048, .f32⟩
  | .hbm, ⟨11, _⟩ => ⟨S1024x32768, .f32⟩
  | .hbm, ⟨12, _⟩ => ⟨S1024x32768, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel5.lean ====
abbrev S32768x2048 : Shape := ⟨2, ![32768, 2048]⟩
abbrev S1x2048x8192 : Shape := ⟨3, ![1, 2048, 8192]⟩
abbrev S2048x8192 : Shape := ⟨2, ![2048, 8192]⟩
abbrev S2048x4096 : Shape := ⟨2, ![2048, 4096]⟩
abbrev S2048x1024 : Shape := ⟨2, ![2048, 1024]⟩
abbrev S2048x5120 : Shape := ⟨2, ![2048, 5120]⟩
abbrev S32768x5120 : Shape := ⟨2, ![32768, 5120]⟩
abbrev S2048x2048 : Shape := ⟨2, ![2048, 2048]⟩

abbrev nBuf : Space → Nat
  | .hbm => 8
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S1x2048x8192, .f32⟩
  | .hbm, ⟨2, _⟩ => ⟨S2048x8192, .f32⟩
  | .hbm, ⟨3, _⟩ => ⟨S2048x4096, .f32⟩
  | .hbm, ⟨4, _⟩ => ⟨S2048x1024, .f32⟩
  | .hbm, ⟨5, _⟩ => ⟨S2048x5120, .f32⟩
  | .hbm, ⟨6, _⟩ => ⟨S2048x5120, .bf16⟩
  | .hbm, ⟨7, _⟩ => ⟨S32768x5120, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x2048 : Shape := ⟨2, ![32768, 2048]⟩
abbrev S1x2048x8192 : Shape := ⟨3, ![1, 2048, 8192]⟩
abbrev S2048x8192 : Shape := ⟨2, ![2048, 8192]⟩
abbrev S32768x8192 : Shape := ⟨2, ![32768, 8192]⟩
abbrev S32768x1024 : Shape := ⟨2, ![32768, 1024]⟩
abbrev S32768x5120 : Shape := ⟨2, ![32768, 5120]⟩

abbrev nBuf : Space → Nat
  | .hbm => 12
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x8192, .f32⟩
  | .hbm, ⟨2, _⟩ => ⟨S32768x2048, .f32⟩
  | .hbm, ⟨3, _⟩ => ⟨S2048x8192, .f32⟩
  | .hbm, ⟨4, _⟩ => ⟨S32768x8192, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S32768x2048, .f32⟩
  | .hbm, ⟨10, _⟩ => ⟨S32768x2048, .f32⟩
  | .hbm, ⟨11, _⟩ => ⟨S32768x5120, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel6.lean ====
abbrev S32768x1024 : Shape := ⟨2, ![32768, 1024]⟩
abbrev S32768x5120 : Shape := ⟨2, ![32768, 5120]⟩
abbrev S32768x2048 : Shape := ⟨2, ![32768, 2048]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 14
  | .vmem => 15
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x5120, .f32⟩
  | .hbm, ⟨3, _⟩ => ⟨S32768x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1024x2048, .f32⟩
  | .hbm, ⟨8, _⟩ => ⟨S1024x2048, .bf16⟩
  | .hbm, ⟨9, _⟩ => ⟨S1024x2048, .f32⟩
  | .hbm, ⟨10, _⟩ => ⟨S1024x2048, .bf16⟩
  | .hbm, ⟨11, _⟩ => ⟨S2048x2048, .f32⟩
  | .hbm, ⟨12, _⟩ => ⟨S2048x2048, .bf16⟩
  | .hbm, ⟨13, _⟩ => ⟨S32768x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S32768x1024 : Shape := ⟨2, ![32768, 1024]⟩
abbrev S32768x5120 : Shape := ⟨2, ![32768, 5120]⟩
abbrev S32768x2048 : Shape := ⟨2, ![32768, 2048]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S_ : Shape := ⟨0, ![]⟩
abbrev S2048x2048 : Shape := ⟨2, ![2048, 2048]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x5120, .f32⟩
  | .hbm, ⟨3, _⟩ => ⟨S32768x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S32768x2048, .f32⟩
  | .hbm, ⟨8, _⟩ => ⟨S32768x2048, .f32⟩
  | .hbm, ⟨9, _⟩ => ⟨S32768x1024, .f32⟩
  | .hbm, ⟨10, _⟩ => ⟨S32768x1024, .f32⟩
  | .hbm, ⟨11, _⟩ => ⟨S1024x2048, .f32⟩
  | .hbm, ⟨12, _⟩ => ⟨S32768x2048, .f32⟩
  | .hbm, ⟨13, _⟩ => ⟨S32768x1024, .f32⟩
  | .hbm, ⟨14, _⟩ => ⟨S1024x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S2048x2048, .f32⟩
  | .hbm, ⟨36, _⟩ => ⟨S32768x2048, .f32⟩
  | .hbm, ⟨37, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Words.lean ====
/-
  The words of the kernel's pipelined loop: every value the loop carries is a closed form of the trip number, so
  every condition, every offset and every check the trip computes from the carried words is decided by running over
  the 704 trips.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Tactic

@[expose] public section

namespace Cert.Proof.Words

open Cert.KernelIdeal Cert.KernelIdeal.Gen
open Idealize.ShloMosaic

/-- A word from a natural number. -/
abbrev w (n : Nat) : BitVec 32 := BitVec.ofNat 32 n
/-- The block of rows the next fetch of the input names, before trip `k`. -/
def w11 (k : Nat) : BitVec 32 := w (min (k / 11 + 1) 64)
/-- The row block and the output slot counter before trip `k`. -/
def wi (k : Nat) : BitVec 32 := w (k / 11)
/-- The count of weight blocks fetched before trip `k`. -/
def w14 (k : Nat) : BitVec 32 := w (min (k + 2) 704)
/-- The count of weight blocks waited before trip `k`. -/
def wk (k : Nat) : BitVec 32 := w k
/-- The count of output blocks waited before trip `k`. -/
def w22 (k : Nat) : BitVec 32 := w ((k - 1) / 11)
/-- The grid's outer coordinate at trip `k` (it wraps at the end). -/
def w25 (k : Nat) : BitVec 32 := w (k / 11 % 64)
/-- The grid's inner coordinate at trip `k`. -/
def w26 (k : Nat) : BitVec 32 := w (k % 11)
/-- The remaining two carried words: zero until the last trip ends. -/
def wz (k : Nat) : BitVec 32 := w (k / 704)

/-- All sixteen carried words before trip `k`. -/
abbrev acc (k : Nat) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  (w11 k, wi k, wz k, w14 k, wk k, w14 k, wk k, w14 k, wk k, wz k, wi k, w22 k, wi k, w22 k, w25 k, w26 k)

theorem trips_eq : k0_t1_loop.trips = 704 := by decide +kernel

theorem lt704 (k : Fin k0_t1_loop.trips) : k.val < 704 := Nat.lt_of_lt_of_eq k.isLt trips_eq

/-- The fetch of the next input block: at the last column step, but for the last block. -/
theorem cond4_eq : ∀ k : Fin k0_t1_loop.trips, (k0_cond4 k (w25 k) (w26 k) = 1#1) = (k.val % 11 = 10 ∧ k.val < 703) := by
  have h : ∀ k : Fin k0_t1_loop.trips, (k0_cond4 k (w25 k) (w26 k) = 1#1) ↔ (k.val % 11 = 10 ∧ k.val < 703) := by decide +kernel
  exact fun k => propext (h k)
/-- The three weight fetches: two steps ahead, as long as there is a step. -/
theorem cond5_iff : ∀ k : Fin k0_t1_loop.trips, (k0_cond5 k (w26 k) = 1#1) ↔ k.val < 702 := by decide +kernel
theorem cond6_iff : ∀ k : Fin k0_t1_loop.trips, (k0_cond6 k (w26 k) = 1#1) ↔ k.val < 702 := by decide +kernel
theorem cond7_iff : ∀ k : Fin k0_t1_loop.trips, (k0_cond7 k (w26 k) = 1#1) ↔ k.val < 702 := by decide +kernel
/-- The wait for the input block: at the first column step. -/
theorem cond8_iff : ∀ k : Fin k0_t1_loop.trips, (k0_cond8 k (w25 k) (w26 k) = 1#1) ↔ k.val % 11 = 0 := by decide +kernel
/-- The three weight waits: always. -/
theorem cond9_eq : ∀ k : Fin k0_t1_loop.trips, k0_cond9 k (w26 k) = 1#1 := by decide +kernel
theorem cond10_eq : ∀ k : Fin k0_t1_loop.trips, k0_cond10 k (w26 k) = 1#1 := by decide +kernel
theorem cond11_eq : ∀ k : Fin k0_t1_loop.trips, k0_cond11 k (w26 k) = 1#1 := by decide +kernel
/-- The counter says the first column step. -/
theorem cond14_iff : ∀ k : Fin k0_t1_loop.trips, (k0_cond14 (wk k) = 1#1) ↔ k.val % 11 = 0 := by decide +kernel
/-- The counter says the last column step. -/
theorem cond15_iff : ∀ k : Fin k0_t1_loop.trips, (k0_cond15 (wk k) = 1#1) ↔ k.val % 11 = 10 := by decide +kernel
/-- The copies of the two results out: at the last column step. -/
theorem cond20_iff : ∀ k : Fin k0_t1_loop.trips, (k0_cond20 k (w25 k) (w26 k) = 1#1) ↔ k.val % 11 = 10 := by decide +kernel
theorem cond21_iff : ∀ k : Fin k0_t1_loop.trips, (k0_cond21 k (w25 k) (w26 k) = 1#1) ↔ k.val % 11 = 10 := by decide +kernel
/-- The waits for the copies: at the next block's first column step. -/
theorem cond26_iff : ∀ k : Fin k0_t1_loop.trips, (k0_cond26 k (w25 k) (w26 k) = 1#1) ↔ (k.val % 11 = 0 ∧ 0 < k.val) := by decide +kernel
theorem cond27_iff : ∀ k : Fin k0_t1_loop.trips, (k0_cond27 k (w25 k) (w26 k) = 1#1) ↔ (k.val % 11 = 0 ∧ 0 < k.val) := by decide +kernel

/-- Every check the body assumes holds of the carried words at every trip. -/
theorem chk6_ok : ∀ k : Fin k0_t1_loop.trips, k0_chk6 (wk k) := by decide +kernel
theorem chk5_ok : ∀ k : Fin k0_t1_loop.trips, k0_chk5 (wi k) := by decide +kernel
theorem chk4_ok : ∀ k : Fin k0_t1_loop.trips, k0_chk4 (wk k) := by decide +kernel
theorem chk3_ok : ∀ k : Fin k0_t1_loop.trips, k0_chk3 (wk k) := by decide +kernel
theorem chk2_ok : ∀ k : Fin k0_t1_loop.trips, k0_chk2 (wi k) (wi k) (wi k) (wk k) := by decide +kernel
theorem chk1_ok : ∀ k : Fin k0_t1_loop.trips,
    k0_chk1 k (w11 k) (wi k) (w14 k) (wk k) (w14 k) (wk k) (w14 k) (wk k) (wi k) (w22 k) (wi k) (w22 k) (w25 k) (w26 k) := by decide +kernel
theorem chk9_ok : k0_chk9 (w22 704) := by decide +kernel
theorem chk8_ok : k0_chk8 (w26 704) (w25 704) := by decide +kernel
theorem chk7_ok : k0_chk7 (w22 704) := by decide +kernel

end Cert.Proof.Words
-- ==== Proof.Names.lean ====
/-
  The canonical names of the kernel's pieces: each buffer's slots, each slot's transfer counter, each operand's
  blocks; and the equations that bring the printed slices of a trip to them.
-/
module

public import proofs.«01_k».proof.Proof.Words

@[expose] public section

noncomputable section

namespace Cert.Proof.Ffn

open Cert.KernelIdeal Cert.KernelIdeal.Gen Cert.Proof.Words
open Idealize.ShloMosaic Idealize.ShloMosaic.TcCoe Idealize.ShloMosaic.Tactic

/-! ## The arrays and the buffers -/

abbrev xM : Memref sig .tc .hbm S32768x2048 .f32 := Memref.whole main_v0
abbrev gM : Memref sig .tc .hbm S1x2048 .f32 := Memref.whole main_v2
abbrev wM : Memref sig .tc .hbm S2048x11264 .bf16 := Memref.whole main_v4
abbrev dM : Memref sig .tc .hbm S5632x2048 .bf16 := Memref.whole main_v6
abbrev hM : Memref sig .tc .hbm S1x2048 .f32 := Memref.whole main_v8
abbrev oM : Memref sig .tc .hbm S32768x2048 .f32 := Memref.whole main_v9_0
abbrev yM : Memref sig .tc .hbm S32768x2048 .bf16 := Memref.whole main_v9_1
abbrev nB : Memref sig .tc .vmem S512x2048 .bf16 := Memref.whole cc0_scratch0
abbrev cB : Memref sig .tc .smem S1 .i32 := Memref.whole cc0_scratch1
abbrev xB : Memref sig .tc .vmem S2x512x2048 .f32 := Memref.whole cc0_scoped0
abbrev gB : Memref sig .tc .vmem S1x2048 .f32 := Memref.whole cc0_scoped2
abbrev wB : Memref sig .tc .vmem S3x2048x512 .bf16 := Memref.whole cc0_scoped3
abbrev vB : Memref sig .tc .vmem S3x2048x512 .bf16 := Memref.whole cc0_scoped5
abbrev dB : Memref sig .tc .vmem S3x512x2048 .bf16 := Memref.whole cc0_scoped7
abbrev hB : Memref sig .tc .vmem S1x2048 .f32 := Memref.whole cc0_scoped9
abbrev oB : Memref sig .tc .vmem S2x512x2048 .f32 := Memref.whole cc0_scoped10
abbrev yB : Memref sig .tc .vmem S2x512x2048 .bf16 := Memref.whole cc0_scoped12

/-! ## Offsets in closed form -/

abbrev cellOff {n : Nat} (s : Fin n) : Fin 1 → Nat := ![s.val]
abbrev slotOff {n : Nat} (s : Fin n) : Fin 3 → Nat := ![s.val, 0, 0]
abbrev rowOff {n : Nat} (b : Fin n) : Fin 2 → Nat := ![512 * b.val, 0]
abbrev colOff (b : Fin 11) : Fin 2 → Nat := ![0, 512 * b.val]
abbrev colOff' (b : Fin 11) : Fin 2 → Nat := ![0, 512 * (11 + b.val)]

theorem cell2_inb (s : Fin 2) : ∀ a, cellOff s a + S1.size a ≤ S2.size a := by
  have := s.isLt; intro a; fin_cases a; show s.val + 1 ≤ 2; omega
theorem cell3_inb (s : Fin 3) : ∀ a, cellOff s a + S1.size a ≤ S3.size a := by
  have := s.isLt; intro a; fin_cases a; show s.val + 1 ≤ 3; omega
theorem slot2_inb (s : Fin 2) : ∀ a, slotOff s a + S1x512x2048.size a ≤ S2x512x2048.size a := by
  have := s.isLt; intro a; fin_cases a
  · show s.val + 1 ≤ 2; omega
  · show 0 + 512 ≤ 512; omega
  · show 0 + 2048 ≤ 2048; omega
theorem slot3_inb (s : Fin 3) : ∀ a, slotOff s a + S1x512x2048.size a ≤ S3x512x2048.size a := by
  have := s.isLt; intro a; fin_cases a
  · show s.val + 1 ≤ 3; omega
  · show 0 + 512 ≤ 512; omega
  · show 0 + 2048 ≤ 2048; omega
theorem slot3w_inb (s : Fin 3) : ∀ a, slotOff s a + S1x2048x512.size a ≤ S3x2048x512.size a := by
  have := s.isLt; intro a; fin_cases a
  · show s.val + 1 ≤ 3; omega
  · show 0 + 2048 ≤ 2048; omega
  · show 0 + 512 ≤ 512; omega
theorem row64_inb (b : Fin 64) : ∀ a, rowOff b a + S512x2048.size a ≤ S32768x2048.size a := by
  have := b.isLt; intro a; fin_cases a
  · show 512 * b.val + 512 ≤ 32768; omega
  · show 0 + 2048 ≤ 2048; omega
theorem row11_inb (b : Fin 11) : ∀ a, rowOff b a + S512x2048.size a ≤ S5632x2048.size a := by
  have := b.isLt; intro a; fin_cases a
  · show 512 * b.val + 512 ≤ 5632; omega
  · show 0 + 2048 ≤ 2048; omega
theorem col_inb (b : Fin 11) : ∀ a, colOff b a + S2048x512.size a ≤ S2048x11264.size a := by
  have := b.isLt; intro a; fin_cases a
  · show 0 + 2048 ≤ 2048; omega
  · show 512 * b.val + 512 ≤ 11264; omega
theorem col'_inb (b : Fin 11) : ∀ a, colOff' b a + S2048x512.size a ≤ S2048x11264.size a := by
  have := b.isLt; intro a; fin_cases a
  · show 0 + 2048 ≤ 2048; omega
  · show 512 * (11 + b.val) + 512 ≤ 11264; omega

instance {n : Nat} (s : Fin n) : ClosedOff (slotOff s) := ⟨slotOff s, rfl⟩
instance {n : Nat} (b : Fin n) : ClosedOff (rowOff b) := ⟨rowOff b, rfl⟩
instance (b : Fin 11) : ClosedOff (colOff b) := ⟨colOff b, rfl⟩
instance (b : Fin 11) : ClosedOff (colOff' b) := ⟨colOff' b, rfl⟩

/-! ## Slots, counters, blocks -/
/-- Slot `s` of the `xB` buffer, as the body slices and squeezes it. -/
def xSlot (s : Fin 2) : Memref sig .tc .vmem S512x2048 .f32 :=
  (xB.slice (Rect.unit (s := S2x512x2048) (slotOff s) S1x512x2048.size (slot2_inb s)) (fun _ => rfl)).squeeze S512x2048 squeezes_S1x512x2048_S512x2048
/-- That slot's transfer counter. -/
def xCell (s : Fin 2) : DmaSems sig S_ := (cc0_scoped1.slice (Rect.unit (s := S2) (cellOff s) S1.size (cell2_inb s))).squeeze S_ squeezes_S1_S_
/-- Slot `s` of the `wB` buffer, as the body slices and squeezes it. -/
def wSlot (s : Fin 3) : Memref sig .tc .vmem S2048x512 .bf16 :=
  (wB.slice (Rect.unit (s := S3x2048x512) (slotOff s) S1x2048x512.size (slot3w_inb s)) (fun _ => rfl)).squeeze S2048x512 squeezes_S1x2048x512_S2048x512
/-- That slot's transfer counter. -/
def wCell (s : Fin 3) : DmaSems sig S_ := (cc0_scoped4.slice (Rect.unit (s := S3) (cellOff s) S1.size (cell3_inb s))).squeeze S_ squeezes_S1_S_
/-- Slot `s` of the `vB` buffer, as the body slices and squeezes it. -/
def vSlot (s : Fin 3) : Memref sig .tc .vmem S2048x512 .bf16 :=
  (vB.slice (Rect.unit (s := S3x2048x512) (slotOff s) S1x2048x512.size (slot3w_inb s)) (fun _ => rfl)).squeeze S2048x512 squeezes_S1x2048x512_S2048x512
/-- That slot's transfer counter. -/
def vCell (s : Fin 3) : DmaSems sig S_ := (cc0_scoped6.slice (Rect.unit (s := S3) (cellOff s) S1.size (cell3_inb s))).squeeze S_ squeezes_S1_S_
/-- Slot `s` of the `dB` buffer, as the body slices and squeezes it. -/
def dSlot (s : Fin 3) : Memref sig .tc .vmem S512x2048 .bf16 :=
  (dB.slice (Rect.unit (s := S3x512x2048) (slotOff s) S1x512x2048.size (slot3_inb s)) (fun _ => rfl)).squeeze S512x2048 squeezes_S1x512x2048_S512x2048
/-- That slot's transfer counter. -/
def dCell (s : Fin 3) : DmaSems sig S_ := (cc0_scoped8.slice (Rect.unit (s := S3) (cellOff s) S1.size (cell3_inb s))).squeeze S_ squeezes_S1_S_
/-- Slot `s` of the `oB` buffer, as the body slices and squeezes it. -/
def oSlot (s : Fin 2) : Memref sig .tc .vmem S512x2048 .f32 :=
  (oB.slice (Rect.unit (s := S2x512x2048) (slotOff s) S1x512x2048.size (slot2_inb s)) (fun _ => rfl)).squeeze S512x2048 squeezes_S1x512x2048_S512x2048
/-- That slot's transfer counter. -/
def oCell (s : Fin 2) : DmaSems sig S_ := (cc0_scoped11.slice (Rect.unit (s := S2) (cellOff s) S1.size (cell2_inb s))).squeeze S_ squeezes_S1_S_
/-- Slot `s` of the `yB` buffer, as the body slices and squeezes it. -/
def ySlot (s : Fin 2) : Memref sig .tc .vmem S512x2048 .bf16 :=
  (yB.slice (Rect.unit (s := S2x512x2048) (slotOff s) S1x512x2048.size (slot2_inb s)) (fun _ => rfl)).squeeze S512x2048 squeezes_S1x512x2048_S512x2048
/-- That slot's transfer counter. -/
def yCell (s : Fin 2) : DmaSems sig S_ := (cc0_scoped13.slice (Rect.unit (s := S2) (cellOff s) S1.size (cell2_inb s))).squeeze S_ squeezes_S1_S_
/-- Block `b` of the array the `x` slots exchange with. -/
def xBlk (b : Fin 64) : Memref sig .tc .hbm S512x2048 .f32 :=
  xM.slice (Rect.unit (s := S32768x2048) (rowOff b) S512x2048.size (row64_inb b)) (fun _ => rfl)
/-- Block `b` of the array the `w` slots exchange with. -/
def wBlk (b : Fin 11) : Memref sig .tc .hbm S2048x512 .bf16 :=
  wM.slice (Rect.unit (s := S2048x11264) (colOff b) S2048x512.size (col_inb b)) (fun _ => rfl)
/-- Block `b` of the array the `v` slots exchange with. -/
def vBlk (b : Fin 11) : Memref sig .tc .hbm S2048x512 .bf16 :=
  wM.slice (Rect.unit (s := S2048x11264) (colOff' b) S2048x512.size (col'_inb b)) (fun _ => rfl)
/-- Block `b` of the array the `d` slots exchange with. -/
def dBlk (b : Fin 11) : Memref sig .tc .hbm S512x2048 .bf16 :=
  dM.slice (Rect.unit (s := S5632x2048) (rowOff b) S512x2048.size (row11_inb b)) (fun _ => rfl)
/-- Block `b` of the array the `o` slots exchange with. -/
def oBlk (b : Fin 64) : Memref sig .tc .hbm S512x2048 .f32 :=
  oM.slice (Rect.unit (s := S32768x2048) (rowOff b) S512x2048.size (row64_inb b)) (fun _ => rfl)
/-- Block `b` of the array the `y` slots exchange with. -/
def yBlk (b : Fin 64) : Memref sig .tc .hbm S512x2048 .bf16 :=
  yM.slice (Rect.unit (s := S32768x2048) (rowOff b) S512x2048.size (row64_inb b)) (fun _ => rfl)
/-! ## The printed slices are these -/
theorem xCell_congr {off : Fin 1 → Nat} {s : Fin 2} (e : off = cellOff s) (hh) :
    (cc0_scoped1.slice (Rect.unit (s := S2) off S1.size hh)).squeeze S_ squeezes_S1_S_ = xCell s :=
  congrArg (fun A : DmaSems sig S1 => A.squeeze S_ squeezes_S1_S_) (SemArray.slice_unit_congr _ e _ _)
theorem xSlot_congr {off : Fin 3 → Nat} {s : Fin 2} (e : off = slotOff s) (hh hs) :
    (xB.slice (Rect.unit (s := S2x512x2048) off S1x512x2048.size hh) hs).squeeze S512x2048 squeezes_S1x512x2048_S512x2048 = xSlot s :=
  congrArg (fun M : Memref sig .tc .vmem S1x512x2048 .f32 => M.squeeze S512x2048 squeezes_S1x512x2048_S512x2048) (Memref.slice_unit_congr _ e _ _ _ _)
theorem xBlk_congr {off : Fin 2 → Nat} {b : Fin 64} (e : off = rowOff b) (hh hs) :
    xM.slice (Rect.unit (s := S32768x2048) off S512x2048.size hh) hs = xBlk b :=
  Memref.slice_unit_congr _ e _ _ _ (fun _ => rfl)
theorem wCell_congr {off : Fin 1 → Nat} {s : Fin 3} (e : off = cellOff s) (hh) :
    (cc0_scoped4.slice (Rect.unit (s := S3) off S1.size hh)).squeeze S_ squeezes_S1_S_ = wCell s :=
  congrArg (fun A : DmaSems sig S1 => A.squeeze S_ squeezes_S1_S_) (SemArray.slice_unit_congr _ e _ _)
theorem wSlot_congr {off : Fin 3 → Nat} {s : Fin 3} (e : off = slotOff s) (hh hs) :
    (wB.slice (Rect.unit (s := S3x2048x512) off S1x2048x512.size hh) hs).squeeze S2048x512 squeezes_S1x2048x512_S2048x512 = wSlot s :=
  congrArg (fun M : Memref sig .tc .vmem S1x2048x512 .bf16 => M.squeeze S2048x512 squeezes_S1x2048x512_S2048x512) (Memref.slice_unit_congr _ e _ _ _ _)
theorem wBlk_congr {off : Fin 2 → Nat} {b : Fin 11} (e : off = colOff b) (hh hs) :
    wM.slice (Rect.unit (s := S2048x11264) off S2048x512.size hh) hs = wBlk b :=
  Memref.slice_unit_congr _ e _ _ _ (fun _ => rfl)
theorem vCell_congr {off : Fin 1 → Nat} {s : Fin 3} (e : off = cellOff s) (hh) :
    (cc0_scoped6.slice (Rect.unit (s := S3) off S1.size hh)).squeeze S_ squeezes_S1_S_ = vCell s :=
  congrArg (fun A : DmaSems sig S1 => A.squeeze S_ squeezes_S1_S_) (SemArray.slice_unit_congr _ e _ _)
theorem vSlot_congr {off : Fin 3 → Nat} {s : Fin 3} (e : off = slotOff s) (hh hs) :
    (vB.slice (Rect.unit (s := S3x2048x512) off S1x2048x512.size hh) hs).squeeze S2048x512 squeezes_S1x2048x512_S2048x512 = vSlot s :=
  congrArg (fun M : Memref sig .tc .vmem S1x2048x512 .bf16 => M.squeeze S2048x512 squeezes_S1x2048x512_S2048x512) (Memref.slice_unit_congr _ e _ _ _ _)
theorem vBlk_congr {off : Fin 2 → Nat} {b : Fin 11} (e : off = colOff' b) (hh hs) :
    wM.slice (Rect.unit (s := S2048x11264) off S2048x512.size hh) hs = vBlk b :=
  Memref.slice_unit_congr _ e _ _ _ (fun _ => rfl)
theorem dCell_congr {off : Fin 1 → Nat} {s : Fin 3} (e : off = cellOff s) (hh) :
    (cc0_scoped8.slice (Rect.unit (s := S3) off S1.size hh)).squeeze S_ squeezes_S1_S_ = dCell s :=
  congrArg (fun A : DmaSems sig S1 => A.squeeze S_ squeezes_S1_S_) (SemArray.slice_unit_congr _ e _ _)
theorem dSlot_congr {off : Fin 3 → Nat} {s : Fin 3} (e : off = slotOff s) (hh hs) :
    (dB.slice (Rect.unit (s := S3x512x2048) off S1x512x2048.size hh) hs).squeeze S512x2048 squeezes_S1x512x2048_S512x2048 = dSlot s :=
  congrArg (fun M : Memref sig .tc .vmem S1x512x2048 .bf16 => M.squeeze S512x2048 squeezes_S1x512x2048_S512x2048) (Memref.slice_unit_congr _ e _ _ _ _)
theorem dBlk_congr {off : Fin 2 → Nat} {b : Fin 11} (e : off = rowOff b) (hh hs) :
    dM.slice (Rect.unit (s := S5632x2048) off S512x2048.size hh) hs = dBlk b :=
  Memref.slice_unit_congr _ e _ _ _ (fun _ => rfl)
theorem oCell_congr {off : Fin 1 → Nat} {s : Fin 2} (e : off = cellOff s) (hh) :
    (cc0_scoped11.slice (Rect.unit (s := S2) off S1.size hh)).squeeze S_ squeezes_S1_S_ = oCell s :=
  congrArg (fun A : DmaSems sig S1 => A.squeeze S_ squeezes_S1_S_) (SemArray.slice_unit_congr _ e _ _)
theorem oSlot_congr {off : Fin 3 → Nat} {s : Fin 2} (e : off = slotOff s) (hh hs) :
    (oB.slice (Rect.unit (s := S2x512x2048) off S1x512x2048.size hh) hs).squeeze S512x2048 squeezes_S1x512x2048_S512x2048 = oSlot s :=
  congrArg (fun M : Memref sig .tc .vmem S1x512x2048 .f32 => M.squeeze S512x2048 squeezes_S1x512x2048_S512x2048) (Memref.slice_unit_congr _ e _ _ _ _)
theorem oBlk_congr {off : Fin 2 → Nat} {b : Fin 64} (e : off = rowOff b) (hh hs) :
    oM.slice (Rect.unit (s := S32768x2048) off S512x2048.size hh) hs = oBlk b :=
  Memref.slice_unit_congr _ e _ _ _ (fun _ => rfl)
theorem yCell_congr {off : Fin 1 → Nat} {s : Fin 2} (e : off = cellOff s) (hh) :
    (cc0_scoped13.slice (Rect.unit (s := S2) off S1.size hh)).squeeze S_ squeezes_S1_S_ = yCell s :=
  congrArg (fun A : DmaSems sig S1 => A.squeeze S_ squeezes_S1_S_) (SemArray.slice_unit_congr _ e _ _)
theorem ySlot_congr {off : Fin 3 → Nat} {s : Fin 2} (e : off = slotOff s) (hh hs) :
    (yB.slice (Rect.unit (s := S2x512x2048) off S1x512x2048.size hh) hs).squeeze S512x2048 squeezes_S1x512x2048_S512x2048 = ySlot s :=
  congrArg (fun M : Memref sig .tc .vmem S1x512x2048 .bf16 => M.squeeze S512x2048 squeezes_S1x512x2048_S512x2048) (Memref.slice_unit_congr _ e _ _ _ _)
theorem yBlk_congr {off : Fin 2 → Nat} {b : Fin 64} (e : off = rowOff b) (hh hs) :
    yM.slice (Rect.unit (s := S32768x2048) off S512x2048.size hh) hs = yBlk b :=
  Memref.slice_unit_congr _ e _ _ _ (fun _ => rfl)
theorem off15_all : ∀ k : Fin k0_t1_loop.trips, k.val % 11 = 10 → k.val < 703 → k0_off15 (w11 k) = cellOff (Ring.sl 2 (k.val / 11 + 1)) := by decide +kernel
@[sl_canon] theorem xCell_15 (k : Fin k0_t1_loop.trips) (h10 : k.val % 11 = 10) (h703 : k.val < 703) (hh) :
    (cc0_scoped1.slice (Rect.unit (s := S2) (k0_off15 (w11 k)) S1.size hh)).squeeze S_ squeezes_S1_S_ = xCell (Ring.sl 2 (k.val / 11 + 1)) := xCell_congr (off15_all k h10 h703) _
theorem off16_all : ∀ k : Fin k0_t1_loop.trips, k.val % 11 = 10 → k.val < 703 → k0_off16 (w11 k) = slotOff (Ring.sl 2 (k.val / 11 + 1)) := by decide +kernel
@[sl_canon] theorem xSlot_16 (k : Fin k0_t1_loop.trips) (h10 : k.val % 11 = 10) (h703 : k.val < 703) (hh hs) :
    (xB.slice (Rect.unit (s := S2x512x2048) (k0_off16 (w11 k)) S1x512x2048.size hh) hs).squeeze S512x2048 squeezes_S1x512x2048_S512x2048 = xSlot (Ring.sl 2 (k.val / 11 + 1)) := xSlot_congr (off16_all k h10 h703) _ _
theorem off17_all : ∀ k : Fin k0_t1_loop.trips, k.val % 11 = 10 → k.val < 703 → k0_off17 (w25 k) (w26 k) = rowOff (Ring.bk 64 (k.val / 11 + 1)) := by decide +kernel
@[sl_canon] theorem xBlk_17 (k : Fin k0_t1_loop.trips) (h10 : k.val % 11 = 10) (h703 : k.val < 703) (hh hs) :
    xM.slice (Rect.unit (s := S32768x2048) (k0_off17 (w25 k) (w26 k)) S512x2048.size hh) hs = xBlk (Ring.bk 64 (k.val / 11 + 1)) := xBlk_congr (off17_all k h10 h703) _ _
theorem off18_all : ∀ k : Fin k0_t1_loop.trips, k.val < 702 → k0_off18 (w14 k) = cellOff (Ring.sl 3 (k.val + 2)) := by decide +kernel
@[sl_canon] theorem wCell_18 (k : Fin k0_t1_loop.trips) (h702 : k.val < 702) (hh) :
    (cc0_scoped4.slice (Rect.unit (s := S3) (k0_off18 (w14 k)) S1.size hh)).squeeze S_ squeezes_S1_S_ = wCell (Ring.sl 3 (k.val + 2)) := wCell_congr (off18_all k h702) _
theorem off19_all : ∀ k : Fin k0_t1_loop.trips, k.val < 702 → k0_off19 (w14 k) = slotOff (Ring.sl 3 (k.val + 2)) := by decide +kernel
@[sl_canon] theorem wSlot_19 (k : Fin k0_t1_loop.trips) (h702 : k.val < 702) (hh hs) :
    (wB.slice (Rect.unit (s := S3x2048x512) (k0_off19 (w14 k)) S1x2048x512.size hh) hs).squeeze S2048x512 squeezes_S1x2048x512_S2048x512 = wSlot (Ring.sl 3 (k.val + 2)) := wSlot_congr (off19_all k h702) _ _
theorem off20_all : ∀ k : Fin k0_t1_loop.trips, k.val < 702 → k0_off20 (w26 k) = colOff (Ring.sl 11 (k.val + 2)) := by decide +kernel
@[sl_canon] theorem wBlk_20 (k : Fin k0_t1_loop.trips) (h702 : k.val < 702) (hh hs) :
    wM.slice (Rect.unit (s := S2048x11264) (k0_off20 (w26 k)) S2048x512.size hh) hs = wBlk (Ring.sl 11 (k.val + 2)) := wBlk_congr (off20_all k h702) _ _
theorem off21_all : ∀ k : Fin k0_t1_loop.trips, k.val < 702 → k0_off21 (w14 k) = cellOff (Ring.sl 3 (k.val + 2)) := by decide +kernel
@[sl_canon] theorem vCell_21 (k : Fin k0_t1_loop.trips) (h702 : k.val < 702) (hh) :
    (cc0_scoped6.slice (Rect.unit (s := S3) (k0_off21 (w14 k)) S1.size hh)).squeeze S_ squeezes_S1_S_ = vCell (Ring.sl 3 (k.val + 2)) := vCell_congr (off21_all k h702) _
theorem off22_all : ∀ k : Fin k0_t1_loop.trips, k.val < 702 → k0_off22 (w14 k) = slotOff (Ring.sl 3 (k.val + 2)) := by decide +kernel
@[sl_canon] theorem vSlot_22 (k : Fin k0_t1_loop.trips) (h702 : k.val < 702) (hh hs) :
    (vB.slice (Rect.unit (s := S3x2048x512) (k0_off22 (w14 k)) S1x2048x512.size hh) hs).squeeze S2048x512 squeezes_S1x2048x512_S2048x512 = vSlot (Ring.sl 3 (k.val + 2)) := vSlot_congr (off22_all k h702) _ _
theorem off23_all : ∀ k : Fin k0_t1_loop.trips, k.val < 702 → k0_off23 (w26 k) = colOff' (Ring.sl 11 (k.val + 2)) := by decide +kernel
@[sl_canon] theorem vBlk_23 (k : Fin k0_t1_loop.trips) (h702 : k.val < 702) (hh hs) :
    wM.slice (Rect.unit (s := S2048x11264) (k0_off23 (w26 k)) S2048x512.size hh) hs = vBlk (Ring.sl 11 (k.val + 2)) := vBlk_congr (off23_all k h702) _ _
theorem off24_all : ∀ k : Fin k0_t1_loop.trips, k.val < 702 → k0_off24 (w14 k) = cellOff (Ring.sl 3 (k.val + 2)) := by decide +kernel
@[sl_canon] theorem dCell_24 (k : Fin k0_t1_loop.trips) (h702 : k.val < 702) (hh) :
    (cc0_scoped8.slice (Rect.unit (s := S3) (k0_off24 (w14 k)) S1.size hh)).squeeze S_ squeezes_S1_S_ = dCell (Ring.sl 3 (k.val + 2)) := dCell_congr (off24_all k h702) _
theorem off25_all : ∀ k : Fin k0_t1_loop.trips, k.val < 702 → k0_off25 (w14 k) = slotOff (Ring.sl 3 (k.val + 2)) := by decide +kernel
@[sl_canon] theorem dSlot_25 (k : Fin k0_t1_loop.trips) (h702 : k.val < 702) (hh hs) :
    (dB.slice (Rect.unit (s := S3x512x2048) (k0_off25 (w14 k)) S1x512x2048.size hh) hs).squeeze S512x2048 squeezes_S1x512x2048_S512x2048 = dSlot (Ring.sl 3 (k.val + 2)) := dSlot_congr (off25_all k h702) _ _
theorem off26_all : ∀ k : Fin k0_t1_loop.trips, k.val < 702 → k0_off26 (w26 k) = rowOff (Ring.sl 11 (k.val + 2)) := by decide +kernel
@[sl_canon] theorem dBlk_26 (k : Fin k0_t1_loop.trips) (h702 : k.val < 702) (hh hs) :
    dM.slice (Rect.unit (s := S5632x2048) (k0_off26 (w26 k)) S512x2048.size hh) hs = dBlk (Ring.sl 11 (k.val + 2)) := dBlk_congr (off26_all k h702) _ _
theorem off27_all : ∀ k : Fin k0_t1_loop.trips, k.val % 11 = 0 → k0_off27 (wi k) = cellOff (Ring.sl 2 (k.val / 11)) := by decide +kernel
@[sl_canon] theorem xCell_27 (k : Fin k0_t1_loop.trips) (h0 : k.val % 11 = 0) (hh) :
    (cc0_scoped1.slice (Rect.unit (s := S2) (k0_off27 (wi k)) S1.size hh)).squeeze S_ squeezes_S1_S_ = xCell (Ring.sl 2 (k.val / 11)) := xCell_congr (off27_all k h0) _
theorem off28_all : ∀ k : Fin k0_t1_loop.trips, k.val % 11 = 0 → k0_off28 (wi k) = slotOff (Ring.sl 2 (k.val / 11)) := by decide +kernel
@[sl_canon] theorem xSlot_28 (k : Fin k0_t1_loop.trips) (h0 : k.val % 11 = 0) (hh hs) :
    (xB.slice (Rect.unit (s := S2x512x2048) (k0_off28 (wi k)) S1x512x2048.size hh) hs).squeeze S512x2048 squeezes_S1x512x2048_S512x2048 = xSlot (Ring.sl 2 (k.val / 11)) := xSlot_congr (off28_all k h0) _ _
theorem off29_all : ∀ k : Fin k0_t1_loop.trips, k.val % 11 = 0 → k0_off29 (w25 k) = rowOff (Ring.bk 64 (k.val / 11)) := by decide +kernel
@[sl_canon] theorem xBlk_29 (k : Fin k0_t1_loop.trips) (h0 : k.val % 11 = 0) (hh hs) :
    xM.slice (Rect.unit (s := S32768x2048) (k0_off29 (w25 k)) S512x2048.size hh) hs = xBlk (Ring.bk 64 (k.val / 11)) := xBlk_congr (off29_all k h0) _ _
theorem off30_all : ∀ k : Fin k0_t1_loop.trips, k0_off30 (wk k) = cellOff (Ring.sl 3 k.val) := by decide +kernel
@[sl_canon] theorem wCell_30 (k : Fin k0_t1_loop.trips)  (hh) :
    (cc0_scoped4.slice (Rect.unit (s := S3) (k0_off30 (wk k)) S1.size hh)).squeeze S_ squeezes_S1_S_ = wCell (Ring.sl 3 k.val) := wCell_congr (off30_all k ) _
theorem off31_all : ∀ k : Fin k0_t1_loop.trips, k0_off31 (wk k) = slotOff (Ring.sl 3 k.val) := by decide +kernel
@[sl_canon] theorem wSlot_31 (k : Fin k0_t1_loop.trips)  (hh hs) :
    (wB.slice (Rect.unit (s := S3x2048x512) (k0_off31 (wk k)) S1x2048x512.size hh) hs).squeeze S2048x512 squeezes_S1x2048x512_S2048x512 = wSlot (Ring.sl 3 k.val) := wSlot_congr (off31_all k ) _ _
theorem off32_all : ∀ k : Fin k0_t1_loop.trips, k0_off32 (w26 k) = colOff (Ring.sl 11 k.val) := by decide +kernel
@[sl_canon] theorem wBlk_32 (k : Fin k0_t1_loop.trips)  (hh hs) :
    wM.slice (Rect.unit (s := S2048x11264) (k0_off32 (w26 k)) S2048x512.size hh) hs = wBlk (Ring.sl 11 k.val) := wBlk_congr (off32_all k ) _ _
theorem off33_all : ∀ k : Fin k0_t1_loop.trips, k0_off33 (wk k) = cellOff (Ring.sl 3 k.val) := by decide +kernel
@[sl_canon] theorem vCell_33 (k : Fin k0_t1_loop.trips)  (hh) :
    (cc0_scoped6.slice (Rect.unit (s := S3) (k0_off33 (wk k)) S1.size hh)).squeeze S_ squeezes_S1_S_ = vCell (Ring.sl 3 k.val) := vCell_congr (off33_all k ) _
theorem off34_all : ∀ k : Fin k0_t1_loop.trips, k0_off34 (wk k) = slotOff (Ring.sl 3 k.val) := by decide +kernel
@[sl_canon] theorem vSlot_34 (k : Fin k0_t1_loop.trips)  (hh hs) :
    (vB.slice (Rect.unit (s := S3x2048x512) (k0_off34 (wk k)) S1x2048x512.size hh) hs).squeeze S2048x512 squeezes_S1x2048x512_S2048x512 = vSlot (Ring.sl 3 k.val) := vSlot_congr (off34_all k ) _ _
theorem off35_all : ∀ k : Fin k0_t1_loop.trips, k0_off35 (w26 k) = colOff' (Ring.sl 11 k.val) := by decide +kernel
@[sl_canon] theorem vBlk_35 (k : Fin k0_t1_loop.trips)  (hh hs) :
    wM.slice (Rect.unit (s := S2048x11264) (k0_off35 (w26 k)) S2048x512.size hh) hs = vBlk (Ring.sl 11 k.val) := vBlk_congr (off35_all k ) _ _
theorem off36_all : ∀ k : Fin k0_t1_loop.trips, k0_off36 (wk k) = cellOff (Ring.sl 3 k.val) := by decide +kernel
@[sl_canon] theorem dCell_36 (k : Fin k0_t1_loop.trips)  (hh) :
    (cc0_scoped8.slice (Rect.unit (s := S3) (k0_off36 (wk k)) S1.size hh)).squeeze S_ squeezes_S1_S_ = dCell (Ring.sl 3 k.val) := dCell_congr (off36_all k ) _
theorem off37_all : ∀ k : Fin k0_t1_loop.trips, k0_off37 (wk k) = slotOff (Ring.sl 3 k.val) := by decide +kernel
@[sl_canon] theorem dSlot_37 (k : Fin k0_t1_loop.trips)  (hh hs) :
    (dB.slice (Rect.unit (s := S3x512x2048) (k0_off37 (wk k)) S1x512x2048.size hh) hs).squeeze S512x2048 squeezes_S1x512x2048_S512x2048 = dSlot (Ring.sl 3 k.val) := dSlot_congr (off37_all k ) _ _
theorem off38_all : ∀ k : Fin k0_t1_loop.trips, k0_off38 (w26 k) = rowOff (Ring.sl 11 k.val) := by decide +kernel
@[sl_canon] theorem dBlk_38 (k : Fin k0_t1_loop.trips)  (hh hs) :
    dM.slice (Rect.unit (s := S5632x2048) (k0_off38 (w26 k)) S512x2048.size hh) hs = dBlk (Ring.sl 11 k.val) := dBlk_congr (off38_all k ) _ _
theorem off48_all : ∀ k : Fin k0_t1_loop.trips, k0_off48 (wi k) = cellOff (Ring.sl 2 (k.val / 11)) := by decide +kernel
@[sl_canon] theorem oCell_48 (k : Fin k0_t1_loop.trips)  (hh) :
    (cc0_scoped11.slice (Rect.unit (s := S2) (k0_off48 (wi k)) S1.size hh)).squeeze S_ squeezes_S1_S_ = oCell (Ring.sl 2 (k.val / 11)) := oCell_congr (off48_all k ) _
theorem off50_all : ∀ k : Fin k0_t1_loop.trips, k0_off50 (wi k) = slotOff (Ring.sl 2 (k.val / 11)) := by decide +kernel
@[sl_canon] theorem oSlot_50 (k : Fin k0_t1_loop.trips)  (hh hs) :
    (oB.slice (Rect.unit (s := S2x512x2048) (k0_off50 (wi k)) S1x512x2048.size hh) hs).squeeze S512x2048 squeezes_S1x512x2048_S512x2048 = oSlot (Ring.sl 2 (k.val / 11)) := oSlot_congr (off50_all k ) _ _
theorem off49_all : ∀ k : Fin k0_t1_loop.trips, k0_off49 (w25 k) = rowOff (Ring.bk 64 (k.val / 11)) := by decide +kernel
@[sl_canon] theorem oBlk_49 (k : Fin k0_t1_loop.trips)  (hh hs) :
    oM.slice (Rect.unit (s := S32768x2048) (k0_off49 (w25 k)) S512x2048.size hh) hs = oBlk (Ring.bk 64 (k.val / 11)) := oBlk_congr (off49_all k ) _ _
theorem off51_all : ∀ k : Fin k0_t1_loop.trips, k0_off51 (wi k) = cellOff (Ring.sl 2 (k.val / 11)) := by decide +kernel
@[sl_canon] theorem yCell_51 (k : Fin k0_t1_loop.trips)  (hh) :
    (cc0_scoped13.slice (Rect.unit (s := S2) (k0_off51 (wi k)) S1.size hh)).squeeze S_ squeezes_S1_S_ = yCell (Ring.sl 2 (k.val / 11)) := yCell_congr (off51_all k ) _
theorem off53_all : ∀ k : Fin k0_t1_loop.trips, k0_off53 (wi k) = slotOff (Ring.sl 2 (k.val / 11)) := by decide +kernel
@[sl_canon] theorem ySlot_53 (k : Fin k0_t1_loop.trips)  (hh hs) :
    (yB.slice (Rect.unit (s := S2x512x2048) (k0_off53 (wi k)) S1x512x2048.size hh) hs).squeeze S512x2048 squeezes_S1x512x2048_S512x2048 = ySlot (Ring.sl 2 (k.val / 11)) := ySlot_congr (off53_all k ) _ _
theorem off52_all : ∀ k : Fin k0_t1_loop.trips, k0_off52 (w25 k) = rowOff (Ring.bk 64 (k.val / 11)) := by decide +kernel
@[sl_canon] theorem yBlk_52 (k : Fin k0_t1_loop.trips)  (hh hs) :
    yM.slice (Rect.unit (s := S32768x2048) (k0_off52 (w25 k)) S512x2048.size hh) hs = yBlk (Ring.bk 64 (k.val / 11)) := yBlk_congr (off52_all k ) _ _
theorem off54_all : ∀ k : Fin k0_t1_loop.trips, k.val % 11 = 0 → 0 < k.val → k0_off54 (w22 k) = cellOff (Ring.sl 2 (k.val / 11 + 1)) := by decide +kernel
@[sl_canon] theorem oCell_54 (k : Fin k0_t1_loop.trips) (h0 : k.val % 11 = 0) (hp : 0 < k.val) (hh) :
    (cc0_scoped11.slice (Rect.unit (s := S2) (k0_off54 (w22 k)) S1.size hh)).squeeze S_ squeezes_S1_S_ = oCell (Ring.sl 2 (k.val / 11 + 1)) := oCell_congr (off54_all k h0 hp) _
theorem off56_all : ∀ k : Fin k0_t1_loop.trips, k.val % 11 = 0 → 0 < k.val → k0_off56 (w22 k) = slotOff (Ring.sl 2 (k.val / 11 + 1)) := by decide +kernel
@[sl_canon] theorem oSlot_56 (k : Fin k0_t1_loop.trips) (h0 : k.val % 11 = 0) (hp : 0 < k.val) (hh hs) :
    (oB.slice (Rect.unit (s := S2x512x2048) (k0_off56 (w22 k)) S1x512x2048.size hh) hs).squeeze S512x2048 squeezes_S1x512x2048_S512x2048 = oSlot (Ring.sl 2 (k.val / 11 + 1)) := oSlot_congr (off56_all k h0 hp) _ _
theorem off55_all : ∀ k : Fin k0_t1_loop.trips, k.val % 11 = 0 → 0 < k.val → k0_off55 (w25 k) (w26 k) = rowOff (Ring.bk 64 (k.val / 11 - 1)) := by decide +kernel
@[sl_canon] theorem oBlk_55 (k : Fin k0_t1_loop.trips) (h0 : k.val % 11 = 0) (hp : 0 < k.val) (hh hs) :
    oM.slice (Rect.unit (s := S32768x2048) (k0_off55 (w25 k) (w26 k)) S512x2048.size hh) hs = oBlk (Ring.bk 64 (k.val / 11 - 1)) := oBlk_congr (off55_all k h0 hp) _ _
theorem off57_all : ∀ k : Fin k0_t1_loop.trips, k.val % 11 = 0 → 0 < k.val → k0_off57 (w22 k) = cellOff (Ring.sl 2 (k.val / 11 + 1)) := by decide +kernel
@[sl_canon] theorem yCell_57 (k : Fin k0_t1_loop.trips) (h0 : k.val % 11 = 0) (hp : 0 < k.val) (hh) :
    (cc0_scoped13.slice (Rect.unit (s := S2) (k0_off57 (w22 k)) S1.size hh)).squeeze S_ squeezes_S1_S_ = yCell (Ring.sl 2 (k.val / 11 + 1)) := yCell_congr (off57_all k h0 hp) _
theorem off59_all : ∀ k : Fin k0_t1_loop.trips, k.val % 11 = 0 → 0 < k.val → k0_off59 (w22 k) = slotOff (Ring.sl 2 (k.val / 11 + 1)) := by decide +kernel
@[sl_canon] theorem ySlot_59 (k : Fin k0_t1_loop.trips) (h0 : k.val % 11 = 0) (hp : 0 < k.val) (hh hs) :
    (yB.slice (Rect.unit (s := S2x512x2048) (k0_off59 (w22 k)) S1x512x2048.size hh) hs).squeeze S512x2048 squeezes_S1x512x2048_S512x2048 = ySlot (Ring.sl 2 (k.val / 11 + 1)) := ySlot_congr (off59_all k h0 hp) _ _
theorem off58_all : ∀ k : Fin k0_t1_loop.trips, k.val % 11 = 0 → 0 < k.val → k0_off58 (w25 k) (w26 k) = rowOff (Ring.bk 64 (k.val / 11 - 1)) := by decide +kernel
@[sl_canon] theorem yBlk_58 (k : Fin k0_t1_loop.trips) (h0 : k.val % 11 = 0) (hp : 0 < k.val) (hh hs) :
    yM.slice (Rect.unit (s := S32768x2048) (k0_off58 (w25 k) (w26 k)) S512x2048.size hh) hs = yBlk (Ring.bk 64 (k.val / 11 - 1)) := yBlk_congr (off58_all k h0 hp) _ _
/-! ## The windows the body loads and stores through the whole buffers -/
theorem off39_all : ∀ k : Fin k0_t1_loop.trips, k0_off39 (wi k) = slotOff (Ring.sl 2 (k.val / 11)) := by decide +kernel
instance (k : Fin k0_t1_loop.trips) : ClosedOff (k0_off39 (wi k)) := ⟨slotOff (Ring.sl 2 (k.val / 11)), off39_all k⟩
theorem off40_all : ∀ k : Fin k0_t1_loop.trips, k0_off40 (wi k) = slotOff (Ring.sl 2 (k.val / 11)) := by decide +kernel
instance (k : Fin k0_t1_loop.trips) : ClosedOff (k0_off40 (wi k)) := ⟨slotOff (Ring.sl 2 (k.val / 11)), off40_all k⟩
theorem off41_all : ∀ k : Fin k0_t1_loop.trips, k0_off41 (wk k) = slotOff (Ring.sl 3 k.val) := by decide +kernel
instance (k : Fin k0_t1_loop.trips) : ClosedOff (k0_off41 (wk k)) := ⟨slotOff (Ring.sl 3 k.val), off41_all k⟩
theorem off42_all : ∀ k : Fin k0_t1_loop.trips, k0_off42 (wk k) = slotOff (Ring.sl 3 k.val) := by decide +kernel
instance (k : Fin k0_t1_loop.trips) : ClosedOff (k0_off42 (wk k)) := ⟨slotOff (Ring.sl 3 k.val), off42_all k⟩
theorem off43_all : ∀ k : Fin k0_t1_loop.trips, k0_off43 (wi k) = slotOff (Ring.sl 2 (k.val / 11)) := by decide +kernel
instance (k : Fin k0_t1_loop.trips) : ClosedOff (k0_off43 (wi k)) := ⟨slotOff (Ring.sl 2 (k.val / 11)), off43_all k⟩
theorem off44_all : ∀ k : Fin k0_t1_loop.trips, k0_off44 (wk k) = slotOff (Ring.sl 3 k.val) := by decide +kernel
instance (k : Fin k0_t1_loop.trips) : ClosedOff (k0_off44 (wk k)) := ⟨slotOff (Ring.sl 3 k.val), off44_all k⟩
theorem off45_all : ∀ k : Fin k0_t1_loop.trips, k0_off45 (wi k) = slotOff (Ring.sl 2 (k.val / 11)) := by decide +kernel
instance (k : Fin k0_t1_loop.trips) : ClosedOff (k0_off45 (wi k)) := ⟨slotOff (Ring.sl 2 (k.val / 11)), off45_all k⟩
theorem off46_all : ∀ k : Fin k0_t1_loop.trips, k0_off46 (wi k) = slotOff (Ring.sl 2 (k.val / 11)) := by decide +kernel
instance (k : Fin k0_t1_loop.trips) : ClosedOff (k0_off46 (wi k)) := ⟨slotOff (Ring.sl 2 (k.val / 11)), off46_all k⟩
theorem off47_all : ∀ k : Fin k0_t1_loop.trips, k0_off47 (wi k) = slotOff (Ring.sl 2 (k.val / 11)) := by decide +kernel
instance (k : Fin k0_t1_loop.trips) : ClosedOff (k0_off47 (wi k)) := ⟨slotOff (Ring.sl 2 (k.val / 11)), off47_all k⟩
/-! ## The prologue's and the epilogue's slices -/
@[sl_canon] theorem xCell_L1  (hh) :
    (cc0_scoped1.slice (Rect.unit (s := S2) k0_off1 S1.size hh)).squeeze S_ squeezes_S1_S_ = xCell 0 := xCell_congr (by decide +kernel) _
@[sl_canon] theorem xSlot_L2  (hh hs) :
    (xB.slice (Rect.unit (s := S2x512x2048) k0_off2 S1x512x2048.size hh) hs).squeeze S512x2048 squeezes_S1x512x2048_S512x2048 = xSlot 0 := xSlot_congr (by decide +kernel) _ _
@[sl_canon] theorem xBlk_L0  (hh hs) :
    xM.slice (Rect.unit (s := S32768x2048) ![0, 0] S512x2048.size hh) hs = xBlk 0 := xBlk_congr (by decide +kernel) _ _
@[sl_canon] theorem wCell_L3  (hh) :
    (cc0_scoped4.slice (Rect.unit (s := S3) k0_off3 S1.size hh)).squeeze S_ squeezes_S1_S_ = wCell 0 := wCell_congr (by decide +kernel) _
@[sl_canon] theorem vCell_L3  (hh) :
    (cc0_scoped6.slice (Rect.unit (s := S3) k0_off3 S1.size hh)).squeeze S_ squeezes_S1_S_ = vCell 0 := vCell_congr (by decide +kernel) _
@[sl_canon] theorem dCell_L3  (hh) :
    (cc0_scoped8.slice (Rect.unit (s := S3) k0_off3 S1.size hh)).squeeze S_ squeezes_S1_S_ = dCell 0 := dCell_congr (by decide +kernel) _
@[sl_canon] theorem wSlot_L4  (hh hs) :
    (wB.slice (Rect.unit (s := S3x2048x512) k0_off4 S1x2048x512.size hh) hs).squeeze S2048x512 squeezes_S1x2048x512_S2048x512 = wSlot 0 := wSlot_congr (by decide +kernel) _ _
@[sl_canon] theorem vSlot_L4  (hh hs) :
    (vB.slice (Rect.unit (s := S3x2048x512) k0_off4 S1x2048x512.size hh) hs).squeeze S2048x512 squeezes_S1x2048x512_S2048x512 = vSlot 0 := vSlot_congr (by decide +kernel) _ _
@[sl_canon] theorem dSlot_L5  (hh hs) :
    (dB.slice (Rect.unit (s := S3x512x2048) k0_off5 S1x512x2048.size hh) hs).squeeze S512x2048 squeezes_S1x512x2048_S512x2048 = dSlot 0 := dSlot_congr (by decide +kernel) _ _
@[sl_canon] theorem wBlk_L0  (hh hs) :
    wM.slice (Rect.unit (s := S2048x11264) ![0, 0] S2048x512.size hh) hs = wBlk 0 := wBlk_congr (by decide +kernel) _ _
@[sl_canon] theorem vBlk_L0  (hh hs) :
    wM.slice (Rect.unit (s := S2048x11264) ![0, 5632] S2048x512.size hh) hs = vBlk 0 := vBlk_congr (by decide +kernel) _ _
@[sl_canon] theorem dBlk_L0  (hh hs) :
    dM.slice (Rect.unit (s := S5632x2048) ![0, 0] S512x2048.size hh) hs = dBlk 0 := dBlk_congr (by decide +kernel) _ _
@[sl_canon] theorem wCell_L6  (hh) :
    (cc0_scoped4.slice (Rect.unit (s := S3) k0_off6 S1.size hh)).squeeze S_ squeezes_S1_S_ = wCell 1 := wCell_congr (by decide +kernel) _
@[sl_canon] theorem wSlot_L7  (hh hs) :
    (wB.slice (Rect.unit (s := S3x2048x512) k0_off7 S1x2048x512.size hh) hs).squeeze S2048x512 squeezes_S1x2048x512_S2048x512 = wSlot 1 := wSlot_congr (by decide +kernel) _ _
@[sl_canon] theorem wBlk_L8  (hh hs) :
    wM.slice (Rect.unit (s := S2048x11264) k0_off8 S2048x512.size hh) hs = wBlk 1 := wBlk_congr (by decide +kernel) _ _
@[sl_canon] theorem vCell_L9  (hh) :
    (cc0_scoped6.slice (Rect.unit (s := S3) k0_off9 S1.size hh)).squeeze S_ squeezes_S1_S_ = vCell 1 := vCell_congr (by decide +kernel) _
@[sl_canon] theorem vSlot_L10  (hh hs) :
    (vB.slice (Rect.unit (s := S3x2048x512) k0_off10 S1x2048x512.size hh) hs).squeeze S2048x512 squeezes_S1x2048x512_S2048x512 = vSlot 1 := vSlot_congr (by decide +kernel) _ _
@[sl_canon] theorem vBlk_L11  (hh hs) :
    wM.slice (Rect.unit (s := S2048x11264) k0_off11 S2048x512.size hh) hs = vBlk 1 := vBlk_congr (by decide +kernel) _ _
@[sl_canon] theorem dCell_L12  (hh) :
    (cc0_scoped8.slice (Rect.unit (s := S3) k0_off12 S1.size hh)).squeeze S_ squeezes_S1_S_ = dCell 1 := dCell_congr (by decide +kernel) _
@[sl_canon] theorem dSlot_L13  (hh hs) :
    (dB.slice (Rect.unit (s := S3x512x2048) k0_off13 S1x512x2048.size hh) hs).squeeze S512x2048 squeezes_S1x512x2048_S512x2048 = dSlot 1 := dSlot_congr (by decide +kernel) _ _
@[sl_canon] theorem dBlk_L14  (hh hs) :
    dM.slice (Rect.unit (s := S5632x2048) k0_off14 S512x2048.size hh) hs = dBlk 1 := dBlk_congr (by decide +kernel) _ _
@[sl_canon] theorem oCell_L60  (hh) :
    (cc0_scoped11.slice (Rect.unit (s := S2) (k0_off60 (w22 704)) S1.size hh)).squeeze S_ squeezes_S1_S_ = oCell 1 := oCell_congr (by decide +kernel) _
@[sl_canon] theorem oBlk_L61  (hh hs) :
    oM.slice (Rect.unit (s := S32768x2048) (k0_off61 (w26 704) (w25 704)) S512x2048.size hh) hs = oBlk 63 := oBlk_congr (by decide +kernel) _ _
@[sl_canon] theorem oSlot_L62  (hh hs) :
    (oB.slice (Rect.unit (s := S2x512x2048) (k0_off62 (w22 704)) S1x512x2048.size hh) hs).squeeze S512x2048 squeezes_S1x512x2048_S512x2048 = oSlot 1 := oSlot_congr (by decide +kernel) _ _
@[sl_canon] theorem yCell_L63  (hh) :
    (cc0_scoped13.slice (Rect.unit (s := S2) (k0_off63 (w22 704)) S1.size hh)).squeeze S_ squeezes_S1_S_ = yCell 1 := yCell_congr (by decide +kernel) _
@[sl_canon] theorem yBlk_L64  (hh hs) :
    yM.slice (Rect.unit (s := S32768x2048) (k0_off64 (w26 704) (w25 704)) S512x2048.size hh) hs = yBlk 63 := yBlk_congr (by decide +kernel) _ _
@[sl_canon] theorem ySlot_L65  (hh hs) :
    (yB.slice (Rect.unit (s := S2x512x2048) (k0_off65 (w22 704)) S1x512x2048.size hh) hs).squeeze S512x2048 squeezes_S1x512x2048_S512x2048 = ySlot 1 := ySlot_congr (by decide +kernel) _ _
end Cert.Proof.Ffn
-- ==== Proof.Pieces.lean ====
/-
  The pieces the kernel's run moves between: a slot held, a counter at zero, an operand lent to one slot, a slot in
  flight.
-/
module

public import proofs.«01_k».proof.Proof.Names
public import Idealize.ShloMosaic.Lib.Ring.Trips
public import Idealize.ShloMosaic.Lib.Pipeline.KitQuiescent

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

variable (c : Dev nD)

/-- A buffer's contents on core `c`. -/
abbrev BufOf {sp : Space} {s : Shape} {e : EltTy} (M : Memref sig .tc sp s e) : Type := Buf (Elt F) (M.view.loc (c : Thread nD τ))

/-- The elements a memref names, held at share `q` with contents `f`. -/
abbrev at_ {sp : Space} {s : Shape} {e : EltTy} (M : Memref sig .tc sp s e) (q : PosShare TreeShare) (f : BufOf (F := F) c M) : sProp 𝕄 :=
  M.view.loc (c : Thread nD τ) ↦[M.view.set]{q} f
/-- The elements a memref names, held with contents `f`. -/
abbrev own {sp : Space} {s : Shape} {e : EltTy} (M : Memref sig .tc sp s e) (f : BufOf (F := F) c M) : sProp 𝕄 := at_ c M fullShare f
/-- A transfer counter at zero. -/
abbrev zero (S : DmaSems sig S_) : sProp 𝕄 := semVal ((c : Thread nD τ), SemLoc.dma S.sem) 0
/-- A memref's contents after a transfer of `v` into it. -/
abbrev ld {sp : Space} {s : Shape} {e : EltTy} (M : Memref sig .tc sp s e) (v : s.Idx → Elt F e) : BufOf (F := F) c M :=
  M.view.writes (Elt F) M.view.junk [⟨Rect.whole s, v⟩]
/-- What a transfer out of `M` carries. -/
abbrev rd {sp : Space} {s : Shape} {e : EltTy} (M : Memref sig .tc sp s e) (f : BufOf (F := F) c M) : s.Idx → Elt F e :=
  ReadAs.same.apply (M.view.read (Elt F) f)

/-- The share of the input lent to slot `s`. -/
def q2 (s : Fin 2) : PosShare TreeShare := if s.val = 0 then fullShare.left else fullShare.right
/-- The shares of the weights lent to slot `s` of each of their streams. -/
def qw (s : Fin 3) : PosShare TreeShare := Ring.shares3 fullShare.left s
def qv (s : Fin 3) : PosShare TreeShare := Ring.shares3 fullShare.right s
def qd (s : Fin 3) : PosShare TreeShare := Ring.shares3 fullShare s

variable (X : BufOf (F := F) c xM) (W : BufOf (F := F) c wM) (D : BufOf (F := F) c dM)

/-- What is left of a slot's share of its operand while block `b` is out. -/
def xRest (s : Fin 2) (b : Fin 64) : sProp 𝕄 := xM.view.loc (c : Thread nD τ) ↦[Finset.univ \ (xBlk b).view.set]{q2 s} X
def wRest (s : Fin 3) (b : Fin 11) : sProp 𝕄 := wM.view.loc (c : Thread nD τ) ↦[Finset.univ \ (wBlk b).view.set]{qw s} W
def vRest (s : Fin 3) (b : Fin 11) : sProp 𝕄 := wM.view.loc (c : Thread nD τ) ↦[Finset.univ \ (vBlk b).view.set]{qv s} W
def dRest (s : Fin 3) (b : Fin 11) : sProp 𝕄 := dM.view.loc (c : Thread nD τ) ↦[Finset.univ \ (dBlk b).view.set]{qd s} D
/-- A slot's whole share of its operand. -/
def xAll (s : Fin 2) : sProp 𝕄 := xM.view.loc (c : Thread nD τ) ↦[Finset.univ]{q2 s} X
def wAll (s : Fin 3) : sProp 𝕄 := wM.view.loc (c : Thread nD τ) ↦[Finset.univ]{qw s} W
def vAll (s : Fin 3) : sProp 𝕄 := wM.view.loc (c : Thread nD τ) ↦[Finset.univ]{qv s} W
def dAll (s : Fin 3) : sProp 𝕄 := dM.view.loc (c : Thread nD τ) ↦[Finset.univ]{qd s} D

/-- One block of a slot's share, lent out, and taken back. -/
theorem xAll_split (s : Fin 2) (b : Fin 64) : (xAll c X s : sProp 𝕄) ⊣⊢ iprop(at_ c (xBlk b) (q2 s) X ∗ xRest c X s b) :=
  pointsTo_split_subset (Finset.subset_univ _)
theorem wAll_split (s : Fin 3) (b : Fin 11) : (wAll c W s : sProp 𝕄) ⊣⊢ iprop(at_ c (wBlk b) (qw s) W ∗ wRest c W s b) :=
  pointsTo_split_subset (Finset.subset_univ _)
theorem vAll_split (s : Fin 3) (b : Fin 11) : (vAll c W s : sProp 𝕄) ⊣⊢ iprop(at_ c (vBlk b) (qv s) W ∗ vRest c W s b) :=
  pointsTo_split_subset (Finset.subset_univ _)
theorem dAll_split (s : Fin 3) (b : Fin 11) : (dAll c D s : sProp 𝕄) ⊣⊢ iprop(at_ c (dBlk b) (qd s) D ∗ dRest c D s b) :=
  pointsTo_split_subset (Finset.subset_univ _)

/-- A slot in flight: the transfer over contents `f`, and the rest of its share. -/
abbrev xFl (s : Fin 2) (b : Fin 64) (f : BufOf (F := F) c (xSlot s)) : sProp 𝕄 :=
  Transfers.Flight countersEmb (c : Thread nD τ) (SemLoc.dma (xCell s).sem) () 131072
    iprop(own c (xSlot s) ((xSlot s).view.writes (Elt F) f [⟨Rect.whole S512x2048, rd c (xBlk b) X⟩]) ∗ at_ c (xBlk b) (q2 s) X)
abbrev wFl (s : Fin 3) (b : Fin 11) (f : BufOf (F := F) c (wSlot s)) : sProp 𝕄 :=
  Transfers.Flight countersEmb (c : Thread nD τ) (SemLoc.dma (wCell s).sem) () 65536
    iprop(own c (wSlot s) ((wSlot s).view.writes (Elt F) f [⟨Rect.whole S2048x512, rd c (wBlk b) W⟩]) ∗ at_ c (wBlk b) (qw s) W)
abbrev vFl (s : Fin 3) (b : Fin 11) (f : BufOf (F := F) c (vSlot s)) : sProp 𝕄 :=
  Transfers.Flight countersEmb (c : Thread nD τ) (SemLoc.dma (vCell s).sem) () 65536
    iprop(own c (vSlot s) ((vSlot s).view.writes (Elt F) f [⟨Rect.whole S2048x512, rd c (vBlk b) W⟩]) ∗ at_ c (vBlk b) (qv s) W)
abbrev dFl (s : Fin 3) (b : Fin 11) (f : BufOf (F := F) c (dSlot s)) : sProp 𝕄 :=
  Transfers.Flight countersEmb (c : Thread nD τ) (SemLoc.dma (dCell s).sem) () 65536
    iprop(own c (dSlot s) ((dSlot s).view.writes (Elt F) f [⟨Rect.whole S512x2048, rd c (dBlk b) D⟩]) ∗ at_ c (dBlk b) (qd s) D)

/-- One trip of the loop, over the carried words' closed forms. -/
abbrev trip (v22 v49 v70 v77 v85 : BitVec 32) (v87 : BitVec 1) (k : Fin k0_t1_loop.trips) :=
  k0_t1_body (F := F) xM (Memref.isWhole_whole _) gM (Memref.isWhole_whole _) wM (Memref.isWhole_whole _) wM (Memref.isWhole_whole _) dM (Memref.isWhole_whole _)
    hM (Memref.isWhole_whole _) oM (Memref.isWhole_whole _) yM (Memref.isWhole_whole _) nB (Memref.isWhole_whole _) cB (Memref.isWhole_whole _)
    xB (Memref.isWhole_whole _) cc0_scoped1 gB (Memref.isWhole_whole _) wB (Memref.isWhole_whole _) cc0_scoped4 vB (Memref.isWhole_whole _) cc0_scoped6
    dB (Memref.isWhole_whole _) cc0_scoped8 hB (Memref.isWhole_whole _) oB (Memref.isWhole_whole _) cc0_scoped11 yB (Memref.isWhole_whole _) cc0_scoped13
    cc0_scoped14 cc0_scoped15 v22 v49 v70 v77 v85 v87 k (acc k)

end Cert.Proof.Ffn
-- ==== Proof.Values.lean ====
/-
  What the kernel's pieces hold: a slot read as one block, a slot's contents after a store, and the values each block
  of rows goes through.
-/
module

public import proofs.«01_k».proof.Proof.Pieces
public import Idealize.ShloMosaic.Lib.VecWindow

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## A block with a leading unit axis, and without -/

/-- A block of rows seen with a leading unit axis. -/
def up {α : Type} (v : S512x2048.Idx → α) : S1x512x2048.Idx → α :=
  fun i => v ((Shape.reshapeEquiv squeezes_S1x512x2048_S512x2048.numel_eq).symm i)
/-- A block of rows with its leading unit axis dropped. -/
def down {α : Type} (v : S1x512x2048.Idx → α) : S512x2048.Idx → α :=
  fun j => v (Shape.reshapeEquiv squeezes_S1x512x2048_S512x2048.numel_eq j)
/-- A block of columns seen with a leading unit axis. -/
def upw {α : Type} (v : S2048x512.Idx → α) : S1x2048x512.Idx → α :=
  fun i => v ((Shape.reshapeEquiv squeezes_S1x2048x512_S2048x512.numel_eq).symm i)

theorem up_down {α : Type} (v : S1x512x2048.Idx → α) : up (down v) = v :=
  funext fun i => congrArg v (Equiv.apply_symm_apply _ i)
theorem down_up {α : Type} (v : S512x2048.Idx → α) : down (up v) = v :=
  funext fun i => congrArg v (Equiv.symm_apply_apply _ i)

variable (c : Dev nD)

/-! ## A load through the whole buffer reads the slot -/

theorem x_load {off : Fin 3 → Nat} {s : Fin 2} (e : off = slotOff s) (hh) (f : BufOf (F := F) c xB) :
    xB.view.readAt (Elt F) (Rect.unit (s := S2x512x2048) off S1x512x2048.size hh).toLoadRect f = up (rd c (xSlot s) f) := by
  subst e; exact (up_down _).symm
theorem o_load {off : Fin 3 → Nat} {s : Fin 2} (e : off = slotOff s) (hh) (f : BufOf (F := F) c oB) :
    oB.view.readAt (Elt F) (Rect.unit (s := S2x512x2048) off S1x512x2048.size hh).toLoadRect f = up (rd c (oSlot s) f) := by
  subst e; exact (up_down _).symm
theorem d_load {off : Fin 3 → Nat} {s : Fin 3} (e : off = slotOff s) (hh) (f : BufOf (F := F) c dB) :
    dB.view.readAt (Elt F) (Rect.unit (s := S3x512x2048) off S1x512x2048.size hh).toLoadRect f = up (rd c (dSlot s) f) := by
  subst e; exact (up_down _).symm
theorem w_load {off : Fin 3 → Nat} {s : Fin 3} (e : off = slotOff s) (hh) (f : BufOf (F := F) c wB) :
    wB.view.readAt (Elt F) (Rect.unit (s := S3x2048x512) off S1x2048x512.size hh).toLoadRect f = upw (rd c (wSlot s) f) := by
  subst e; exact funext fun i => congrArg _ (Equiv.apply_symm_apply _ i).symm
theorem v_load {off : Fin 3 → Nat} {s : Fin 3} (e : off = slotOff s) (hh) (f : BufOf (F := F) c vB) :
    vB.view.readAt (Elt F) (Rect.unit (s := S3x2048x512) off S1x2048x512.size hh).toLoadRect f = upw (rd c (vSlot s) f) := by
  subst e; exact funext fun i => congrArg _ (Equiv.apply_symm_apply _ i).symm

/-! ## A store through the whole buffer sets the slot -/

theorem o_read (s : Fin 2) (g : BufOf (F := F) c oB) :
    rd c (oSlot s) g = down ((oB.access (Rect.unit (s := S2x512x2048) (slotOff s) S1x512x2048.size (slot2_inb s))).read (Elt F) g) := rfl
theorem o_store {off : Fin 3 → Nat} {s : Fin 2} (e : off = slotOff s) (hh) (f : BufOf (F := F) c oB) (p : S1x512x2048.Idx → Elt F .f32) :
    rd c (oSlot s) ((oB.access (Rect.unit (s := S2x512x2048) off S1x512x2048.size hh)).write (Elt F) f p Finset.univ) = down p := by
  subst e; rw [o_read, View.read_write_univ]
theorem y_read (s : Fin 2) (g : BufOf (F := F) c yB) :
    rd c (ySlot s) g = down ((yB.access (Rect.unit (s := S2x512x2048) (slotOff s) S1x512x2048.size (slot2_inb s))).read (Elt F) g) := rfl
theorem y_store {off : Fin 3 → Nat} {s : Fin 2} (e : off = slotOff s) (hh) (f : BufOf (F := F) c yB) (p : S1x512x2048.Idx → Elt F .bf16) :
    rd c (ySlot s) ((yB.access (Rect.unit (s := S2x512x2048) off S1x512x2048.size hh)).write (Elt F) f p Finset.univ) = down p := by
  subst e; rw [y_read, View.read_write_univ]

/-- A transfer leaves what it carried. -/
theorem rd_writes {sp : Space} {s : Shape} {e : EltTy} (M : Memref sig .tc sp s e) (f : BufOf (F := F) c M) (v : s.Idx → Elt F e) :
    rd c M (M.view.writes (Elt F) f [⟨Rect.whole s, v⟩]) = v := View.read_writes_whole _ _ _

/-- Contents that read alike hold alike. -/
theorem at_congr {sp : Space} {s : Shape} {e : EltTy} (M : Memref sig .tc sp s e) (q : PosShare TreeShare) {f g : BufOf (F := F) c M}
    (h : rd c M f = rd c M g) : (at_ c M q f : sProp 𝕄) ⊢ at_ c M q g := by
  refine Eq.mpr ?_ (BIBase.Entails.rfl : (at_ c M q f : sProp 𝕄) ⊢ at_ c M q f)
  have : (at_ c M q f : sProp 𝕄) = at_ c M q g := pointsTo_congr fun i hi => by
    obtain ⟨x, -, rfl⟩ := Finset.mem_map.mp hi
    have h' := congrFun h x
    simp only [rd, ReadAs.apply_same, View.read_apply] at h'
    exact eq_of_heq ((cast_heq _ _).symm.trans ((heq_of_eq h').trans (cast_heq _ _)))
  rw [this]

/-- The one word of the counter, stored. -/
theorem c_store (f : BufOf (F := F) c cB) (hh) (p : S1.Idx → Elt F .i32) (x : BitVec 32) (h : ∀ i, p i = x) :
    cB.view.writes (Elt F) f [⟨Rect.unit (s := S1) ![0] S1.size hh, p⟩] = fun _ => x := by
  have := View.read_writes_full (Val := Elt F) cB.view f (off := ![0]) hh p []
  exact this.trans (funext h)
/-- The counter's word, read, -/
theorem c_load (k : ℕ) (hh) (j) :
    cB.view.readAt (Elt F) (Rect.unit (s := S1) ![0] S1.size hh).toLoadRect ((fun _ => wk k : BufOf (F := F) c cB)) j = wk k := rfl
/-- and raised by one. -/
theorem c_next (k : ℕ) : Scalar.addi (wk k) 1#32 = wk (k + 1) := by
  simp [Scalar.addi, IntOp.addi, wk, w, BitVec.ofNat_add]

/-- So the counter moves on. -/
theorem c_up (k : ℕ) (f : BufOf (F := F) c cB) (hh) (p : S1.Idx → Elt F .i32) (h : ∀ i, p i = wk (k + 1)) :
    (own c cB (cB.view.writes (Elt F) f [⟨Rect.unit (s := S1) ![0] S1.size hh, p⟩]) : sProp 𝕄)
      ⊢ own c cB (fun _ => wk (k + 1)) := by
  rw [c_store c f hh p (wk (k + 1)) h]

/-- A whole buffer's load reads it, -/
theorem n_load (hh) (f : BufOf (F := F) c nB) :
    nB.view.readAt (Elt F) (Rect.unit (s := S512x2048) ![0, 0] S512x2048.size hh).toLoadRect f = rd c nB f := View.readAt_full _ _ _
theorem g_load (hh) (f : BufOf (F := F) c gB) :
    gB.view.readAt (Elt F) (Rect.unit (s := S1x2048) ![0, 0] S1x2048.size hh).toLoadRect f = rd c gB f := View.readAt_full _ _ _
theorem h_load (hh) (f : BufOf (F := F) c hB) :
    hB.view.readAt (Elt F) (Rect.unit (s := S1x2048) ![0, 0] S1x2048.size hh).toLoadRect f = rd c hB f := View.readAt_full _ _ _
/-- and its store sets it. -/
theorem n_store (f : BufOf (F := F) c nB) (hh) (p : S512x2048.Idx → Elt F .bf16) :
    rd c nB (nB.view.writes (Elt F) f [⟨Rect.unit (s := S512x2048) ![0, 0] S512x2048.size hh, p⟩]) = p := View.read_writes_full _ _ _ _ _
theorem n_cov (hh hh') (p : S512x2048.Idx → Elt F .bf16) :
    nB.view.readCov (Val := Elt F) [⟨Rect.unit (s := S512x2048) ![0, 0] S512x2048.size hh, p⟩] (Rect.unit (s := S512x2048) ![0, 0] S512x2048.size hh').toLoadRect = p :=
  View.readCov_full _ _ _ _ _

theorem pay1_congr {a a' b b'} (ha : a = a') (hb : b = b') : k0_pay1 (F := F) a b = k0_pay1 a' b' := by rw [ha, hb]
theorem pay3_congr {n n' w w' v v' o o' d d'} (hn : n = n') (hw : w = w') (hv : v = v') (ho : o = o') (hd : d = d') :
    k0_pay3 (F := F) n w v o d = k0_pay3 n' w' v' o' d' := by rw [hn, hw, hv, ho, hd]
theorem pay5_congr {a a' b b'} (ha : a = a') (hb : b = b') : k0_pay5 (F := F) a b = k0_pay5 a' b' := by rw [ha, hb]
theorem pay6_congr {a a' b b' g g'} (ha : a = a') (hb : b = b') (hg : g = g') : k0_pay6 (F := F) a b g = k0_pay6 a' b' g' := by rw [ha, hb, hg]

/-- The blocks of the weights come round every eleven trips. -/
theorem sl11_mod (k : ℕ) : Ring.sl 11 k = Ring.sl 11 (k % 11) := Fin.ext (by simp [Ring.sl, Fin.ofNat])

/-! ## The values -/

variable (X : BufOf (F := F) c xM) (G : S1x2048.Idx → Elt F .f32) (W : BufOf (F := F) c wM) (D : BufOf (F := F) c dM) (G2 : S1x2048.Idx → Elt F .f32)

/-- Block `i` of rows of the input. -/
abbrev xb (i : ℕ) : S512x2048.Idx → Elt F .f32 := rd c (xBlk (Ring.bk 64 i)) X
/-- Block `j` of columns of the gate half, of the up half, and of rows of the down weights. -/
abbrev wb (j : ℕ) : S2048x512.Idx → Elt F .bf16 := rd c (wBlk (Ring.sl 11 j)) W
abbrev vb (j : ℕ) : S2048x512.Idx → Elt F .bf16 := rd c (vBlk (Ring.sl 11 j)) W
abbrev db (j : ℕ) : S512x2048.Idx → Elt F .bf16 := rd c (dBlk (Ring.sl 11 j)) D
/-- Block `i` of rows, normalized. -/
abbrev nrm (i : ℕ) : S512x2048.Idx → Elt F .bf16 := k0_pay1 (up (xb c X i)) G
/-- The running sum of block `i` of rows after `j` blocks of columns. -/
def acc' (i : ℕ) : ℕ → (S512x2048.Idx → Elt F .f32)
  | 0 => down k0_pay2
  | j + 1 => down (k0_pay3 (nrm c X G i) (upw (wb c W j)) (upw (vb c W j)) (up (acc' i j)) (up (db c D j)))
theorem hacc0 (k : Fin k0_t1_loop.trips) (h0 : k.val % 11 = 0) : down (k0_pay2 (F := F)) = acc' c X G W D (k.val / 11) (k.val % 11) := by
  rw [h0]; rfl
theorem hacc11 (k : Fin k0_t1_loop.trips) (h10 : k.val % 11 = 10) :
    acc' c X G W D (k.val / 11) (k.val % 11 + 1) = acc' c X G W D (k.val / 11) 11 := by rw [h10]
/-- Block `i` of rows of the two results. -/
def hb (i : ℕ) : S512x2048.Idx → Elt F .f32 := down (k0_pay5 (up (xb c X i)) (up (acc' c X G W D i 11)))
def ub (i : ℕ) : S512x2048.Idx → Elt F .bf16 := down (k0_pay6 (up (xb c X i)) (up (acc' c X G W D i 11)) G2)

end Cert.Proof.Ffn
-- ==== Proof.States.lean ====
/-
  The states a slot of each stream goes through: free, holding a block, and busy with a transfer.
-/
module

public import proofs.«01_k».proof.Proof.Values

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
variable (c : Dev nD)

variable (X : BufOf (F := F) c xM) (W : BufOf (F := F) c wM) (D : BufOf (F := F) c dM)

/-- Slot `s` of the `x` stream with no transfer under way and anything in it. -/
abbrev xFree (s : Fin 2) : sProp 𝕄 := iprop(zero c (xCell s) ∗ (∃ f, own c (xSlot s) f) ∗ xAll c X s)
/-- The same slot with block `b` on its way in. -/
abbrev xBusy (s : Fin 2) (b : Fin 64) : sProp 𝕄 := iprop((∃ f, xFl c X s b f) ∗ xRest c X s b)

/-- Slot `s` of the `w` stream with no transfer under way and anything in it. -/
abbrev wFree (s : Fin 3) : sProp 𝕄 := iprop(zero c (wCell s) ∗ (∃ f, own c (wSlot s) f) ∗ wAll c W s)
/-- The same slot with block `b` on its way in. -/
abbrev wBusy (s : Fin 3) (b : Fin 11) : sProp 𝕄 := iprop((∃ f, wFl c W s b f) ∗ wRest c W s b)

/-- Slot `s` of the `v` stream with no transfer under way and anything in it. -/
abbrev vFree (s : Fin 3) : sProp 𝕄 := iprop(zero c (vCell s) ∗ (∃ f, own c (vSlot s) f) ∗ vAll c W s)
/-- The same slot with block `b` on its way in. -/
abbrev vBusy (s : Fin 3) (b : Fin 11) : sProp 𝕄 := iprop((∃ f, vFl c W s b f) ∗ vRest c W s b)

/-- Slot `s` of the `d` stream with no transfer under way and anything in it. -/
abbrev dFree (s : Fin 3) : sProp 𝕄 := iprop(zero c (dCell s) ∗ (∃ f, own c (dSlot s) f) ∗ dAll c D s)
/-- The same slot with block `b` on its way in. -/
abbrev dBusy (s : Fin 3) (b : Fin 11) : sProp 𝕄 := iprop((∃ f, dFl c D s b f) ∗ dRest c D s b)

/-- Slot `s` of the `x` stream holding the block `v`. -/
abbrev xHave (s : Fin 2) (v : S512x2048.Idx → Elt F .f32) : sProp 𝕄 :=
  iprop(zero c (xCell s) ∗ (∃ f, ⌜rd c (xSlot s) f = v⌝ ∗ own c (xSlot s) f) ∗ xAll c X s)

/-- Slot `s` of the `o` stream with no transfer under way and anything in it. -/
abbrev oFree (s : Fin 2) : sProp 𝕄 := iprop(zero c (oCell s) ∗ ∃ f, own c (oSlot s) f)
/-- The same slot holding the block `v`. -/
abbrev oHave (s : Fin 2) (v : S512x2048.Idx → Elt F .f32) : sProp 𝕄 := iprop(zero c (oCell s) ∗ ∃ f, ⌜rd c (oSlot s) f = v⌝ ∗ own c (oSlot s) f)
/-- The transfer of slot `s` out to block `b`. -/
abbrev oFl (s : Fin 2) (b : Fin 64) (f : BufOf (F := F) c (oBlk b)) (g : BufOf (F := F) c (oSlot s)) : sProp 𝕄 :=
  Transfers.Flight countersEmb (c : Thread nD τ) (SemLoc.dma (oCell s).sem) () 131072
    iprop(own c (oBlk b) ((oBlk b).view.writes (Elt F) f [⟨Rect.whole S512x2048, rd c (oSlot s) g⟩]) ∗ own c (oSlot s) g)
/-- The same slot with the block `v` on its way out to block `b` of the result. -/
abbrev oBusy (s : Fin 2) (b : Fin 64) (v : S512x2048.Idx → Elt F .f32) : sProp 𝕄 :=
  iprop(∃ f g, ⌜rd c (oSlot s) g = v⌝ ∗ oFl c s b f g)
/-- Block `b` of the result, holding anything. -/
abbrev oAny (b : Fin 64) : sProp 𝕄 := iprop(∃ f, own c (oBlk b) f)
/-- Block `b` of the result, holding `v`. -/
abbrev oIs (b : Fin 64) (v : S512x2048.Idx → Elt F .f32) : sProp 𝕄 := iprop(∃ f, ⌜rd c (oBlk b) f = v⌝ ∗ own c (oBlk b) f)

/-- Slot `s` of the `y` stream with no transfer under way and anything in it. -/
abbrev yFree (s : Fin 2) : sProp 𝕄 := iprop(zero c (yCell s) ∗ ∃ f, own c (ySlot s) f)
/-- The same slot holding the block `v`. -/
abbrev yHave (s : Fin 2) (v : S512x2048.Idx → Elt F .bf16) : sProp 𝕄 := iprop(zero c (yCell s) ∗ ∃ f, ⌜rd c (ySlot s) f = v⌝ ∗ own c (ySlot s) f)
/-- The transfer of slot `s` out to block `b`. -/
abbrev yFl (s : Fin 2) (b : Fin 64) (f : BufOf (F := F) c (yBlk b)) (g : BufOf (F := F) c (ySlot s)) : sProp 𝕄 :=
  Transfers.Flight countersEmb (c : Thread nD τ) (SemLoc.dma (yCell s).sem) () 65536
    iprop(own c (yBlk b) ((yBlk b).view.writes (Elt F) f [⟨Rect.whole S512x2048, rd c (ySlot s) g⟩]) ∗ own c (ySlot s) g)
/-- The same slot with the block `v` on its way out to block `b` of the result. -/
abbrev yBusy (s : Fin 2) (b : Fin 64) (v : S512x2048.Idx → Elt F .bf16) : sProp 𝕄 :=
  iprop(∃ f g, ⌜rd c (ySlot s) g = v⌝ ∗ yFl c s b f g)
/-- Block `b` of the result, holding anything. -/
abbrev yAny (b : Fin 64) : sProp 𝕄 := iprop(∃ f, own c (yBlk b) f)
/-- Block `b` of the result, holding `v`. -/
abbrev yIs (b : Fin 64) (v : S512x2048.Idx → Elt F .bf16) : sProp 𝕄 := iprop(∃ f, ⌜rd c (yBlk b) f = v⌝ ∗ own c (yBlk b) f)

/-- The normalized block's buffer. -/
abbrev nAny : sProp 𝕄 := iprop(∃ f, own c nB f)
abbrev nIs (v : S512x2048.Idx → Elt F .bf16) : sProp 𝕄 := iprop(∃ f, ⌜rd c nB f = v⌝ ∗ own c nB f)
/-- The two gains' buffers. -/
abbrev gIs (v : S1x2048.Idx → Elt F .f32) : sProp 𝕄 := iprop(∃ f, ⌜rd c gB f = v⌝ ∗ own c gB f)
abbrev hIs (v : S1x2048.Idx → Elt F .f32) : sProp 𝕄 := iprop(∃ f, ⌜rd c hB f = v⌝ ∗ own c hB f)
/-- The counter's word, and what the core owes. -/
abbrev cIs (k : ℕ) : sProp 𝕄 := own c cB (fun _ => wk k)
abbrev owing : sProp 𝕄 := iprop(∃ S, owes (c : Thread nD τ) 0 S)

end Cert.Proof.Ffn
-- ==== Proof.TripA.lean ====
/-
  The first trip of the loop.
-/
module

public import proofs.«01_k».proof.Proof.States

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
variable (c : Dev nD)

variable (X : BufOf (F := F) c xM) (G : S1x2048.Idx → Elt F .f32) (W : BufOf (F := F) c wM) (D : BufOf (F := F) c dM) (G2 : S1x2048.Idx → Elt F .f32)

set_option backward.proofsInPublic true in
set_option maxHeartbeats 4000000 in
/-- The first trip: from the state before it to the state after it. -/
theorem tripA (v22 v49 v70 v77 v85 : BitVec 32) (v87 : BitVec 1) (k : Fin k0_t1_loop.trips) (h0 : k.val % 11 = 0) (hz : k.val = 0) :
    iprop(cIs c k.val
    ∗ gIs c G
    ∗ nAny c
    ∗ xBusy c X (Ring.sl 2 (k.val / 11)) (Ring.bk 64 (k.val / 11))
    ∗ oFree c (Ring.sl 2 (k.val / 11))
    ∗ wBusy c W (Ring.sl 3 k.val) (Ring.sl 11 k.val)
    ∗ wFree c W (Ring.sl 3 (k.val + 2))
    ∗ vBusy c W (Ring.sl 3 k.val) (Ring.sl 11 k.val)
    ∗ vFree c W (Ring.sl 3 (k.val + 2))
    ∗ dBusy c D (Ring.sl 3 k.val) (Ring.sl 11 k.val)
    ∗ dFree c D (Ring.sl 3 (k.val + 2))
    ∗ owing c)
    ⊢ wp frame (wpE (defs₀ (F := F)) 𝒱₀ (c : Thread nD τ) none) Set.univ (trip v22 v49 v70 v77 v85 v87 k) (fun a => iprop(⌜a = acc (k.val + 1)⌝
    ∗ cIs c (k.val + 1)
    ∗ gIs c G
    ∗ nIs c (nrm c X G (k.val / 11))
    ∗ xHave c X (Ring.sl 2 (k.val / 11)) (xb c X (k.val / 11))
    ∗ oHave c (Ring.sl 2 (k.val / 11)) (acc' c X G W D (k.val / 11) (k.val % 11 + 1))
    ∗ wFree c W (Ring.sl 3 k.val)
    ∗ wBusy c W (Ring.sl 3 (k.val + 2)) (Ring.sl 11 (k.val + 2))
    ∗ vFree c W (Ring.sl 3 k.val)
    ∗ vBusy c W (Ring.sl 3 (k.val + 2)) (Ring.sl 11 (k.val + 2))
    ∗ dFree c D (Ring.sl 3 k.val)
    ∗ dBusy c D (Ring.sl 3 (k.val + 2)) (Ring.sl 11 (k.val + 2))
    ∗ owing c)) := by
  have h10 : k.val % 11 ≠ 10 := by omega
  have h702 : k.val < 702 := by omega
  have h4 : ¬ k0_cond4 k (w25 k) (w26 k) = 1#1 := by rw [cond4_eq]; omega
  have h5 : k0_cond5 k (w26 k) = 1#1 := by rw [cond5_iff]; omega
  have h6 : k0_cond6 k (w26 k) = 1#1 := by rw [cond6_iff]; omega
  have h7 : k0_cond7 k (w26 k) = 1#1 := by rw [cond7_iff]; omega
  have h8 : k0_cond8 k (w25 k) (w26 k) = 1#1 := by rw [cond8_iff]; omega
  have h14 : k0_cond14 (wk k) = 1#1 := by rw [cond14_iff]; omega
  have h15 : ¬ k0_cond15 (wk k) = 1#1 := by rw [cond15_iff]; omega
  have h20 : ¬ k0_cond20 k (w25 k) (w26 k) = 1#1 := by rw [cond20_iff]; omega
  have h21 : ¬ k0_cond21 k (w25 k) (w26 k) = 1#1 := by rw [cond21_iff]; omega
  have h26 : ¬ k0_cond26 k (w25 k) (w26 k) = 1#1 := by rw [cond26_iff]; omega
  have h27 : ¬ k0_cond27 k (w25 k) (w26 k) = 1#1 := by rw [cond27_iff]; omega
  have g9 := cond9_eq k
  have g10 := cond10_eq k
  have g11 := cond11_eq k
  have hc1 := chk1_ok k
  have hc2 := chk2_ok k
  have hc3 := chk3_ok k
  have hc4 := chk4_ok k
  have hc5 := chk5_ok k
  have hc6 := chk6_ok k
  iintro ⟨HC, ⟨%gf, %hgf, HG⟩, ⟨%nf, HN⟩, ⟨⟨%xf, HX⟩, HXr⟩, ⟨HO0, ⟨%of, HO⟩⟩, ⟨⟨%w0, HW0⟩, HWr⟩, ⟨HWc, ⟨%w2, HW2⟩, HWA⟩, ⟨⟨%v0, HV0⟩, HVr⟩, ⟨HVc, ⟨%v2, HV2⟩, HVA⟩, ⟨⟨%d0, HD0⟩, HDr⟩, ⟨HDc, ⟨%d2, HD2⟩, HDA⟩, ⟨%ow, HOW⟩⟩
  ihave HWt := (wAll_split c W (Ring.sl 3 (k.val + 2)) (Ring.sl 11 (k.val + 2))).1 $$ [HWA]; · iexact HWA
  icases HWt with ⟨HWs, HWs_r⟩
  ihave HVt := (vAll_split c W (Ring.sl 3 (k.val + 2)) (Ring.sl 11 (k.val + 2))).1 $$ [HVA]; · iexact HVA
  icases HVt with ⟨HVs, HVs_r⟩
  ihave HDt := (dAll_split c D (Ring.sl 3 (k.val + 2)) (Ring.sl 11 (k.val + 2))).1 $$ [HDA]; · iexact HDA
  icases HDt with ⟨HDs, HDs_r⟩
  dsimp only [trip, acc]
  sl_unfold [k0_t1_body]
  sl_exec
  sl_step
  isplitr
  · ipureintro; clear * - h0 hz; simp only [Prod.mk.injEq]; revert k; decide +kernel
  isplitl [HC]
  · iapply (c_up c k.val (fun _ => wk k.val) inb_S1_S1_0 (fun _ => tripA.sl.v298_r0 c k) (fun _ => (congrArg (Scalar.addi · 1#32) (c_load (F := F) c k.val _ _)).trans (c_next k.val)))
    iexact HC
  isplitl [HG]
  · iexists gf; isplitr; · (ipureintro; exact hgf)
    iexact HG
  isplitl [HN]
  · iexists _; isplitr; rotate_left; · iexact HN
    ipureintro; exact (n_store c _ _ _).trans (pay1_congr ((x_load c (off39_all k) _ _).trans (congrArg up (rd_writes c _ _ _))) ((g_load c _ _).trans hgf))
  isplitl [HX HX_dst HX_src HXr]
  · isplitl [HX]; · iexact HX
    isplitl [HX_dst]
    · iexists _; isplitr; rotate_left; · iexact HX_dst
      ipureintro; exact rd_writes c _ _ _
    iapply (xAll_split c X (Ring.sl 2 (k.val / 11)) (Ring.bk 64 (k.val / 11))).2; isplitl [HX_src]; · iexact HX_src
    iexact HXr
  isplitl [HO HO0]
  · isplitl [HO0]; · iexact HO0
    iexists _; isplitr; rotate_left; · iexact HO
    ipureintro; exact ((o_store c (off43_all k) _ _ _).trans (congrArg down (pay3_congr ((n_cov _ _ _).trans (pay1_congr ((x_load c (off39_all k) _ _).trans (congrArg up (rd_writes c _ _ _))) ((g_load c _ _).trans hgf))) ((w_load c (off41_all k) _ _).trans (congrArg upw ((rd_writes c _ _ _).trans (congrArg (fun s => rd c (wBlk s) W) (sl11_mod k.val))))) ((v_load c (off42_all k) _ _).trans (congrArg upw ((rd_writes c _ _ _).trans (congrArg (fun s => rd c (vBlk s) W) (sl11_mod k.val))))) ((o_load c (off43_all k) _ _).trans (congrArg up ((o_store c (off40_all k) _ _ _).trans (hacc0 c X G W D k h0)))) ((d_load c (off44_all k) _ _).trans (congrArg up ((rd_writes c _ _ _).trans (congrArg (fun s => rd c (dBlk s) D) (sl11_mod k.val))))))))
  isplitl [HW0 HW0_dst HW0_src HWr]
  · isplitl [HW0]; · iexact HW0
    isplitl [HW0_dst]; · (iexists _; iexact HW0_dst)
    iapply (wAll_split c W (Ring.sl 3 k.val) (Ring.sl 11 k.val)).2; isplitl [HW0_src]; · iexact HW0_src
    iexact HWr
  isplitl [HWc HWs_r]
  · isplitl [HWc]; · (iexists w2; iexact HWc)
    iexact HWs_r
  isplitl [HV0 HV0_dst HV0_src HVr]
  · isplitl [HV0]; · iexact HV0
    isplitl [HV0_dst]; · (iexists _; iexact HV0_dst)
    iapply (vAll_split c W (Ring.sl 3 k.val) (Ring.sl 11 k.val)).2; isplitl [HV0_src]; · iexact HV0_src
    iexact HVr
  isplitl [HVc HVs_r]
  · isplitl [HVc]; · (iexists v2; iexact HVc)
    iexact HVs_r
  isplitl [HD0 HD0_dst HD0_src HDr]
  · isplitl [HD0]; · iexact HD0
    isplitl [HD0_dst]; · (iexists _; iexact HD0_dst)
    iapply (dAll_split c D (Ring.sl 3 k.val) (Ring.sl 11 k.val)).2; isplitl [HD0_src]; · iexact HD0_src
    iexact HDr
  isplitl [HDc HDs_r]
  · isplitl [HDc]; · (iexists d2; iexact HDc)
    iexact HDs_r
  iexists _; iexact HOW

end Cert.Proof.Ffn
-- ==== Proof.TripB.lean ====
/-
  A later block's first trip of the loop.
-/
module

public import proofs.«01_k».proof.Proof.TripA

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
variable (c : Dev nD)

variable (X : BufOf (F := F) c xM) (G : S1x2048.Idx → Elt F .f32) (W : BufOf (F := F) c wM) (D : BufOf (F := F) c dM) (G2 : S1x2048.Idx → Elt F .f32)

set_option backward.proofsInPublic true in
set_option maxHeartbeats 4000000 in
/-- A later block's first trip: from the state before it to the state after it. -/
theorem tripB (v22 v49 v70 v77 v85 : BitVec 32) (v87 : BitVec 1) (k : Fin k0_t1_loop.trips) (h0 : k.val % 11 = 0) (hp : 0 < k.val) (hv : S512x2048.Idx → Elt F .f32) (uv : S512x2048.Idx → Elt F .bf16) :
    iprop(cIs c k.val
    ∗ gIs c G
    ∗ nAny c
    ∗ xBusy c X (Ring.sl 2 (k.val / 11)) (Ring.bk 64 (k.val / 11))
    ∗ oFree c (Ring.sl 2 (k.val / 11))
    ∗ oBusy c (Ring.sl 2 (k.val / 11 + 1)) (Ring.bk 64 (k.val / 11 - 1)) hv
    ∗ yBusy c (Ring.sl 2 (k.val / 11 + 1)) (Ring.bk 64 (k.val / 11 - 1)) uv
    ∗ wBusy c W (Ring.sl 3 k.val) (Ring.sl 11 k.val)
    ∗ wFree c W (Ring.sl 3 (k.val + 2))
    ∗ vBusy c W (Ring.sl 3 k.val) (Ring.sl 11 k.val)
    ∗ vFree c W (Ring.sl 3 (k.val + 2))
    ∗ dBusy c D (Ring.sl 3 k.val) (Ring.sl 11 k.val)
    ∗ dFree c D (Ring.sl 3 (k.val + 2))
    ∗ owing c)
    ⊢ wp frame (wpE (defs₀ (F := F)) 𝒱₀ (c : Thread nD τ) none) Set.univ (trip v22 v49 v70 v77 v85 v87 k) (fun a => iprop(⌜a = acc (k.val + 1)⌝
    ∗ cIs c (k.val + 1)
    ∗ gIs c G
    ∗ nIs c (nrm c X G (k.val / 11))
    ∗ xHave c X (Ring.sl 2 (k.val / 11)) (xb c X (k.val / 11))
    ∗ oHave c (Ring.sl 2 (k.val / 11)) (acc' c X G W D (k.val / 11) (k.val % 11 + 1))
    ∗ oFree c (Ring.sl 2 (k.val / 11 + 1))
    ∗ oIs c (Ring.bk 64 (k.val / 11 - 1)) hv
    ∗ yFree c (Ring.sl 2 (k.val / 11 + 1))
    ∗ yIs c (Ring.bk 64 (k.val / 11 - 1)) uv
    ∗ wFree c W (Ring.sl 3 k.val)
    ∗ wBusy c W (Ring.sl 3 (k.val + 2)) (Ring.sl 11 (k.val + 2))
    ∗ vFree c W (Ring.sl 3 k.val)
    ∗ vBusy c W (Ring.sl 3 (k.val + 2)) (Ring.sl 11 (k.val + 2))
    ∗ dFree c D (Ring.sl 3 k.val)
    ∗ dBusy c D (Ring.sl 3 (k.val + 2)) (Ring.sl 11 (k.val + 2))
    ∗ owing c)) := by
  have hl := lt704 k
  have h702 : k.val < 702 := by omega
  have h4 : ¬ k0_cond4 k (w25 k) (w26 k) = 1#1 := by rw [cond4_eq]; omega
  have h5 : k0_cond5 k (w26 k) = 1#1 := by rw [cond5_iff]; omega
  have h6 : k0_cond6 k (w26 k) = 1#1 := by rw [cond6_iff]; omega
  have h7 : k0_cond7 k (w26 k) = 1#1 := by rw [cond7_iff]; omega
  have h8 : k0_cond8 k (w25 k) (w26 k) = 1#1 := by rw [cond8_iff]; omega
  have h14 : k0_cond14 (wk k) = 1#1 := by rw [cond14_iff]; omega
  have h15 : ¬ k0_cond15 (wk k) = 1#1 := by rw [cond15_iff]; omega
  have h20 : ¬ k0_cond20 k (w25 k) (w26 k) = 1#1 := by rw [cond20_iff]; omega
  have h21 : ¬ k0_cond21 k (w25 k) (w26 k) = 1#1 := by rw [cond21_iff]; omega
  have h26 : k0_cond26 k (w25 k) (w26 k) = 1#1 := by rw [cond26_iff]; omega
  have h27 : k0_cond27 k (w25 k) (w26 k) = 1#1 := by rw [cond27_iff]; omega
  have g9 := cond9_eq k
  have g10 := cond10_eq k
  have g11 := cond11_eq k
  have hc1 := chk1_ok k
  have hc2 := chk2_ok k
  have hc3 := chk3_ok k
  have hc4 := chk4_ok k
  have hc5 := chk5_ok k
  have hc6 := chk6_ok k
  iintro ⟨HC, ⟨%gf, %hgf, HG⟩, ⟨%nf, HN⟩, ⟨⟨%xf, HX⟩, HXr⟩, ⟨HO0, ⟨%of, HO⟩⟩, ⟨%opf, %opg, %oph, HOP⟩, ⟨%ypf, %ypg, %yph, HYP⟩, ⟨⟨%w0, HW0⟩, HWr⟩, ⟨HWc, ⟨%w2, HW2⟩, HWA⟩, ⟨⟨%v0, HV0⟩, HVr⟩, ⟨HVc, ⟨%v2, HV2⟩, HVA⟩, ⟨⟨%d0, HD0⟩, HDr⟩, ⟨HDc, ⟨%d2, HD2⟩, HDA⟩, ⟨%ow, HOW⟩⟩
  ihave HWt := (wAll_split c W (Ring.sl 3 (k.val + 2)) (Ring.sl 11 (k.val + 2))).1 $$ [HWA]; · iexact HWA
  icases HWt with ⟨HWs, HWs_r⟩
  ihave HVt := (vAll_split c W (Ring.sl 3 (k.val + 2)) (Ring.sl 11 (k.val + 2))).1 $$ [HVA]; · iexact HVA
  icases HVt with ⟨HVs, HVs_r⟩
  ihave HDt := (dAll_split c D (Ring.sl 3 (k.val + 2)) (Ring.sl 11 (k.val + 2))).1 $$ [HDA]; · iexact HDA
  icases HDt with ⟨HDs, HDs_r⟩
  dsimp only [trip, acc]
  sl_unfold [k0_t1_body]
  sl_exec
  sl_step
  isplitr
  · ipureintro; clear * - h0 hp; simp only [Prod.mk.injEq]; revert k; decide +kernel
  isplitl [HC]
  · iapply (c_up c k.val (fun _ => wk k.val) inb_S1_S1_0 (fun _ => tripB.sl.v298_r0 c k) (fun _ => (congrArg (Scalar.addi · 1#32) (c_load (F := F) c k.val _ _)).trans (c_next k.val)))
    iexact HC
  isplitl [HG]
  · iexists gf; isplitr; · (ipureintro; exact hgf)
    iexact HG
  isplitl [HN]
  · iexists _; isplitr; rotate_left; · iexact HN
    ipureintro; exact (n_store c _ _ _).trans (pay1_congr ((x_load c (off39_all k) _ _).trans (congrArg up (rd_writes c _ _ _))) ((g_load c _ _).trans hgf))
  isplitl [HX HX_dst HX_src HXr]
  · isplitl [HX]; · iexact HX
    isplitl [HX_dst]
    · iexists _; isplitr; rotate_left; · iexact HX_dst
      ipureintro; exact rd_writes c _ _ _
    iapply (xAll_split c X (Ring.sl 2 (k.val / 11)) (Ring.bk 64 (k.val / 11))).2; isplitl [HX_src]; · iexact HX_src
    iexact HXr
  isplitl [HO HO0]
  · isplitl [HO0]; · iexact HO0
    iexists _; isplitr; rotate_left; · iexact HO
    ipureintro; exact ((o_store c (off43_all k) _ _ _).trans (congrArg down (pay3_congr ((n_cov _ _ _).trans (pay1_congr ((x_load c (off39_all k) _ _).trans (congrArg up (rd_writes c _ _ _))) ((g_load c _ _).trans hgf))) ((w_load c (off41_all k) _ _).trans (congrArg upw ((rd_writes c _ _ _).trans (congrArg (fun s => rd c (wBlk s) W) (sl11_mod k.val))))) ((v_load c (off42_all k) _ _).trans (congrArg upw ((rd_writes c _ _ _).trans (congrArg (fun s => rd c (vBlk s) W) (sl11_mod k.val))))) ((o_load c (off43_all k) _ _).trans (congrArg up ((o_store c (off40_all k) _ _ _).trans (hacc0 c X G W D k h0)))) ((d_load c (off44_all k) _ _).trans (congrArg up ((rd_writes c _ _ _).trans (congrArg (fun s => rd c (dBlk s) D) (sl11_mod k.val))))))))
  isplitl [HOP HOP_src]
  · isplitl [HOP]; · iexact HOP
    iexists _; iexact HOP_src
  isplitl [HOP_dst]
  · iexists _; isplitr; rotate_left; · iexact HOP_dst
    · ipureintro; exact (rd_writes c _ _ _).trans oph
  isplitl [HYP HYP_src]
  · isplitl [HYP]; · iexact HYP
    iexists _; iexact HYP_src
  isplitl [HYP_dst]
  · iexists _; isplitr; rotate_left; · iexact HYP_dst
    · ipureintro; exact (rd_writes c _ _ _).trans yph
  isplitl [HW0 HW0_dst HW0_src HWr]
  · isplitl [HW0]; · iexact HW0
    isplitl [HW0_dst]; · (iexists _; iexact HW0_dst)
    iapply (wAll_split c W (Ring.sl 3 k.val) (Ring.sl 11 k.val)).2; isplitl [HW0_src]; · iexact HW0_src
    iexact HWr
  isplitl [HWc HWs_r]
  · isplitl [HWc]; · (iexists w2; iexact HWc)
    iexact HWs_r
  isplitl [HV0 HV0_dst HV0_src HVr]
  · isplitl [HV0]; · iexact HV0
    isplitl [HV0_dst]; · (iexists _; iexact HV0_dst)
    iapply (vAll_split c W (Ring.sl 3 k.val) (Ring.sl 11 k.val)).2; isplitl [HV0_src]; · iexact HV0_src
    iexact HVr
  isplitl [HVc HVs_r]
  · isplitl [HVc]; · (iexists v2; iexact HVc)
    iexact HVs_r
  isplitl [HD0 HD0_dst HD0_src HDr]
  · isplitl [HD0]; · iexact HD0
    isplitl [HD0_dst]; · (iexists _; iexact HD0_dst)
    iapply (dAll_split c D (Ring.sl 3 k.val) (Ring.sl 11 k.val)).2; isplitl [HD0_src]; · iexact HD0_src
    iexact HDr
  isplitl [HDc HDs_r]
  · isplitl [HDc]; · (iexists d2; iexact HDc)
    iexact HDs_r
  iexists _; iexact HOW

end Cert.Proof.Ffn
-- ==== Proof.TripC.lean ====
/-
  A trip in the middle of a block of the loop.
-/
module

public import proofs.«01_k».proof.Proof.TripB

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
variable (c : Dev nD)

variable (X : BufOf (F := F) c xM) (G : S1x2048.Idx → Elt F .f32) (W : BufOf (F := F) c wM) (D : BufOf (F := F) c dM) (G2 : S1x2048.Idx → Elt F .f32)

set_option backward.proofsInPublic true in
set_option maxHeartbeats 4000000 in
/-- A trip in the middle of a block: from the state before it to the state after it. -/
theorem tripC (v22 v49 v70 v77 v85 : BitVec 32) (v87 : BitVec 1) (k : Fin k0_t1_loop.trips) (hf : 0 < k.val % 11) (hf' : k.val % 11 < 10) (h702 : k.val < 702) :
    iprop(cIs c k.val
    ∗ nIs c (nrm c X G (k.val / 11))
    ∗ oHave c (Ring.sl 2 (k.val / 11)) (acc' c X G W D (k.val / 11) (k.val % 11))
    ∗ wBusy c W (Ring.sl 3 k.val) (Ring.sl 11 k.val)
    ∗ wFree c W (Ring.sl 3 (k.val + 2))
    ∗ vBusy c W (Ring.sl 3 k.val) (Ring.sl 11 k.val)
    ∗ vFree c W (Ring.sl 3 (k.val + 2))
    ∗ dBusy c D (Ring.sl 3 k.val) (Ring.sl 11 k.val)
    ∗ dFree c D (Ring.sl 3 (k.val + 2))
    ∗ owing c)
    ⊢ wp frame (wpE (defs₀ (F := F)) 𝒱₀ (c : Thread nD τ) none) Set.univ (trip v22 v49 v70 v77 v85 v87 k) (fun a => iprop(⌜a = acc (k.val + 1)⌝
    ∗ cIs c (k.val + 1)
    ∗ nIs c (nrm c X G (k.val / 11))
    ∗ oHave c (Ring.sl 2 (k.val / 11)) (acc' c X G W D (k.val / 11) (k.val % 11 + 1))
    ∗ wFree c W (Ring.sl 3 k.val)
    ∗ wBusy c W (Ring.sl 3 (k.val + 2)) (Ring.sl 11 (k.val + 2))
    ∗ vFree c W (Ring.sl 3 k.val)
    ∗ vBusy c W (Ring.sl 3 (k.val + 2)) (Ring.sl 11 (k.val + 2))
    ∗ dFree c D (Ring.sl 3 k.val)
    ∗ dBusy c D (Ring.sl 3 (k.val + 2)) (Ring.sl 11 (k.val + 2))
    ∗ owing c)) := by
  have h4 : ¬ k0_cond4 k (w25 k) (w26 k) = 1#1 := by rw [cond4_eq]; omega
  have h5 : k0_cond5 k (w26 k) = 1#1 := by rw [cond5_iff]; omega
  have h6 : k0_cond6 k (w26 k) = 1#1 := by rw [cond6_iff]; omega
  have h7 : k0_cond7 k (w26 k) = 1#1 := by rw [cond7_iff]; omega
  have h8 : ¬ k0_cond8 k (w25 k) (w26 k) = 1#1 := by rw [cond8_iff]; omega
  have h14 : ¬ k0_cond14 (wk k) = 1#1 := by rw [cond14_iff]; omega
  have h15 : ¬ k0_cond15 (wk k) = 1#1 := by rw [cond15_iff]; omega
  have h20 : ¬ k0_cond20 k (w25 k) (w26 k) = 1#1 := by rw [cond20_iff]; omega
  have h21 : ¬ k0_cond21 k (w25 k) (w26 k) = 1#1 := by rw [cond21_iff]; omega
  have h26 : ¬ k0_cond26 k (w25 k) (w26 k) = 1#1 := by rw [cond26_iff]; omega
  have h27 : ¬ k0_cond27 k (w25 k) (w26 k) = 1#1 := by rw [cond27_iff]; omega
  have g9 := cond9_eq k
  have g10 := cond10_eq k
  have g11 := cond11_eq k
  have hc1 := chk1_ok k
  have hc2 := chk2_ok k
  have hc3 := chk3_ok k
  have hc4 := chk4_ok k
  have hc5 := chk5_ok k
  have hc6 := chk6_ok k
  iintro ⟨HC, ⟨%nf, %hn, HN⟩, ⟨HO0, ⟨%of, %ho, HO⟩⟩, ⟨⟨%w0, HW0⟩, HWr⟩, ⟨HWc, ⟨%w2, HW2⟩, HWA⟩, ⟨⟨%v0, HV0⟩, HVr⟩, ⟨HVc, ⟨%v2, HV2⟩, HVA⟩, ⟨⟨%d0, HD0⟩, HDr⟩, ⟨HDc, ⟨%d2, HD2⟩, HDA⟩, ⟨%ow, HOW⟩⟩
  ihave HWt := (wAll_split c W (Ring.sl 3 (k.val + 2)) (Ring.sl 11 (k.val + 2))).1 $$ [HWA]; · iexact HWA
  icases HWt with ⟨HWs, HWs_r⟩
  ihave HVt := (vAll_split c W (Ring.sl 3 (k.val + 2)) (Ring.sl 11 (k.val + 2))).1 $$ [HVA]; · iexact HVA
  icases HVt with ⟨HVs, HVs_r⟩
  ihave HDt := (dAll_split c D (Ring.sl 3 (k.val + 2)) (Ring.sl 11 (k.val + 2))).1 $$ [HDA]; · iexact HDA
  icases HDt with ⟨HDs, HDs_r⟩
  dsimp only [trip, acc]
  sl_unfold [k0_t1_body]
  sl_exec
  sl_step
  isplitr
  · ipureintro; clear * - hf hf' h702; simp only [Prod.mk.injEq]; revert k; decide +kernel
  isplitl [HC]
  · iapply (c_up c k.val (fun _ => wk k.val) inb_S1_S1_0 (fun _ => tripC.sl.v298_r0 c k) (fun _ => (congrArg (Scalar.addi · 1#32) (c_load (F := F) c k.val _ _)).trans (c_next k.val)))
    iexact HC
  isplitl [HN]
  · iexists nf; isplitr; · (ipureintro; exact hn)
    iexact HN
  isplitl [HO HO0]
  · isplitl [HO0]; · iexact HO0
    iexists _; isplitr; rotate_left; · iexact HO
    ipureintro; exact ((o_store c (off43_all k) _ _ _).trans (congrArg down (pay3_congr ((n_load c _ _).trans hn) ((w_load c (off41_all k) _ _).trans (congrArg upw ((rd_writes c _ _ _).trans (congrArg (fun s => rd c (wBlk s) W) (sl11_mod k.val))))) ((v_load c (off42_all k) _ _).trans (congrArg upw ((rd_writes c _ _ _).trans (congrArg (fun s => rd c (vBlk s) W) (sl11_mod k.val))))) ((o_load c (off43_all k) _ _).trans (congrArg up ho)) ((d_load c (off44_all k) _ _).trans (congrArg up ((rd_writes c _ _ _).trans (congrArg (fun s => rd c (dBlk s) D) (sl11_mod k.val))))))))
  isplitl [HW0 HW0_dst HW0_src HWr]
  · isplitl [HW0]; · iexact HW0
    isplitl [HW0_dst]; · (iexists _; iexact HW0_dst)
    iapply (wAll_split c W (Ring.sl 3 k.val) (Ring.sl 11 k.val)).2; isplitl [HW0_src]; · iexact HW0_src
    iexact HWr
  isplitl [HWc HWs_r]
  · isplitl [HWc]; · (iexists w2; iexact HWc)
    iexact HWs_r
  isplitl [HV0 HV0_dst HV0_src HVr]
  · isplitl [HV0]; · iexact HV0
    isplitl [HV0_dst]; · (iexists _; iexact HV0_dst)
    iapply (vAll_split c W (Ring.sl 3 k.val) (Ring.sl 11 k.val)).2; isplitl [HV0_src]; · iexact HV0_src
    iexact HVr
  isplitl [HVc HVs_r]
  · isplitl [HVc]; · (iexists v2; iexact HVc)
    iexact HVs_r
  isplitl [HD0 HD0_dst HD0_src HDr]
  · isplitl [HD0]; · iexact HD0
    isplitl [HD0_dst]; · (iexists _; iexact HD0_dst)
    iapply (dAll_split c D (Ring.sl 3 k.val) (Ring.sl 11 k.val)).2; isplitl [HD0_src]; · iexact HD0_src
    iexact HDr
  isplitl [HDc HDs_r]
  · isplitl [HDc]; · (iexists d2; iexact HDc)
    iexact HDs_r
  iexists _; iexact HOW

end Cert.Proof.Ffn
-- ==== Proof.TripD.lean ====
/-
  The last but one trip of the loop.
-/
module

public import proofs.«01_k».proof.Proof.TripC

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
variable (c : Dev nD)

variable (X : BufOf (F := F) c xM) (G : S1x2048.Idx → Elt F .f32) (W : BufOf (F := F) c wM) (D : BufOf (F := F) c dM) (G2 : S1x2048.Idx → Elt F .f32)

set_option backward.proofsInPublic true in
set_option maxHeartbeats 4000000 in
/-- The last but one trip: from the state before it to the state after it. -/
theorem tripD (v22 v49 v70 v77 v85 : BitVec 32) (v87 : BitVec 1) (k : Fin k0_t1_loop.trips) (hz : k.val = 702) :
    iprop(cIs c k.val
    ∗ nIs c (nrm c X G (k.val / 11))
    ∗ oHave c (Ring.sl 2 (k.val / 11)) (acc' c X G W D (k.val / 11) (k.val % 11))
    ∗ wBusy c W (Ring.sl 3 k.val) (Ring.sl 11 k.val)
    ∗ vBusy c W (Ring.sl 3 k.val) (Ring.sl 11 k.val)
    ∗ dBusy c D (Ring.sl 3 k.val) (Ring.sl 11 k.val)
    ∗ owing c)
    ⊢ wp frame (wpE (defs₀ (F := F)) 𝒱₀ (c : Thread nD τ) none) Set.univ (trip v22 v49 v70 v77 v85 v87 k) (fun a => iprop(⌜a = acc (k.val + 1)⌝
    ∗ cIs c (k.val + 1)
    ∗ nIs c (nrm c X G (k.val / 11))
    ∗ oHave c (Ring.sl 2 (k.val / 11)) (acc' c X G W D (k.val / 11) (k.val % 11 + 1))
    ∗ wFree c W (Ring.sl 3 k.val)
    ∗ vFree c W (Ring.sl 3 k.val)
    ∗ dFree c D (Ring.sl 3 k.val)
    ∗ owing c)) := by
  have hf : 0 < k.val % 11 := by omega
  have hf' : k.val % 11 < 10 := by omega
  have h4 : ¬ k0_cond4 k (w25 k) (w26 k) = 1#1 := by rw [cond4_eq]; omega
  have h5 : ¬ k0_cond5 k (w26 k) = 1#1 := by rw [cond5_iff]; omega
  have h6 : ¬ k0_cond6 k (w26 k) = 1#1 := by rw [cond6_iff]; omega
  have h7 : ¬ k0_cond7 k (w26 k) = 1#1 := by rw [cond7_iff]; omega
  have h8 : ¬ k0_cond8 k (w25 k) (w26 k) = 1#1 := by rw [cond8_iff]; omega
  have h14 : ¬ k0_cond14 (wk k) = 1#1 := by rw [cond14_iff]; omega
  have h15 : ¬ k0_cond15 (wk k) = 1#1 := by rw [cond15_iff]; omega
  have h20 : ¬ k0_cond20 k (w25 k) (w26 k) = 1#1 := by rw [cond20_iff]; omega
  have h21 : ¬ k0_cond21 k (w25 k) (w26 k) = 1#1 := by rw [cond21_iff]; omega
  have h26 : ¬ k0_cond26 k (w25 k) (w26 k) = 1#1 := by rw [cond26_iff]; omega
  have h27 : ¬ k0_cond27 k (w25 k) (w26 k) = 1#1 := by rw [cond27_iff]; omega
  have g9 := cond9_eq k
  have g10 := cond10_eq k
  have g11 := cond11_eq k
  have hc1 := chk1_ok k
  have hc2 := chk2_ok k
  have hc3 := chk3_ok k
  have hc4 := chk4_ok k
  have hc5 := chk5_ok k
  have hc6 := chk6_ok k
  iintro ⟨HC, ⟨%nf, %hn, HN⟩, ⟨HO0, ⟨%of, %ho, HO⟩⟩, ⟨⟨%w0, HW0⟩, HWr⟩, ⟨⟨%v0, HV0⟩, HVr⟩, ⟨⟨%d0, HD0⟩, HDr⟩, ⟨%ow, HOW⟩⟩
  dsimp only [trip, acc]
  sl_unfold [k0_t1_body]
  sl_exec
  sl_step
  isplitr
  · ipureintro; clear * - hz; simp only [Prod.mk.injEq]; revert k; decide +kernel
  isplitl [HC]
  · iapply (c_up c k.val (fun _ => wk k.val) inb_S1_S1_0 (fun _ => tripD.sl.v298_r0 c k) (fun _ => (congrArg (Scalar.addi · 1#32) (c_load (F := F) c k.val _ _)).trans (c_next k.val)))
    iexact HC
  isplitl [HN]
  · iexists nf; isplitr; · (ipureintro; exact hn)
    iexact HN
  isplitl [HO HO0]
  · isplitl [HO0]; · iexact HO0
    iexists _; isplitr; rotate_left; · iexact HO
    ipureintro; exact ((o_store c (off43_all k) _ _ _).trans (congrArg down (pay3_congr ((n_load c _ _).trans hn) ((w_load c (off41_all k) _ _).trans (congrArg upw ((rd_writes c _ _ _).trans (congrArg (fun s => rd c (wBlk s) W) (sl11_mod k.val))))) ((v_load c (off42_all k) _ _).trans (congrArg upw ((rd_writes c _ _ _).trans (congrArg (fun s => rd c (vBlk s) W) (sl11_mod k.val))))) ((o_load c (off43_all k) _ _).trans (congrArg up ho)) ((d_load c (off44_all k) _ _).trans (congrArg up ((rd_writes c _ _ _).trans (congrArg (fun s => rd c (dBlk s) D) (sl11_mod k.val))))))))
  isplitl [HW0 HW0_dst HW0_src HWr]
  · isplitl [HW0]; · iexact HW0
    isplitl [HW0_dst]; · (iexists _; iexact HW0_dst)
    iapply (wAll_split c W (Ring.sl 3 k.val) (Ring.sl 11 k.val)).2; isplitl [HW0_src]; · iexact HW0_src
    iexact HWr
  isplitl [HV0 HV0_dst HV0_src HVr]
  · isplitl [HV0]; · iexact HV0
    isplitl [HV0_dst]; · (iexists _; iexact HV0_dst)
    iapply (vAll_split c W (Ring.sl 3 k.val) (Ring.sl 11 k.val)).2; isplitl [HV0_src]; · iexact HV0_src
    iexact HVr
  isplitl [HD0 HD0_dst HD0_src HDr]
  · isplitl [HD0]; · iexact HD0
    isplitl [HD0_dst]; · (iexists _; iexact HD0_dst)
    iapply (dAll_split c D (Ring.sl 3 k.val) (Ring.sl 11 k.val)).2; isplitl [HD0_src]; · iexact HD0_src
    iexact HDr
  iexists _; iexact HOW

end Cert.Proof.Ffn
-- ==== Proof.TripE.lean ====
/-
  A block's last trip of the loop.
-/
module

public import proofs.«01_k».proof.Proof.TripD

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
variable (c : Dev nD)

variable (X : BufOf (F := F) c xM) (G : S1x2048.Idx → Elt F .f32) (W : BufOf (F := F) c wM) (D : BufOf (F := F) c dM) (G2 : S1x2048.Idx → Elt F .f32)

set_option backward.proofsInPublic true in
set_option maxHeartbeats 4000000 in
/-- A block's last trip: from the state before it to the state after it. -/
theorem tripE (v22 v49 v70 v77 v85 : BitVec 32) (v87 : BitVec 1) (k : Fin k0_t1_loop.trips) (h10 : k.val % 11 = 10) (h703 : k.val < 703) :
    iprop(cIs c k.val
    ∗ hIs c G2
    ∗ nIs c (nrm c X G (k.val / 11))
    ∗ (∃ f, ⌜rd c (xSlot (Ring.sl 2 (k.val / 11))) f = xb c X (k.val / 11)⌝ ∗ own c (xSlot (Ring.sl 2 (k.val / 11))) f)
    ∗ xFree c X (Ring.sl 2 (k.val / 11 + 1))
    ∗ oHave c (Ring.sl 2 (k.val / 11)) (acc' c X G W D (k.val / 11) (k.val % 11))
    ∗ oAny c (Ring.bk 64 (k.val / 11))
    ∗ yFree c (Ring.sl 2 (k.val / 11))
    ∗ yAny c (Ring.bk 64 (k.val / 11))
    ∗ wBusy c W (Ring.sl 3 k.val) (Ring.sl 11 k.val)
    ∗ wFree c W (Ring.sl 3 (k.val + 2))
    ∗ vBusy c W (Ring.sl 3 k.val) (Ring.sl 11 k.val)
    ∗ vFree c W (Ring.sl 3 (k.val + 2))
    ∗ dBusy c D (Ring.sl 3 k.val) (Ring.sl 11 k.val)
    ∗ dFree c D (Ring.sl 3 (k.val + 2))
    ∗ owing c)
    ⊢ wp frame (wpE (defs₀ (F := F)) 𝒱₀ (c : Thread nD τ) none) Set.univ (trip v22 v49 v70 v77 v85 v87 k) (fun a => iprop(⌜a = acc (k.val + 1)⌝
    ∗ cIs c (k.val + 1)
    ∗ hIs c G2
    ∗ nAny c
    ∗ (∃ f, own c (xSlot (Ring.sl 2 (k.val / 11))) f)
    ∗ xBusy c X (Ring.sl 2 (k.val / 11 + 1)) (Ring.bk 64 (k.val / 11 + 1))
    ∗ oBusy c (Ring.sl 2 (k.val / 11)) (Ring.bk 64 (k.val / 11)) (hb c X G W D (k.val / 11))
    ∗ yBusy c (Ring.sl 2 (k.val / 11)) (Ring.bk 64 (k.val / 11)) (ub c X G W D G2 (k.val / 11))
    ∗ wFree c W (Ring.sl 3 k.val)
    ∗ wBusy c W (Ring.sl 3 (k.val + 2)) (Ring.sl 11 (k.val + 2))
    ∗ vFree c W (Ring.sl 3 k.val)
    ∗ vBusy c W (Ring.sl 3 (k.val + 2)) (Ring.sl 11 (k.val + 2))
    ∗ dFree c D (Ring.sl 3 k.val)
    ∗ dBusy c D (Ring.sl 3 (k.val + 2)) (Ring.sl 11 (k.val + 2))
    ∗ owing c)) := by
  have h702 : k.val < 702 := by omega
  have h4 : k0_cond4 k (w25 k) (w26 k) = 1#1 := by rw [cond4_eq]; omega
  have h5 : k0_cond5 k (w26 k) = 1#1 := by rw [cond5_iff]; omega
  have h6 : k0_cond6 k (w26 k) = 1#1 := by rw [cond6_iff]; omega
  have h7 : k0_cond7 k (w26 k) = 1#1 := by rw [cond7_iff]; omega
  have h8 : ¬ k0_cond8 k (w25 k) (w26 k) = 1#1 := by rw [cond8_iff]; omega
  have h14 : ¬ k0_cond14 (wk k) = 1#1 := by rw [cond14_iff]; omega
  have h15 : k0_cond15 (wk k) = 1#1 := by rw [cond15_iff]; omega
  have h20 : k0_cond20 k (w25 k) (w26 k) = 1#1 := by rw [cond20_iff]; omega
  have h21 : k0_cond21 k (w25 k) (w26 k) = 1#1 := by rw [cond21_iff]; omega
  have h26 : ¬ k0_cond26 k (w25 k) (w26 k) = 1#1 := by rw [cond26_iff]; omega
  have h27 : ¬ k0_cond27 k (w25 k) (w26 k) = 1#1 := by rw [cond27_iff]; omega
  have g9 := cond9_eq k
  have g10 := cond10_eq k
  have g11 := cond11_eq k
  have hc1 := chk1_ok k
  have hc2 := chk2_ok k
  have hc3 := chk3_ok k
  have hc4 := chk4_ok k
  have hc5 := chk5_ok k
  have hc6 := chk6_ok k
  iintro ⟨HC, ⟨%hf2, %hhf, HH⟩, ⟨%nf, %hn, HN⟩, ⟨%xf, %hx, HX⟩, ⟨HXc, ⟨%x2, HX2⟩, HXA⟩, ⟨HO0, ⟨%of, %ho, HO⟩⟩, ⟨%ob, HOB⟩, ⟨HY0, ⟨%yf, HY⟩⟩, ⟨%yb, HYB⟩, ⟨⟨%w0, HW0⟩, HWr⟩, ⟨HWc, ⟨%w2, HW2⟩, HWA⟩, ⟨⟨%v0, HV0⟩, HVr⟩, ⟨HVc, ⟨%v2, HV2⟩, HVA⟩, ⟨⟨%d0, HD0⟩, HDr⟩, ⟨HDc, ⟨%d2, HD2⟩, HDA⟩, ⟨%ow, HOW⟩⟩
  ihave HWt := (wAll_split c W (Ring.sl 3 (k.val + 2)) (Ring.sl 11 (k.val + 2))).1 $$ [HWA]; · iexact HWA
  icases HWt with ⟨HWs, HWs_r⟩
  ihave HVt := (vAll_split c W (Ring.sl 3 (k.val + 2)) (Ring.sl 11 (k.val + 2))).1 $$ [HVA]; · iexact HVA
  icases HVt with ⟨HVs, HVs_r⟩
  ihave HDt := (dAll_split c D (Ring.sl 3 (k.val + 2)) (Ring.sl 11 (k.val + 2))).1 $$ [HDA]; · iexact HDA
  icases HDt with ⟨HDs, HDs_r⟩
  ihave HXt := (xAll_split c X (Ring.sl 2 (k.val / 11 + 1)) (Ring.bk 64 (k.val / 11 + 1))).1 $$ [HXA]; · iexact HXA
  icases HXt with ⟨HXs, HXr⟩
  dsimp only [trip, acc]
  sl_unfold [k0_t1_body]
  sl_exec
  sl_step
  have hstep : rd c (oSlot (Ring.sl 2 (k.val / 11))) (tripE.sl.HO_w1 c W D k hc3 hc4 hc5 hc6 nf of) = acc' c X G W D (k.val / 11) (k.val % 11 + 1) :=
    ((o_store c (off43_all k) _ _ _).trans (congrArg down (pay3_congr ((n_load c _ _).trans hn) ((w_load c (off41_all k) _ _).trans (congrArg upw ((rd_writes c _ _ _).trans (congrArg (fun s => rd c (wBlk s) W) (sl11_mod k.val))))) ((v_load c (off42_all k) _ _).trans (congrArg upw ((rd_writes c _ _ _).trans (congrArg (fun s => rd c (vBlk s) W) (sl11_mod k.val))))) ((o_load c (off43_all k) _ _).trans (congrArg up ho)) ((d_load c (off44_all k) _ _).trans (congrArg up ((rd_writes c _ _ _).trans (congrArg (fun s => rd c (dBlk s) D) (sl11_mod k.val))))))))
  isplitr
  · ipureintro; clear * - h10 h703; simp only [Prod.mk.injEq]; revert k; decide +kernel
  isplitl [HC]
  · iapply (c_up c k.val (fun _ => wk k.val) inb_S1_S1_0 (fun _ => tripE.sl.v298_r0 c k) (fun _ => (congrArg (Scalar.addi · 1#32) (c_load (F := F) c k.val _ _)).trans (c_next k.val)))
    iexact HC
  isplitl [HH]
  · iexists hf2; isplitr; · (ipureintro; exact hhf)
    iexact HH
  isplitl [HN]
  · iexists nf; iexact HN
  isplitl [HX]
  · iexists xf; iexact HX
  isplitl [HXc HXr]
  · isplitl [HXc]; · iexists x2; iexact HXc
    iexact HXr
  isplitl [HO0]
  · iexists ob, _; isplitr; rotate_left; · iexact HO0
    ipureintro; exact (o_store c (off46_all k) _ _ _).trans (congrArg down (pay5_congr ((x_load c (off45_all k) _ _).trans (congrArg up hx)) ((o_load c (off46_all k) _ _).trans (congrArg up (hstep.trans (hacc11 c X G W D k h10))))))
  isplitl [HY0]
  · iexists yb, _; isplitr; rotate_left; · iexact HY0
    ipureintro; exact (y_store c (off47_all k) _ _ _).trans (congrArg down (pay6_congr ((x_load c (off45_all k) _ _).trans (congrArg up hx)) ((o_load c (off46_all k) _ _).trans (congrArg up (hstep.trans (hacc11 c X G W D k h10)))) ((h_load c _ _).trans hhf)))
  isplitl [HW0 HW0_dst HW0_src HWr]
  · isplitl [HW0]; · iexact HW0
    isplitl [HW0_dst]; · (iexists _; iexact HW0_dst)
    iapply (wAll_split c W (Ring.sl 3 k.val) (Ring.sl 11 k.val)).2; isplitl [HW0_src]; · iexact HW0_src
    iexact HWr
  isplitl [HWc HWs_r]
  · isplitl [HWc]; · (iexists w2; iexact HWc)
    iexact HWs_r
  isplitl [HV0 HV0_dst HV0_src HVr]
  · isplitl [HV0]; · iexact HV0
    isplitl [HV0_dst]; · (iexists _; iexact HV0_dst)
    iapply (vAll_split c W (Ring.sl 3 k.val) (Ring.sl 11 k.val)).2; isplitl [HV0_src]; · iexact HV0_src
    iexact HVr
  isplitl [HVc HVs_r]
  · isplitl [HVc]; · (iexists v2; iexact HVc)
    iexact HVs_r
  isplitl [HD0 HD0_dst HD0_src HDr]
  · isplitl [HD0]; · iexact HD0
    isplitl [HD0_dst]; · (iexists _; iexact HD0_dst)
    iapply (dAll_split c D (Ring.sl 3 k.val) (Ring.sl 11 k.val)).2; isplitl [HD0_src]; · iexact HD0_src
    iexact HDr
  isplitl [HDc HDs_r]
  · isplitl [HDc]; · (iexists d2; iexact HDc)
    iexact HDs_r
  iexists _; iexact HOW

end Cert.Proof.Ffn
-- ==== Proof.TripF.lean ====
/-
  The last trip of the loop.
-/
module

public import proofs.«01_k».proof.Proof.TripE

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
variable (c : Dev nD)

variable (X : BufOf (F := F) c xM) (G : S1x2048.Idx → Elt F .f32) (W : BufOf (F := F) c wM) (D : BufOf (F := F) c dM) (G2 : S1x2048.Idx → Elt F .f32)

set_option backward.proofsInPublic true in
set_option maxHeartbeats 4000000 in
/-- The last trip: from the state before it to the state after it. -/
theorem tripF (v22 v49 v70 v77 v85 : BitVec 32) (v87 : BitVec 1) (k : Fin k0_t1_loop.trips) (hz : k.val = 703) :
    iprop(cIs c k.val
    ∗ hIs c G2
    ∗ nIs c (nrm c X G (k.val / 11))
    ∗ (∃ f, ⌜rd c (xSlot (Ring.sl 2 (k.val / 11))) f = xb c X (k.val / 11)⌝ ∗ own c (xSlot (Ring.sl 2 (k.val / 11))) f)
    ∗ oHave c (Ring.sl 2 (k.val / 11)) (acc' c X G W D (k.val / 11) (k.val % 11))
    ∗ oAny c (Ring.bk 64 (k.val / 11))
    ∗ yFree c (Ring.sl 2 (k.val / 11))
    ∗ yAny c (Ring.bk 64 (k.val / 11))
    ∗ wBusy c W (Ring.sl 3 k.val) (Ring.sl 11 k.val)
    ∗ vBusy c W (Ring.sl 3 k.val) (Ring.sl 11 k.val)
    ∗ dBusy c D (Ring.sl 3 k.val) (Ring.sl 11 k.val)
    ∗ owing c)
    ⊢ wp frame (wpE (defs₀ (F := F)) 𝒱₀ (c : Thread nD τ) none) Set.univ (trip v22 v49 v70 v77 v85 v87 k) (fun a => iprop(⌜a = acc (k.val + 1)⌝
    ∗ cIs c (k.val + 1)
    ∗ hIs c G2
    ∗ nAny c
    ∗ (∃ f, own c (xSlot (Ring.sl 2 (k.val / 11))) f)
    ∗ oBusy c (Ring.sl 2 (k.val / 11)) (Ring.bk 64 (k.val / 11)) (hb c X G W D (k.val / 11))
    ∗ yBusy c (Ring.sl 2 (k.val / 11)) (Ring.bk 64 (k.val / 11)) (ub c X G W D G2 (k.val / 11))
    ∗ wFree c W (Ring.sl 3 k.val)
    ∗ vFree c W (Ring.sl 3 k.val)
    ∗ dFree c D (Ring.sl 3 k.val)
    ∗ owing c)) := by
  have h10 : k.val % 11 = 10 := by omega
  have h4 : ¬ k0_cond4 k (w25 k) (w26 k) = 1#1 := by rw [cond4_eq]; omega
  have h5 : ¬ k0_cond5 k (w26 k) = 1#1 := by rw [cond5_iff]; omega
  have h6 : ¬ k0_cond6 k (w26 k) = 1#1 := by rw [cond6_iff]; omega
  have h7 : ¬ k0_cond7 k (w26 k) = 1#1 := by rw [cond7_iff]; omega
  have h8 : ¬ k0_cond8 k (w25 k) (w26 k) = 1#1 := by rw [cond8_iff]; omega
  have h14 : ¬ k0_cond14 (wk k) = 1#1 := by rw [cond14_iff]; omega
  have h15 : k0_cond15 (wk k) = 1#1 := by rw [cond15_iff]; omega
  have h20 : k0_cond20 k (w25 k) (w26 k) = 1#1 := by rw [cond20_iff]; omega
  have h21 : k0_cond21 k (w25 k) (w26 k) = 1#1 := by rw [cond21_iff]; omega
  have h26 : ¬ k0_cond26 k (w25 k) (w26 k) = 1#1 := by rw [cond26_iff]; omega
  have h27 : ¬ k0_cond27 k (w25 k) (w26 k) = 1#1 := by rw [cond27_iff]; omega
  have g9 := cond9_eq k
  have g10 := cond10_eq k
  have g11 := cond11_eq k
  have hc1 := chk1_ok k
  have hc2 := chk2_ok k
  have hc3 := chk3_ok k
  have hc4 := chk4_ok k
  have hc5 := chk5_ok k
  have hc6 := chk6_ok k
  iintro ⟨HC, ⟨%hf2, %hhf, HH⟩, ⟨%nf, %hn, HN⟩, ⟨%xf, %hx, HX⟩, ⟨HO0, ⟨%of, %ho, HO⟩⟩, ⟨%ob, HOB⟩, ⟨HY0, ⟨%yf, HY⟩⟩, ⟨%yb, HYB⟩, ⟨⟨%w0, HW0⟩, HWr⟩, ⟨⟨%v0, HV0⟩, HVr⟩, ⟨⟨%d0, HD0⟩, HDr⟩, ⟨%ow, HOW⟩⟩
  dsimp only [trip, acc]
  sl_unfold [k0_t1_body]
  sl_exec
  sl_step
  have hstep : rd c (oSlot (Ring.sl 2 (k.val / 11))) (tripF.sl.HO_w1 c W D k hc3 hc4 hc5 hc6 nf of) = acc' c X G W D (k.val / 11) (k.val % 11 + 1) :=
    ((o_store c (off43_all k) _ _ _).trans (congrArg down (pay3_congr ((n_load c _ _).trans hn) ((w_load c (off41_all k) _ _).trans (congrArg upw ((rd_writes c _ _ _).trans (congrArg (fun s => rd c (wBlk s) W) (sl11_mod k.val))))) ((v_load c (off42_all k) _ _).trans (congrArg upw ((rd_writes c _ _ _).trans (congrArg (fun s => rd c (vBlk s) W) (sl11_mod k.val))))) ((o_load c (off43_all k) _ _).trans (congrArg up ho)) ((d_load c (off44_all k) _ _).trans (congrArg up ((rd_writes c _ _ _).trans (congrArg (fun s => rd c (dBlk s) D) (sl11_mod k.val))))))))
  isplitr
  · ipureintro; clear * - hz; simp only [Prod.mk.injEq]; revert k; decide +kernel
  isplitl [HC]
  · iapply (c_up c k.val (fun _ => wk k.val) inb_S1_S1_0 (fun _ => tripF.sl.v298_r0 c k) (fun _ => (congrArg (Scalar.addi · 1#32) (c_load (F := F) c k.val _ _)).trans (c_next k.val)))
    iexact HC
  isplitl [HH]
  · iexists hf2; isplitr; · (ipureintro; exact hhf)
    iexact HH
  isplitl [HN]
  · iexists nf; iexact HN
  isplitl [HX]
  · iexists xf; iexact HX
  isplitl [HO0]
  · iexists ob, _; isplitr; rotate_left; · iexact HO0
    ipureintro; exact (o_store c (off46_all k) _ _ _).trans (congrArg down (pay5_congr ((x_load c (off45_all k) _ _).trans (congrArg up hx)) ((o_load c (off46_all k) _ _).trans (congrArg up (hstep.trans (hacc11 c X G W D k h10))))))
  isplitl [HY0]
  · iexists yb, _; isplitr; rotate_left; · iexact HY0
    ipureintro; exact (y_store c (off47_all k) _ _ _).trans (congrArg down (pay6_congr ((x_load c (off45_all k) _ _).trans (congrArg up hx)) ((o_load c (off46_all k) _ _).trans (congrArg up (hstep.trans (hacc11 c X G W D k h10)))) ((h_load c _ _).trans hhf)))
  isplitl [HW0 HW0_dst HW0_src HWr]
  · isplitl [HW0]; · iexact HW0
    isplitl [HW0_dst]; · (iexists _; iexact HW0_dst)
    iapply (wAll_split c W (Ring.sl 3 k.val) (Ring.sl 11 k.val)).2; isplitl [HW0_src]; · iexact HW0_src
    iexact HWr
  isplitl [HV0 HV0_dst HV0_src HVr]
  · isplitl [HV0]; · iexact HV0
    isplitl [HV0_dst]; · (iexists _; iexact HV0_dst)
    iapply (vAll_split c W (Ring.sl 3 k.val) (Ring.sl 11 k.val)).2; isplitl [HV0_src]; · iexact HV0_src
    iexact HVr
  isplitl [HD0 HD0_dst HD0_src HDr]
  · isplitl [HD0]; · iexact HD0
    isplitl [HD0_dst]; · (iexists _; iexact HD0_dst)
    iapply (dAll_split c D (Ring.sl 3 k.val) (Ring.sl 11 k.val)).2; isplitl [HD0_src]; · iexact HD0_src
    iexact HDr
  iexists _; iexact HOW

end Cert.Proof.Ffn
-- ==== Proof.Inv.lean ====
/-
  The state before each trip of the loop, and that a trip takes each to the next.
-/
module

public import proofs.«01_k».proof.Proof.TripF

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
variable (c : Dev nD)

/-! ## The blocks of a result already written, and those still to be -/

theorem below_succ (Φ : Fin 64 → sProp 𝕄) {n : ℕ} (h : n < 64) :
    bigSep (Finset.univ.filter fun b : Fin 64 => b.val < n + 1) Φ = iprop(Φ (Ring.bk 64 n) ∗ bigSep (Finset.univ.filter fun b : Fin 64 => b.val < n) Φ) := by
  have hv := Ring.bk_val (NB := 64) h
  have e : (Finset.univ.filter fun b : Fin 64 => b.val < n + 1) = insert (Ring.bk 64 n) (Finset.univ.filter fun b : Fin 64 => b.val < n) := by
    ext b; simp only [Finset.mem_filter, Finset.mem_univ, true_and, Finset.mem_insert, Fin.ext_iff, hv]; omega
  rw [e, bigSep_insert (by simp only [Finset.mem_filter, hv]; omega)]; rfl
theorem above_pop (Φ : Fin 64 → sProp 𝕄) {n : ℕ} (h : n < 64) :
    bigSep (Finset.univ.filter fun b : Fin 64 => n ≤ b.val) Φ = iprop(Φ (Ring.bk 64 n) ∗ bigSep (Finset.univ.filter fun b : Fin 64 => n + 1 ≤ b.val) Φ) := by
  have hv := Ring.bk_val (NB := 64) h
  have e : (Finset.univ.filter fun b : Fin 64 => n ≤ b.val) = insert (Ring.bk 64 n) (Finset.univ.filter fun b : Fin 64 => n + 1 ≤ b.val) := by
    ext b; simp only [Finset.mem_filter, Finset.mem_univ, true_and, Finset.mem_insert, Fin.ext_iff, hv]; omega
  rw [e, bigSep_insert (by simp only [Finset.mem_filter, hv]; omega)]; rfl

variable (X : BufOf (F := F) c xM) (G : S1x2048.Idx → Elt F .f32) (W : BufOf (F := F) c wM) (D : BufOf (F := F) c dM) (G2 : S1x2048.Idx → Elt F .f32)

/-! ## The streams' states: `i` the block of rows, `f` the block of columns -/

/-- The input's slots before trip `(i, f)`. -/
def xSt (i f : ℕ) : sProp 𝕄 :=
  iprop((if f = 0 then (if i < 64 then xBusy c X (Ring.sl 2 i) (Ring.bk 64 i) else xFree c X (Ring.sl 2 i)) else xHave c X (Ring.sl 2 i) (xb c X i))
    ∗ xFree c X (Ring.sl 2 (i + 1)))
theorem xSt_zero {i f : ℕ} (hf : f = 0) (h : i < 64) : xSt c X i f = iprop(xBusy c X (Ring.sl 2 i) (Ring.bk 64 i) ∗ xFree c X (Ring.sl 2 (i + 1))) := by
  unfold xSt; rw [if_pos hf, if_pos h]
theorem xSt_end {i : ℕ} (h : ¬ i < 64) : xSt c X i 0 = iprop(xFree c X (Ring.sl 2 i) ∗ xFree c X (Ring.sl 2 (i + 1))) := by
  unfold xSt; rw [if_pos rfl, if_neg h]
theorem xSt_pos (i : ℕ) {f : ℕ} (h : f ≠ 0) : xSt c X i f = iprop(xHave c X (Ring.sl 2 i) (xb c X i) ∗ xFree c X (Ring.sl 2 (i + 1))) := by
  unfold xSt; rw [if_neg h]

/-- The normalized block's buffer before trip `(i, f)`. -/
def nSt (i f : ℕ) : sProp 𝕄 := if f = 0 then nAny c else nIs c (nrm c X G i)
theorem nSt_zero (i : ℕ) {f : ℕ} (hf : f = 0) : nSt c X G i f = (nAny c : sProp 𝕄) := if_pos hf
theorem nSt_pos (i : ℕ) {f : ℕ} (h : f ≠ 0) : nSt c X G i f = (nIs c (nrm c X G i) : sProp 𝕄) := if_neg h

/-- The `o` stream's slots and blocks before trip `(i, f)`. -/
abbrev oPrev (i : ℕ) : sProp 𝕄 := oBusy c (Ring.sl 2 (i + 1)) (Ring.bk 64 (i - 1)) (hb c X G W D (i - 1))
def oDone (n : ℕ) : sProp 𝕄 := bigSep (Finset.univ.filter fun b : Fin 64 => b.val < n) (fun b => oIs c b (hb c X G W D b.val))
def oTodo (n : ℕ) : sProp 𝕄 := bigSep (Finset.univ.filter fun b : Fin 64 => n ≤ b.val) (fun b => oAny c b)
theorem oDone_succ {n : ℕ} (h : n < 64) : oDone c X G W D (n + 1) = iprop(oIs c (Ring.bk 64 n) (hb c X G W D n) ∗ oDone c X G W D n) := by
  unfold oDone; rw [below_succ _ h, Ring.bk_val h]
theorem oTodo_pop {n : ℕ} (h : n < 64) : (oTodo c n : sProp 𝕄) = iprop(oAny c (Ring.bk 64 n) ∗ oTodo c (n + 1)) := by
  unfold oTodo; rw [above_pop _ h]
def oSt (i f : ℕ) : sProp 𝕄 :=
  iprop((if f = 0 then oFree c (Ring.sl 2 i) else oHave c (Ring.sl 2 i) (acc' c X G W D i f))
    ∗ (if f = 0 ∧ 0 < i then iprop(oPrev c X G W D i ∗ oDone c X G W D (i - 1)) else iprop(oFree c (Ring.sl 2 (i + 1)) ∗ oDone c X G W D i)) ∗ oTodo c i)
theorem oSt_first {i f : ℕ} (hf : f = 0) (hi : i = 0) :
    oSt c X G W D i f = iprop(oFree c (Ring.sl 2 i) ∗ (oFree c (Ring.sl 2 (i + 1)) ∗ oDone c X G W D i) ∗ oTodo c i) := by
  unfold oSt; rw [if_pos hf, if_neg (by omega)]
theorem oSt_zero {i f : ℕ} (hf : f = 0) (h : 0 < i) : oSt c X G W D i f = iprop(oFree c (Ring.sl 2 i) ∗ (oPrev c X G W D i ∗ oDone c X G W D (i - 1)) ∗ oTodo c i) := by
  unfold oSt; rw [if_pos hf, if_pos ⟨hf, h⟩]
theorem oSt_pos (i : ℕ) {f : ℕ} (h : f ≠ 0) : oSt c X G W D i f = iprop(oHave c (Ring.sl 2 i) (acc' c X G W D i f) ∗ (oFree c (Ring.sl 2 (i + 1)) ∗ oDone c X G W D i) ∗ oTodo c i) := by
  unfold oSt; rw [if_neg h, if_neg (by omega)]

/-- The `y` stream's slots and blocks before trip `(i, f)`. -/
abbrev yPrev (i : ℕ) : sProp 𝕄 := yBusy c (Ring.sl 2 (i + 1)) (Ring.bk 64 (i - 1)) (ub c X G W D G2 (i - 1))
def yDone (n : ℕ) : sProp 𝕄 := bigSep (Finset.univ.filter fun b : Fin 64 => b.val < n) (fun b => yIs c b (ub c X G W D G2 b.val))
def yTodo (n : ℕ) : sProp 𝕄 := bigSep (Finset.univ.filter fun b : Fin 64 => n ≤ b.val) (fun b => yAny c b)
theorem yDone_succ {n : ℕ} (h : n < 64) : yDone c X G W D G2 (n + 1) = iprop(yIs c (Ring.bk 64 n) (ub c X G W D G2 n) ∗ yDone c X G W D G2 n) := by
  unfold yDone; rw [below_succ _ h, Ring.bk_val h]
theorem yTodo_pop {n : ℕ} (h : n < 64) : (yTodo c n : sProp 𝕄) = iprop(yAny c (Ring.bk 64 n) ∗ yTodo c (n + 1)) := by
  unfold yTodo; rw [above_pop _ h]
def ySt (i f : ℕ) : sProp 𝕄 :=
  iprop(yFree c (Ring.sl 2 i)
    ∗ (if f = 0 ∧ 0 < i then iprop(yPrev c X G W D G2 i ∗ yDone c X G W D G2 (i - 1)) else iprop(yFree c (Ring.sl 2 (i + 1)) ∗ yDone c X G W D G2 i)) ∗ yTodo c i)
theorem ySt_first {i f : ℕ} (hf : f = 0) (hi : i = 0) :
    ySt c X G W D G2 i f = iprop(yFree c (Ring.sl 2 i) ∗ (yFree c (Ring.sl 2 (i + 1)) ∗ yDone c X G W D G2 i) ∗ yTodo c i) := by
  unfold ySt; rw [if_neg (by omega)]
theorem ySt_zero {i f : ℕ} (hf : f = 0) (h : 0 < i) : ySt c X G W D G2 i f = iprop(yFree c (Ring.sl 2 i) ∗ (yPrev c X G W D G2 i ∗ yDone c X G W D G2 (i - 1)) ∗ yTodo c i) := by
  unfold ySt; rw [if_pos ⟨hf, h⟩]
theorem ySt_pos (i : ℕ) {f : ℕ} (h : f ≠ 0) : ySt c X G W D G2 i f = iprop(yFree c (Ring.sl 2 i) ∗ (yFree c (Ring.sl 2 (i + 1)) ∗ yDone c X G W D G2 i) ∗ yTodo c i) := by
  unfold ySt; rw [if_neg (by omega)]

/-- The `w` stream's part for trip `j`: on its way in, while there is such a trip. -/
def wPart (j : ℕ) : sProp 𝕄 := if j < 704 then wBusy c W (Ring.sl 3 j) (Ring.sl 11 j) else wFree c W (Ring.sl 3 j)
theorem wPart_lt {j : ℕ} (h : j < 704) : wPart c W j = (wBusy c W (Ring.sl 3 j) (Ring.sl 11 j) : sProp 𝕄) := if_pos h
theorem wPart_ge {j : ℕ} (h : ¬ j < 704) : wPart c W j = (wFree c W (Ring.sl 3 j) : sProp 𝕄) := if_neg h
/-- Its slots before trip `k`. -/
def wSt (k : ℕ) : sProp 𝕄 := iprop(wPart c W k ∗ wPart c W (k + 1) ∗ wFree c W (Ring.sl 3 (k + 2)))
theorem wSt_lt {k : ℕ} (h : k < 704) :
    wSt c W k = iprop(wBusy c W (Ring.sl 3 k) (Ring.sl 11 k) ∗ wPart c W (k + 1) ∗ wFree c W (Ring.sl 3 (k + 2))) := by
  unfold wSt; rw [wPart_lt c W h]
theorem wSt_next {k : ℕ} (h : k + 2 < 704) :
    wSt c W (k + 1) = iprop(wPart c W (k + 1) ∗ wBusy c W (Ring.sl 3 (k + 2)) (Ring.sl 11 (k + 2)) ∗ wFree c W (Ring.sl 3 k)) := by
  unfold wSt; rw [wPart_lt c W (show k + 1 + 1 < 704 from h), show k + 1 + 2 = k + 3 from rfl, Ring.sl_add]
theorem wSt_late {k : ℕ} (h : ¬ k + 2 < 704) :
    wSt c W (k + 1) = iprop(wPart c W (k + 1) ∗ wFree c W (Ring.sl 3 (k + 2)) ∗ wFree c W (Ring.sl 3 k)) := by
  unfold wSt; rw [wPart_ge c W (show ¬ k + 1 + 1 < 704 from h), show k + 1 + 2 = k + 3 from rfl, Ring.sl_add]

/-- The `v` stream's part for trip `j`: on its way in, while there is such a trip. -/
def vPart (j : ℕ) : sProp 𝕄 := if j < 704 then vBusy c W (Ring.sl 3 j) (Ring.sl 11 j) else vFree c W (Ring.sl 3 j)
theorem vPart_lt {j : ℕ} (h : j < 704) : vPart c W j = (vBusy c W (Ring.sl 3 j) (Ring.sl 11 j) : sProp 𝕄) := if_pos h
theorem vPart_ge {j : ℕ} (h : ¬ j < 704) : vPart c W j = (vFree c W (Ring.sl 3 j) : sProp 𝕄) := if_neg h
/-- Its slots before trip `k`. -/
def vSt (k : ℕ) : sProp 𝕄 := iprop(vPart c W k ∗ vPart c W (k + 1) ∗ vFree c W (Ring.sl 3 (k + 2)))
theorem vSt_lt {k : ℕ} (h : k < 704) :
    vSt c W k = iprop(vBusy c W (Ring.sl 3 k) (Ring.sl 11 k) ∗ vPart c W (k + 1) ∗ vFree c W (Ring.sl 3 (k + 2))) := by
  unfold vSt; rw [vPart_lt c W h]
theorem vSt_next {k : ℕ} (h : k + 2 < 704) :
    vSt c W (k + 1) = iprop(vPart c W (k + 1) ∗ vBusy c W (Ring.sl 3 (k + 2)) (Ring.sl 11 (k + 2)) ∗ vFree c W (Ring.sl 3 k)) := by
  unfold vSt; rw [vPart_lt c W (show k + 1 + 1 < 704 from h), show k + 1 + 2 = k + 3 from rfl, Ring.sl_add]
theorem vSt_late {k : ℕ} (h : ¬ k + 2 < 704) :
    vSt c W (k + 1) = iprop(vPart c W (k + 1) ∗ vFree c W (Ring.sl 3 (k + 2)) ∗ vFree c W (Ring.sl 3 k)) := by
  unfold vSt; rw [vPart_ge c W (show ¬ k + 1 + 1 < 704 from h), show k + 1 + 2 = k + 3 from rfl, Ring.sl_add]

/-- The `d` stream's part for trip `j`: on its way in, while there is such a trip. -/
def dPart (j : ℕ) : sProp 𝕄 := if j < 704 then dBusy c D (Ring.sl 3 j) (Ring.sl 11 j) else dFree c D (Ring.sl 3 j)
theorem dPart_lt {j : ℕ} (h : j < 704) : dPart c D j = (dBusy c D (Ring.sl 3 j) (Ring.sl 11 j) : sProp 𝕄) := if_pos h
theorem dPart_ge {j : ℕ} (h : ¬ j < 704) : dPart c D j = (dFree c D (Ring.sl 3 j) : sProp 𝕄) := if_neg h
/-- Its slots before trip `k`. -/
def dSt (k : ℕ) : sProp 𝕄 := iprop(dPart c D k ∗ dPart c D (k + 1) ∗ dFree c D (Ring.sl 3 (k + 2)))
theorem dSt_lt {k : ℕ} (h : k < 704) :
    dSt c D k = iprop(dBusy c D (Ring.sl 3 k) (Ring.sl 11 k) ∗ dPart c D (k + 1) ∗ dFree c D (Ring.sl 3 (k + 2))) := by
  unfold dSt; rw [dPart_lt c D h]
theorem dSt_next {k : ℕ} (h : k + 2 < 704) :
    dSt c D (k + 1) = iprop(dPart c D (k + 1) ∗ dBusy c D (Ring.sl 3 (k + 2)) (Ring.sl 11 (k + 2)) ∗ dFree c D (Ring.sl 3 k)) := by
  unfold dSt; rw [dPart_lt c D (show k + 1 + 1 < 704 from h), show k + 1 + 2 = k + 3 from rfl, Ring.sl_add]
theorem dSt_late {k : ℕ} (h : ¬ k + 2 < 704) :
    dSt c D (k + 1) = iprop(dPart c D (k + 1) ∗ dFree c D (Ring.sl 3 (k + 2)) ∗ dFree c D (Ring.sl 3 k)) := by
  unfold dSt; rw [dPart_ge c D (show ¬ k + 1 + 1 < 704 from h), show k + 1 + 2 = k + 3 from rfl, Ring.sl_add]

/-! ## The state before trip `k` -/

/-- Everything the loop holds before trip `k`. -/
def St (k : ℕ) : sProp 𝕄 :=
  iprop(cIs c k ∗ gIs c G ∗ hIs c G2 ∗ nSt c X G (k / 11) (k % 11) ∗ xSt c X (k / 11) (k % 11)
    ∗ oSt c X G W D (k / 11) (k % 11) ∗ ySt c X G W D G2 (k / 11) (k % 11)
    ∗ wSt c W k ∗ vSt c W k ∗ dSt c D k ∗ owing c)

theorem succ_in {k : ℕ} (h : k % 11 < 10) : (k + 1) / 11 = k / 11 ∧ (k + 1) % 11 = k % 11 + 1 := by omega
theorem succ_out {k : ℕ} (h : k % 11 = 10) : (k + 1) / 11 = k / 11 + 1 ∧ (k + 1) % 11 = 0 := by omega
theorem sl2_back (i : ℕ) : Ring.sl 2 (i + 1 + 1) = Ring.sl 2 i := by rw [show i + 1 + 1 = i + 2 from rfl, Ring.sl_add]

theorem xSt_out {i : ℕ} (h : i + 1 < 64) : xSt c X (i + 1) 0 = iprop(xBusy c X (Ring.sl 2 (i + 1)) (Ring.bk 64 (i + 1)) ∗ xFree c X (Ring.sl 2 i)) := by
  rw [xSt_zero c X rfl h, sl2_back]
theorem xSt_out_end {i : ℕ} (h : ¬ i + 1 < 64) : xSt c X (i + 1) 0 = iprop(xFree c X (Ring.sl 2 (i + 1)) ∗ xFree c X (Ring.sl 2 i)) := by
  rw [xSt_end c X h, sl2_back]
theorem oSt_out (i : ℕ) :
    oSt c X G W D (i + 1) 0 = iprop(oFree c (Ring.sl 2 (i + 1)) ∗ (oBusy c (Ring.sl 2 i) (Ring.bk 64 i) (hb c X G W D i) ∗ oDone c X G W D i) ∗ oTodo c (i + 1)) := by
  rw [oSt_zero c X G W D rfl (show 0 < i + 1 from Nat.succ_pos i), oPrev, Nat.add_sub_cancel, sl2_back]
theorem oDone_back {i : ℕ} (h : 0 < i) (h' : i ≤ 64) :
    oDone c X G W D i = iprop(oIs c (Ring.bk 64 (i - 1)) (hb c X G W D (i - 1)) ∗ oDone c X G W D (i - 1)) := by
  obtain ⟨j, rfl⟩ : ∃ j, i = j + 1 := ⟨i - 1, by omega⟩
  rw [oDone_succ c X G W D (by omega : j < 64), Nat.add_sub_cancel]
theorem ySt_out (i : ℕ) :
    ySt c X G W D G2 (i + 1) 0 = iprop(yFree c (Ring.sl 2 (i + 1)) ∗ (yBusy c (Ring.sl 2 i) (Ring.bk 64 i) (ub c X G W D G2 i) ∗ yDone c X G W D G2 i) ∗ yTodo c (i + 1)) := by
  rw [ySt_zero c X G W D G2 rfl (show 0 < i + 1 from Nat.succ_pos i), yPrev, Nat.add_sub_cancel, sl2_back]
theorem yDone_back {i : ℕ} (h : 0 < i) (h' : i ≤ 64) :
    yDone c X G W D G2 i = iprop(yIs c (Ring.bk 64 (i - 1)) (ub c X G W D G2 (i - 1)) ∗ yDone c X G W D G2 (i - 1)) := by
  obtain ⟨j, rfl⟩ : ∃ j, i = j + 1 := ⟨i - 1, by omega⟩
  rw [yDone_succ c X G W D G2 (by omega : j < 64), Nat.add_sub_cancel]

end Cert.Proof.Ffn
-- ==== Proof.Steps.lean ====
/-
  Each trip takes the loop's state to the next.
-/
module

public import proofs.«01_k».proof.Proof.Inv

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
variable (c : Dev nD)

variable (X : BufOf (F := F) c xM) (G : S1x2048.Idx → Elt F .f32) (W : BufOf (F := F) c wM) (D : BufOf (F := F) c dM) (G2 : S1x2048.Idx → Elt F .f32)

set_option maxHeartbeats 1000000 in
/-- The first trip. -/
theorem stepA (v22 v49 v70 v77 v85 : BitVec 32) (v87 : BitVec 1) (k : Fin k0_t1_loop.trips) (h0 : k.val % 11 = 0) (hz : k.val = 0) :
    St c X G W D G2 k.val ⊢ wp frame (wpE (defs₀ (F := F)) 𝒱₀ (c : Thread nD τ) none) Set.univ (trip v22 v49 v70 v77 v85 v87 k)
      (fun a => iprop(⌜a = acc (k.val + 1)⌝ ∗ St c X G W D G2 (k.val + 1))) := by
  have hl := lt704 k
  have hn : k.val % 11 < 10 := by omega
  have hb64 : k.val / 11 < 64 := by omega
  unfold St
  rw [(succ_in hn).1, (succ_in hn).2]
  rw [nSt_zero c X G _ h0, nSt_pos c X G _ (Nat.succ_ne_zero _), xSt_zero c X h0 hb64, xSt_pos c X _ (Nat.succ_ne_zero _), oSt_pos c X G W D _ (Nat.succ_ne_zero _), ySt_pos c X G W D G2 _ (Nat.succ_ne_zero _)]
  rw [oSt_first c X G W D h0 (by omega), ySt_first c X G W D G2 h0 (by omega)]
  rw [wSt_lt c W hl, wSt_next c W (by omega), vSt_lt c W hl, vSt_next c W (by omega), dSt_lt c D hl, dSt_next c D (by omega)]
  iintro ⟨HC, HG, HH, HN, ⟨HX, HX'⟩, ⟨HO, ⟨HO', HOD⟩, HOT⟩, ⟨HY, ⟨HY', HYD⟩, HYT⟩, ⟨HW, HW1, HW2⟩, ⟨HV, HV1, HV2⟩, ⟨HD, HD1, HD2⟩, HOW⟩
  iapply (wp_wand_r Idealize.ShloMosaic.frame (wpE (defs₀ (F := F)) 𝒱₀ (c : Thread nD τ) none) Set.univ)
  isplitl [HC HG HN HX HO HW HW2 HV HV2 HD HD2 HOW]
  · iapply (tripA c X G W D v22 v49 v70 v77 v85 v87 k h0 hz)
    isplitl [HC]; · iexact HC
    isplitl [HG]; · iexact HG
    isplitl [HN]; · iexact HN
    isplitl [HX]; · iexact HX
    isplitl [HO]; · iexact HO
    isplitl [HW]; · iexact HW
    isplitl [HW2]; · iexact HW2
    isplitl [HV]; · iexact HV
    isplitl [HV2]; · iexact HV2
    isplitl [HD]; · iexact HD
    isplitl [HD2]; · iexact HD2
    iexact HOW
  iintro %a ⟨%ha, HC, HG, HN, HX, HO, HW, HW2, HV, HV2, HD, HD2, HOW⟩
  isplitr; · (ipureintro; exact ha)
  isplitl [HC]
  · iexact HC
  isplitl [HG]
  · iexact HG
  isplitl [HH]
  · iexact HH
  isplitl [HN]
  · iexact HN
  isplitl [HX HX']
  · isplitl [HX]
    · iexact HX
    iexact HX'
  isplitl [HO HO' HOD HOT]
  · isplitl [HO]
    · iexact HO
    isplitl [HO' HOD]
    · isplitl [HO']
      · iexact HO'
      iexact HOD
    iexact HOT
  isplitl [HY HY' HYD HYT]
  · isplitl [HY]
    · iexact HY
    isplitl [HY' HYD]
    · isplitl [HY']
      · iexact HY'
      iexact HYD
    iexact HYT
  isplitl [HW1 HW2 HW]
  · isplitl [HW1]
    · iexact HW1
    isplitl [HW2]
    · iexact HW2
    iexact HW
  isplitl [HV1 HV2 HV]
  · isplitl [HV1]
    · iexact HV1
    isplitl [HV2]
    · iexact HV2
    iexact HV
  isplitl [HD1 HD2 HD]
  · isplitl [HD1]
    · iexact HD1
    isplitl [HD2]
    · iexact HD2
    iexact HD
  iexact HOW

set_option maxHeartbeats 1000000 in
/-- A later block's first trip. -/
theorem stepB (v22 v49 v70 v77 v85 : BitVec 32) (v87 : BitVec 1) (k : Fin k0_t1_loop.trips) (h0 : k.val % 11 = 0) (hp : 0 < k.val) :
    St c X G W D G2 k.val ⊢ wp frame (wpE (defs₀ (F := F)) 𝒱₀ (c : Thread nD τ) none) Set.univ (trip v22 v49 v70 v77 v85 v87 k)
      (fun a => iprop(⌜a = acc (k.val + 1)⌝ ∗ St c X G W D G2 (k.val + 1))) := by
  have hl := lt704 k
  have hn : k.val % 11 < 10 := by omega
  have hb64 : k.val / 11 < 64 := by omega
  unfold St
  rw [(succ_in hn).1, (succ_in hn).2]
  rw [nSt_zero c X G _ h0, nSt_pos c X G _ (Nat.succ_ne_zero _), xSt_zero c X h0 hb64, xSt_pos c X _ (Nat.succ_ne_zero _), oSt_pos c X G W D _ (Nat.succ_ne_zero _), ySt_pos c X G W D G2 _ (Nat.succ_ne_zero _)]
  have hi : 0 < k.val / 11 := by omega
  rw [oDone_back c X G W D hi hb64.le, yDone_back c X G W D G2 hi hb64.le, oSt_zero c X G W D h0 hi, ySt_zero c X G W D G2 h0 hi]
  rw [wSt_lt c W hl, wSt_next c W (by omega), vSt_lt c W hl, vSt_next c W (by omega), dSt_lt c D hl, dSt_next c D (by omega)]
  iintro ⟨HC, HG, HH, HN, ⟨HX, HX'⟩, ⟨HO, ⟨HO', HOD⟩, HOT⟩, ⟨HY, ⟨HY', HYD⟩, HYT⟩, ⟨HW, HW1, HW2⟩, ⟨HV, HV1, HV2⟩, ⟨HD, HD1, HD2⟩, HOW⟩
  iapply (wp_wand_r Idealize.ShloMosaic.frame (wpE (defs₀ (F := F)) 𝒱₀ (c : Thread nD τ) none) Set.univ)
  isplitl [HC HG HN HX HO HO' HY' HW HW2 HV HV2 HD HD2 HOW]
  · iapply (tripB c X G W D v22 v49 v70 v77 v85 v87 k h0 hp (hb c X G W D (k.val / 11 - 1)) (ub c X G W D G2 (k.val / 11 - 1)))
    isplitl [HC]; · iexact HC
    isplitl [HG]; · iexact HG
    isplitl [HN]; · iexact HN
    isplitl [HX]; · iexact HX
    isplitl [HO]; · iexact HO
    isplitl [HO']; · iexact HO'
    isplitl [HY']; · iexact HY'
    isplitl [HW]; · iexact HW
    isplitl [HW2]; · iexact HW2
    isplitl [HV]; · iexact HV
    isplitl [HV2]; · iexact HV2
    isplitl [HD]; · iexact HD
    isplitl [HD2]; · iexact HD2
    iexact HOW
  iintro %a ⟨%ha, HC, HG, HN, HX, HO, HO', HOi, HY', HYi, HW, HW2, HV, HV2, HD, HD2, HOW⟩
  isplitr; · (ipureintro; exact ha)
  isplitl [HC]
  · iexact HC
  isplitl [HG]
  · iexact HG
  isplitl [HH]
  · iexact HH
  isplitl [HN]
  · iexact HN
  isplitl [HX HX']
  · isplitl [HX]
    · iexact HX
    iexact HX'
  isplitl [HO HO' HOi HOD HOT]
  · isplitl [HO]
    · iexact HO
    isplitl [HO' HOi HOD]
    · isplitl [HO']
      · iexact HO'
      isplitl [HOi]
      · iexact HOi
      iexact HOD
    iexact HOT
  isplitl [HY HY' HYi HYD HYT]
  · isplitl [HY]
    · iexact HY
    isplitl [HY' HYi HYD]
    · isplitl [HY']
      · iexact HY'
      isplitl [HYi]
      · iexact HYi
      iexact HYD
    iexact HYT
  isplitl [HW1 HW2 HW]
  · isplitl [HW1]
    · iexact HW1
    isplitl [HW2]
    · iexact HW2
    iexact HW
  isplitl [HV1 HV2 HV]
  · isplitl [HV1]
    · iexact HV1
    isplitl [HV2]
    · iexact HV2
    iexact HV
  isplitl [HD1 HD2 HD]
  · isplitl [HD1]
    · iexact HD1
    isplitl [HD2]
    · iexact HD2
    iexact HD
  iexact HOW

set_option maxHeartbeats 1000000 in
/-- A trip in the middle of a block. -/
theorem stepC (v22 v49 v70 v77 v85 : BitVec 32) (v87 : BitVec 1) (k : Fin k0_t1_loop.trips) (hf : 0 < k.val % 11) (hf' : k.val % 11 < 10) (h702 : k.val < 702) :
    St c X G W D G2 k.val ⊢ wp frame (wpE (defs₀ (F := F)) 𝒱₀ (c : Thread nD τ) none) Set.univ (trip v22 v49 v70 v77 v85 v87 k)
      (fun a => iprop(⌜a = acc (k.val + 1)⌝ ∗ St c X G W D G2 (k.val + 1))) := by
  have hl := lt704 k
  have hp := Nat.pos_iff_ne_zero.mp hf
  unfold St
  rw [(succ_in hf').1, (succ_in hf').2]
  rw [nSt_pos c X G _ hp, nSt_pos c X G _ (Nat.succ_ne_zero _), xSt_pos c X _ hp, xSt_pos c X _ (Nat.succ_ne_zero _), oSt_pos c X G W D _ hp, oSt_pos c X G W D _ (Nat.succ_ne_zero _), ySt_pos c X G W D G2 _ hp, ySt_pos c X G W D G2 _ (Nat.succ_ne_zero _)]
  rw [wSt_lt c W hl, wSt_next c W (by omega), vSt_lt c W hl, vSt_next c W (by omega), dSt_lt c D hl, dSt_next c D (by omega)]
  iintro ⟨HC, HG, HH, HN, ⟨HX, HX'⟩, ⟨HO, ⟨HO', HOD⟩, HOT⟩, ⟨HY, ⟨HY', HYD⟩, HYT⟩, ⟨HW, HW1, HW2⟩, ⟨HV, HV1, HV2⟩, ⟨HD, HD1, HD2⟩, HOW⟩
  iapply (wp_wand_r Idealize.ShloMosaic.frame (wpE (defs₀ (F := F)) 𝒱₀ (c : Thread nD τ) none) Set.univ)
  isplitl [HC HN HO HW HW2 HV HV2 HD HD2 HOW]
  · iapply (tripC c X G W D v22 v49 v70 v77 v85 v87 k hf hf' h702)
    isplitl [HC]; · iexact HC
    isplitl [HN]; · iexact HN
    isplitl [HO]; · iexact HO
    isplitl [HW]; · iexact HW
    isplitl [HW2]; · iexact HW2
    isplitl [HV]; · iexact HV
    isplitl [HV2]; · iexact HV2
    isplitl [HD]; · iexact HD
    isplitl [HD2]; · iexact HD2
    iexact HOW
  iintro %a ⟨%ha, HC, HN, HO, HW, HW2, HV, HV2, HD, HD2, HOW⟩
  isplitr; · (ipureintro; exact ha)
  isplitl [HC]
  · iexact HC
  isplitl [HG]
  · iexact HG
  isplitl [HH]
  · iexact HH
  isplitl [HN]
  · iexact HN
  isplitl [HX HX']
  · isplitl [HX]
    · iexact HX
    iexact HX'
  isplitl [HO HO' HOD HOT]
  · isplitl [HO]
    · iexact HO
    isplitl [HO' HOD]
    · isplitl [HO']
      · iexact HO'
      iexact HOD
    iexact HOT
  isplitl [HY HY' HYD HYT]
  · isplitl [HY]
    · iexact HY
    isplitl [HY' HYD]
    · isplitl [HY']
      · iexact HY'
      iexact HYD
    iexact HYT
  isplitl [HW1 HW2 HW]
  · isplitl [HW1]
    · iexact HW1
    isplitl [HW2]
    · iexact HW2
    iexact HW
  isplitl [HV1 HV2 HV]
  · isplitl [HV1]
    · iexact HV1
    isplitl [HV2]
    · iexact HV2
    iexact HV
  isplitl [HD1 HD2 HD]
  · isplitl [HD1]
    · iexact HD1
    isplitl [HD2]
    · iexact HD2
    iexact HD
  iexact HOW

set_option maxHeartbeats 1000000 in
/-- The last but one trip. -/
theorem stepD (v22 v49 v70 v77 v85 : BitVec 32) (v87 : BitVec 1) (k : Fin k0_t1_loop.trips) (hz : k.val = 702) :
    St c X G W D G2 k.val ⊢ wp frame (wpE (defs₀ (F := F)) 𝒱₀ (c : Thread nD τ) none) Set.univ (trip v22 v49 v70 v77 v85 v87 k)
      (fun a => iprop(⌜a = acc (k.val + 1)⌝ ∗ St c X G W D G2 (k.val + 1))) := by
  have hl := lt704 k
  have hf : 0 < k.val % 11 := by omega
  have hf' : k.val % 11 < 10 := by omega
  have hp := Nat.pos_iff_ne_zero.mp hf
  unfold St
  rw [(succ_in hf').1, (succ_in hf').2]
  rw [nSt_pos c X G _ hp, nSt_pos c X G _ (Nat.succ_ne_zero _), xSt_pos c X _ hp, xSt_pos c X _ (Nat.succ_ne_zero _), oSt_pos c X G W D _ hp, oSt_pos c X G W D _ (Nat.succ_ne_zero _), ySt_pos c X G W D G2 _ hp, ySt_pos c X G W D G2 _ (Nat.succ_ne_zero _)]
  rw [wSt_lt c W hl, wSt_late c W (by omega), vSt_lt c W hl, vSt_late c W (by omega), dSt_lt c D hl, dSt_late c D (by omega)]
  iintro ⟨HC, HG, HH, HN, ⟨HX, HX'⟩, ⟨HO, ⟨HO', HOD⟩, HOT⟩, ⟨HY, ⟨HY', HYD⟩, HYT⟩, ⟨HW, HW1, HW2⟩, ⟨HV, HV1, HV2⟩, ⟨HD, HD1, HD2⟩, HOW⟩
  iapply (wp_wand_r Idealize.ShloMosaic.frame (wpE (defs₀ (F := F)) 𝒱₀ (c : Thread nD τ) none) Set.univ)
  isplitl [HC HN HO HW HV HD HOW]
  · iapply (tripD c X G W D v22 v49 v70 v77 v85 v87 k hz)
    isplitl [HC]; · iexact HC
    isplitl [HN]; · iexact HN
    isplitl [HO]; · iexact HO
    isplitl [HW]; · iexact HW
    isplitl [HV]; · iexact HV
    isplitl [HD]; · iexact HD
    iexact HOW
  iintro %a ⟨%ha, HC, HN, HO, HW, HV, HD, HOW⟩
  isplitr; · (ipureintro; exact ha)
  isplitl [HC]
  · iexact HC
  isplitl [HG]
  · iexact HG
  isplitl [HH]
  · iexact HH
  isplitl [HN]
  · iexact HN
  isplitl [HX HX']
  · isplitl [HX]
    · iexact HX
    iexact HX'
  isplitl [HO HO' HOD HOT]
  · isplitl [HO]
    · iexact HO
    isplitl [HO' HOD]
    · isplitl [HO']
      · iexact HO'
      iexact HOD
    iexact HOT
  isplitl [HY HY' HYD HYT]
  · isplitl [HY]
    · iexact HY
    isplitl [HY' HYD]
    · isplitl [HY']
      · iexact HY'
      iexact HYD
    iexact HYT
  isplitl [HW1 HW2 HW]
  · isplitl [HW1]
    · iexact HW1
    isplitl [HW2]
    · iexact HW2
    iexact HW
  isplitl [HV1 HV2 HV]
  · isplitl [HV1]
    · iexact HV1
    isplitl [HV2]
    · iexact HV2
    iexact HV
  isplitl [HD1 HD2 HD]
  · isplitl [HD1]
    · iexact HD1
    isplitl [HD2]
    · iexact HD2
    iexact HD
  iexact HOW

set_option maxHeartbeats 1000000 in
/-- A block's last trip. -/
theorem stepE (v22 v49 v70 v77 v85 : BitVec 32) (v87 : BitVec 1) (k : Fin k0_t1_loop.trips) (h10 : k.val % 11 = 10) (h703 : k.val < 703) :
    St c X G W D G2 k.val ⊢ wp frame (wpE (defs₀ (F := F)) 𝒱₀ (c : Thread nD τ) none) Set.univ (trip v22 v49 v70 v77 v85 v87 k)
      (fun a => iprop(⌜a = acc (k.val + 1)⌝ ∗ St c X G W D G2 (k.val + 1))) := by
  have hl := lt704 k
  have hp : k.val % 11 ≠ 0 := by omega
  have hb64 : k.val / 11 < 64 := by omega
  unfold St
  rw [(succ_out h10).1, (succ_out h10).2]
  rw [nSt_pos c X G _ hp, nSt_zero c X G _ rfl, xSt_pos c X _ hp, xSt_out c X (by omega), oSt_out, ySt_out, oSt_pos c X G W D _ hp, ySt_pos c X G W D G2 _ hp, oTodo_pop c hb64, yTodo_pop c hb64]
  rw [wSt_lt c W hl, wSt_next c W (by omega), vSt_lt c W hl, vSt_next c W (by omega), dSt_lt c D hl, dSt_next c D (by omega)]
  iintro ⟨HC, HG, HH, HN, ⟨⟨HXz, HX, HXa⟩, HX'⟩, ⟨HO, ⟨HO', HOD⟩, ⟨HOb, HOT⟩⟩, ⟨HY, ⟨HY', HYD⟩, ⟨HYb, HYT⟩⟩, ⟨HW, HW1, HW2⟩, ⟨HV, HV1, HV2⟩, ⟨HD, HD1, HD2⟩, HOW⟩
  iapply (wp_wand_r Idealize.ShloMosaic.frame (wpE (defs₀ (F := F)) 𝒱₀ (c : Thread nD τ) none) Set.univ)
  isplitl [HC HH HN HX HX' HO HOb HY HYb HW HW2 HV HV2 HD HD2 HOW]
  · iapply (tripE c X G W D G2 v22 v49 v70 v77 v85 v87 k h10 h703)
    isplitl [HC]; · iexact HC
    isplitl [HH]; · iexact HH
    isplitl [HN]; · iexact HN
    isplitl [HX]; · iexact HX
    isplitl [HX']; · iexact HX'
    isplitl [HO]; · iexact HO
    isplitl [HOb]; · iexact HOb
    isplitl [HY]; · iexact HY
    isplitl [HYb]; · iexact HYb
    isplitl [HW]; · iexact HW
    isplitl [HW2]; · iexact HW2
    isplitl [HV]; · iexact HV
    isplitl [HV2]; · iexact HV2
    isplitl [HD]; · iexact HD
    isplitl [HD2]; · iexact HD2
    iexact HOW
  iintro %a ⟨%ha, HC, HH, HN, HX, HX', HOB, HYB, HW, HW2, HV, HV2, HD, HD2, HOW⟩
  isplitr; · (ipureintro; exact ha)
  isplitl [HC]
  · iexact HC
  isplitl [HG]
  · iexact HG
  isplitl [HH]
  · iexact HH
  isplitl [HN]
  · iexact HN
  isplitl [HX' HXz HX HXa]
  · isplitl [HX']
    · iexact HX'
    isplitl [HXz]
    · iexact HXz
    isplitl [HX]
    · iexact HX
    iexact HXa
  isplitl [HO' HOB HOD HOT]
  · isplitl [HO']
    · iexact HO'
    isplitl [HOB HOD]
    · isplitl [HOB]
      · iexact HOB
      iexact HOD
    iexact HOT
  isplitl [HY' HYB HYD HYT]
  · isplitl [HY']
    · iexact HY'
    isplitl [HYB HYD]
    · isplitl [HYB]
      · iexact HYB
      iexact HYD
    iexact HYT
  isplitl [HW1 HW2 HW]
  · isplitl [HW1]
    · iexact HW1
    isplitl [HW2]
    · iexact HW2
    iexact HW
  isplitl [HV1 HV2 HV]
  · isplitl [HV1]
    · iexact HV1
    isplitl [HV2]
    · iexact HV2
    iexact HV
  isplitl [HD1 HD2 HD]
  · isplitl [HD1]
    · iexact HD1
    isplitl [HD2]
    · iexact HD2
    iexact HD
  iexact HOW

set_option maxHeartbeats 1000000 in
/-- The last trip. -/
theorem stepF (v22 v49 v70 v77 v85 : BitVec 32) (v87 : BitVec 1) (k : Fin k0_t1_loop.trips) (hz : k.val = 703) :
    St c X G W D G2 k.val ⊢ wp frame (wpE (defs₀ (F := F)) 𝒱₀ (c : Thread nD τ) none) Set.univ (trip v22 v49 v70 v77 v85 v87 k)
      (fun a => iprop(⌜a = acc (k.val + 1)⌝ ∗ St c X G W D G2 (k.val + 1))) := by
  have hl := lt704 k
  have h10 : k.val % 11 = 10 := by omega
  have hp : k.val % 11 ≠ 0 := by omega
  have hb64 : k.val / 11 < 64 := by omega
  unfold St
  rw [(succ_out h10).1, (succ_out h10).2]
  rw [nSt_pos c X G _ hp, nSt_zero c X G _ rfl, xSt_pos c X _ hp, xSt_out_end c X (by omega), oSt_out, ySt_out, oSt_pos c X G W D _ hp, ySt_pos c X G W D G2 _ hp, oTodo_pop c hb64, yTodo_pop c hb64]
  rw [wSt_lt c W hl, wSt_late c W (by omega), vSt_lt c W hl, vSt_late c W (by omega), dSt_lt c D hl, dSt_late c D (by omega)]
  iintro ⟨HC, HG, HH, HN, ⟨⟨HXz, HX, HXa⟩, HX'⟩, ⟨HO, ⟨HO', HOD⟩, ⟨HOb, HOT⟩⟩, ⟨HY, ⟨HY', HYD⟩, ⟨HYb, HYT⟩⟩, ⟨HW, HW1, HW2⟩, ⟨HV, HV1, HV2⟩, ⟨HD, HD1, HD2⟩, HOW⟩
  iapply (wp_wand_r Idealize.ShloMosaic.frame (wpE (defs₀ (F := F)) 𝒱₀ (c : Thread nD τ) none) Set.univ)
  isplitl [HC HH HN HX HO HOb HY HYb HW HV HD HOW]
  · iapply (tripF c X G W D G2 v22 v49 v70 v77 v85 v87 k hz)
    isplitl [HC]; · iexact HC
    isplitl [HH]; · iexact HH
    isplitl [HN]; · iexact HN
    isplitl [HX]; · iexact HX
    isplitl [HO]; · iexact HO
    isplitl [HOb]; · iexact HOb
    isplitl [HY]; · iexact HY
    isplitl [HYb]; · iexact HYb
    isplitl [HW]; · iexact HW
    isplitl [HV]; · iexact HV
    isplitl [HD]; · iexact HD
    iexact HOW
  iintro %a ⟨%ha, HC, HH, HN, HX, HOB, HYB, HW, HV, HD, HOW⟩
  isplitr; · (ipureintro; exact ha)
  isplitl [HC]
  · iexact HC
  isplitl [HG]
  · iexact HG
  isplitl [HH]
  · iexact HH
  isplitl [HN]
  · iexact HN
  isplitl [HX' HXz HX HXa]
  · isplitl [HX']
    · iexact HX'
    isplitl [HXz]
    · iexact HXz
    isplitl [HX]
    · iexact HX
    iexact HXa
  isplitl [HO' HOB HOD HOT]
  · isplitl [HO']
    · iexact HO'
    isplitl [HOB HOD]
    · isplitl [HOB]
      · iexact HOB
      iexact HOD
    iexact HOT
  isplitl [HY' HYB HYD HYT]
  · isplitl [HY']
    · iexact HY'
    isplitl [HYB HYD]
    · isplitl [HYB]
      · iexact HYB
      iexact HYD
    iexact HYT
  isplitl [HW1 HW2 HW]
  · isplitl [HW1]
    · iexact HW1
    isplitl [HW2]
    · iexact HW2
    iexact HW
  isplitl [HV1 HV2 HV]
  · isplitl [HV1]
    · iexact HV1
    isplitl [HV2]
    · iexact HV2
    iexact HV
  isplitl [HD1 HD2 HD]
  · isplitl [HD1]
    · iexact HD1
    isplitl [HD2]
    · iexact HD2
    iexact HD
  iexact HOW

end Cert.Proof.Ffn
-- ==== Proof.Body.lean ====
/-
  The kernel's body: the prologue's transfers, the loop, and the last two transfers' waits.
-/
module

public import proofs.«01_k».proof.Proof.Steps

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
variable (c : Dev nD)

variable (X : BufOf (F := F) c xM) (G : BufOf (F := F) c gM) (W : BufOf (F := F) c wM) (D : BufOf (F := F) c dM) (G2 : BufOf (F := F) c hM)

/-- The body, on its arrays, buffers and counters. -/
abbrev bodyG : Prog (TpuEff nD τ sig (Elt F) Λ₀ .tc) PUnit :=
  cc0_ffn_u (F := F) xM (Memref.isWhole_whole _) gM (Memref.isWhole_whole _) wM (Memref.isWhole_whole _) wM (Memref.isWhole_whole _) dM (Memref.isWhole_whole _)
    hM (Memref.isWhole_whole _) oM (Memref.isWhole_whole _) yM (Memref.isWhole_whole _) nB (Memref.isWhole_whole _) cB (Memref.isWhole_whole _)
    xB (Memref.isWhole_whole _) cc0_scoped1 gB (Memref.isWhole_whole _) wB (Memref.isWhole_whole _) cc0_scoped4 vB (Memref.isWhole_whole _) cc0_scoped6
    dB (Memref.isWhole_whole _) cc0_scoped8 hB (Memref.isWhole_whole _) oB (Memref.isWhole_whole _) cc0_scoped11 yB (Memref.isWhole_whole _) cc0_scoped13
    cc0_scoped14 cc0_scoped15

/-- What is free before the body and after it. -/
abbrev Idle : sProp 𝕄 :=
  iprop(nAny c ∗ (∃ f, own c cB f) ∗ (∃ f, own c gB f) ∗ (∃ f, own c hB f)
    ∗ (xFree c X 0 ∗ xFree c X 1) ∗ (oFree c 0 ∗ oFree c 1) ∗ (yFree c 0 ∗ yFree c 1)
    ∗ (wFree c W 0 ∗ wFree c W 1 ∗ wFree c W 2) ∗ (vFree c W 0 ∗ vFree c W 1 ∗ vFree c W 2) ∗ (dFree c D 0 ∗ dFree c D 1 ∗ dFree c D 2)
    ∗ (zero c cc0_scoped14 ∗ own c gM G) ∗ (zero c cc0_scoped15 ∗ own c hM G2) ∗ owing c)

/-- Equal assertions entail each other. -/
theorem of_eq {P Q : sProp 𝕄} (e : P = Q) : P ⊢ Q := e ▸ .rfl

/-- One trip, whichever it is. -/
theorem step (G : S1x2048.Idx → Elt F .f32) (G2 : S1x2048.Idx → Elt F .f32) (v22 v49 v70 v77 v85 : BitVec 32) (v87 : BitVec 1) (k : Fin k0_t1_loop.trips) :
    St c X G W D G2 k.val ⊢ wp frame (wpE (defs₀ (F := F)) 𝒱₀ (c : Thread nD τ) none) Set.univ (trip v22 v49 v70 v77 v85 v87 k)
      (fun a => iprop(⌜a = acc (k.val + 1)⌝ ∗ St c X G W D G2 (k.val + 1))) := by
  have hl := lt704 k
  by_cases h0 : k.val % 11 = 0
  · by_cases hz : k.val = 0
    · exact stepA c X G W D G2 v22 v49 v70 v77 v85 v87 k h0 hz
    · exact stepB c X G W D G2 v22 v49 v70 v77 v85 v87 k h0 (by omega)
  · by_cases h10 : k.val % 11 = 10
    · by_cases hL : k.val = 703
      · exact stepF c X G W D G2 v22 v49 v70 v77 v85 v87 k hL
      · exact stepE c X G W D G2 v22 v49 v70 v77 v85 v87 k h10 (by omega)
    · by_cases h702 : k.val = 702
      · exact stepD c X G W D G2 v22 v49 v70 v77 v85 v87 k h702
      · exact stepC c X G W D G2 v22 v49 v70 v77 v85 v87 k (by omega) (by omega) (by omega)

/-- The counter's word, cleared. -/
theorem c_up0 (f : BufOf (F := F) c cB) (hh) (p : S1.Idx → Elt F .i32) (h : ∀ i, p i = wk 0) :
    (own c cB (cB.view.writes (Elt F) f [⟨Rect.unit (s := S1) ![0] S1.size hh, p⟩]) : sProp 𝕄) ⊢ own c cB (fun _ => wk 0) := by
  rw [c_store c f hh p (wk 0) h]

/-- The loop's state before the first trip. -/
theorem St_zero (G : S1x2048.Idx → Elt F .f32) (G2 : S1x2048.Idx → Elt F .f32) :
    St c X G W D G2 0 = iprop(cIs c 0 ∗ gIs c G ∗ hIs c G2 ∗ nAny c ∗ (xBusy c X 0 0 ∗ xFree c X 1)
      ∗ (oFree c 0 ∗ (oFree c 1 ∗ oDone c X G W D 0) ∗ oTodo c 0) ∗ (yFree c 0 ∗ (yFree c 1 ∗ yDone c X G W D G2 0) ∗ yTodo c 0)
      ∗ (wBusy c W 0 0 ∗ wBusy c W 1 1 ∗ wFree c W 2) ∗ (vBusy c W 0 0 ∗ vBusy c W 1 1 ∗ vFree c W 2) ∗ (dBusy c D 0 0 ∗ dBusy c D 1 1 ∗ dFree c D 2)
      ∗ owing c) := by
  have e0 : Ring.sl 2 0 = 0 := Fin.ext (by rfl)
  have e1 : Ring.sl 2 (0 + 1) = 1 := Fin.ext (by rfl)
  have t0 : Ring.sl 3 0 = 0 := Fin.ext (by rfl)
  have t1 : Ring.sl 3 (0 + 1) = 1 := Fin.ext (by rfl)
  have t2 : Ring.sl 3 (0 + 2) = 2 := Fin.ext (by rfl)
  have b0 : Ring.sl 11 0 = 0 := Fin.ext (by rfl)
  have b1 : Ring.sl 11 (0 + 1) = 1 := Fin.ext (by rfl)
  have r0 : Ring.bk 64 0 = 0 := Fin.ext (by rfl)
  unfold St
  rw [Nat.zero_div, Nat.zero_mod, nSt_zero c X G _ rfl, xSt_zero c X rfl (by omega), oSt_first c X G W D rfl rfl, ySt_first c X G W D G2 rfl rfl,
    wSt_lt c W (by omega), vSt_lt c W (by omega), dSt_lt c D (by omega), wPart_lt c W (by omega), vPart_lt c W (by omega), dPart_lt c D (by omega),
    e0, e1, t0, t1, t2, b0, b1, r0]

/-- The loop's state after the last trip. -/
theorem St_last (G : S1x2048.Idx → Elt F .f32) (G2 : S1x2048.Idx → Elt F .f32) :
    St c X G W D G2 704 = iprop(cIs c 704 ∗ gIs c G ∗ hIs c G2 ∗ nAny c ∗ (xFree c X 0 ∗ xFree c X 1)
      ∗ (oFree c 0 ∗ (oBusy c 1 63 (hb c X G W D 63) ∗ oDone c X G W D 63) ∗ oTodo c 64)
      ∗ (yFree c 0 ∗ (yBusy c 1 63 (ub c X G W D G2 63) ∗ yDone c X G W D G2 63) ∗ yTodo c 64)
      ∗ (wFree c W 2 ∗ wFree c W 0 ∗ wFree c W 1) ∗ (vFree c W 2 ∗ vFree c W 0 ∗ vFree c W 1) ∗ (dFree c D 2 ∗ dFree c D 0 ∗ dFree c D 1)
      ∗ owing c) := by
  have e0 : Ring.sl 2 64 = 0 := Fin.ext (by rfl)
  have e1 : Ring.sl 2 (64 + 1) = 1 := Fin.ext (by rfl)
  have t0 : Ring.sl 3 704 = 2 := Fin.ext (by rfl)
  have t1 : Ring.sl 3 (704 + 1) = 0 := Fin.ext (by rfl)
  have t2 : Ring.sl 3 (704 + 2) = 1 := Fin.ext (by rfl)
  have r0 : Ring.bk 64 (64 - 1) = 63 := Fin.ext (by rfl)
  unfold St
  rw [show 704 / 11 = 64 from rfl, show 704 % 11 = 0 from rfl, nSt_zero c X G _ rfl, xSt_end c X (by omega), oSt_zero c X G W D rfl (by omega), ySt_zero c X G W D G2 rfl (by omega)]
  unfold wSt vSt dSt
  rw [wPart_ge c W (by omega), vPart_ge c W (by omega), dPart_ge c D (by omega), wPart_ge c W (by omega), vPart_ge c W (by omega), dPart_ge c D (by omega),
    oPrev, yPrev, e0, e1, t0, t1, t2, r0]

theorem oDone_zero (G : S1x2048.Idx → Elt F .f32) : (BI.emp : sProp 𝕄) ⊢ oDone c X G W D 0 := by
  unfold oDone; rw [show (Finset.univ.filter fun b : Fin 64 => b.val < 0) = ∅ from rfl, bigSep_empty]
theorem yDone_zero (G : S1x2048.Idx → Elt F .f32) (G2 : S1x2048.Idx → Elt F .f32) : (BI.emp : sProp 𝕄) ⊢ yDone c X G W D G2 0 := by
  unfold yDone; rw [show (Finset.univ.filter fun b : Fin 64 => b.val < 0) = ∅ from rfl, bigSep_empty]

set_option backward.proofsInPublic true in
set_option maxHeartbeats 4000000 in
/-- The body, run: every block of both results is left holding its value, and everything else as it was. -/
theorem bodyRun :
    iprop(Idle c X G W D G2 ∗ oTodo c 0 ∗ yTodo c 0)
    ⊢ wp frame (wpE (defs₀ (F := F)) 𝒱₀ (c : Thread nD τ) none) Set.univ (bodyG (F := F)) (fun _ =>
      iprop(Idle c X G W D G2 ∗ oDone c X (rd c gM G) W D 64 ∗ yDone c X (rd c gM G) W D (rd c hM G2) 64)) := by
  have h1 : k0_cond1 = 1#1 := by decide +kernel
  have h2 : k0_cond2 = 1#1 := by decide +kernel
  have h3 : k0_cond3 = 1#1 := by decide +kernel
  iintro ⟨⟨⟨%nf, HN⟩, ⟨%cf, HC⟩, ⟨%gf, HG⟩, ⟨%hf, HH⟩, ⟨⟨HX0, ⟨%xf, HX⟩, HXA⟩, HX1⟩, ⟨HO0, HO1⟩, ⟨HY0, HY1⟩,
    ⟨⟨HWc, ⟨%w0, HW0⟩, HWA⟩, ⟨HWc1, ⟨%w1, HW1⟩, HWA1⟩, HW2⟩, ⟨⟨HVc, ⟨%v0, HV0⟩, HVA⟩, ⟨HVc1, ⟨%v1, HV1⟩, HVA1⟩, HV2⟩,
    ⟨⟨HDc, ⟨%d0, HD0⟩, HDA⟩, ⟨HDc1, ⟨%d1, HD1⟩, HDA1⟩, HD2⟩, ⟨HGc, HGM⟩, ⟨HHc, HHM⟩, ⟨%ow, HOW⟩⟩, HOT, HYT⟩
  ihave HXt := (xAll_split c X 0 0).1 $$ [HXA]; · iexact HXA
  icases HXt with ⟨HXs, HXr⟩
  ihave HWt := (wAll_split c W 0 0).1 $$ [HWA]; · iexact HWA
  icases HWt with ⟨HWs, HWr⟩
  ihave HWt1 := (wAll_split c W 1 1).1 $$ [HWA1]; · iexact HWA1
  icases HWt1 with ⟨HWs1, HWr1⟩
  ihave HVt := (vAll_split c W 0 0).1 $$ [HVA]; · iexact HVA
  icases HVt with ⟨HVs, HVr⟩
  ihave HVt1 := (vAll_split c W 1 1).1 $$ [HVA1]; · iexact HVA1
  icases HVt1 with ⟨HVs1, HVr1⟩
  ihave HDt := (dAll_split c D 0 0).1 $$ [HDA]; · iexact HDA
  icases HDt with ⟨HDs, HDr⟩
  ihave HDt1 := (dAll_split c D 1 1).1 $$ [HDA1]; · iexact HDA1
  icases HDt1 with ⟨HDs1, HDr1⟩
  dsimp only [bodyG]
  sl_exec
  sl_for (fun k a => iprop(⌜a = acc k⌝ ∗ St c X (rd c gM G) W D (rd c hM G2) k)) $$ [HN HC HG HH HX0 HXr HX1 HO0 HO1 HY0 HY1 HWc HWr HWc1 HWr1 HW2 HVc HVr HVc1 HVr1 HV2 HDc HDr HDc1 HDr1 HD2 HOW HOT HYT]
  · intro k a
    iintro ⟨%ha, HS⟩
    subst ha
    sl_respell []
    iapply (step c X W D (rd c gM G) (rd c hM G2) _ _ _ _ _ _ k)
    iexact HS
  · isplitr; · (ipureintro; rfl)
    irw [St_zero]
    isplitl [HC]
    · iapply (c_up0 c (cB.view.junk) _ _ (fun _ => rfl)); iexact HC
    isplitl [HG]
    · iexists _; isplitr; rotate_left; · iexact HG
      ipureintro; exact rd_writes c _ _ _
    isplitl [HH]
    · iexists _; isplitr; rotate_left; · iexact HH
      ipureintro; exact rd_writes c _ _ _
    isplitl [HN]; · iexists nf; iexact HN
    isplitl [HX0 HXr HX1]
    · isplitl [HX0 HXr]
      · isplitl [HX0]; · iexists xf; iexact HX0
        iexact HXr
      iexact HX1
    isplitl [HO0 HO1 HOT]
    · isplitl [HO0]; · iexact HO0
      isplitl [HO1]
      · isplitl [HO1]; · iexact HO1
        iapply (oDone_zero c X W D (rd c gM G)); iempintro
      iexact HOT
    isplitl [HY0 HY1 HYT]
    · isplitl [HY0]; · iexact HY0
      isplitl [HY1]
      · isplitl [HY1]; · iexact HY1
        iapply (yDone_zero c X W D (rd c gM G) (rd c hM G2)); iempintro
      iexact HYT
    isplitl [HWc HWr HWc1 HWr1 HW2]
    · isplitl [HWc HWr]
      · isplitl [HWc]; · iexists w0; iexact HWc
        iexact HWr
      isplitl [HWc1 HWr1]
      · isplitl [HWc1]; · iexists w1; iexact HWc1
        iexact HWr1
      iexact HW2
    isplitl [HVc HVr HVc1 HVr1 HV2]
    · isplitl [HVc HVr]
      · isplitl [HVc]; · iexists v0; iexact HVc
        iexact HVr
      isplitl [HVc1 HVr1]
      · isplitl [HVc1]; · iexists v1; iexact HVc1
        iexact HVr1
      iexact HV2
    isplitl [HDc HDr HDc1 HDr1 HD2]
    · isplitl [HDc HDr]
      · isplitl [HDc]; · iexists d0; iexact HDc
        iexact HDr
      isplitl [HDc1 HDr1]
      · isplitl [HDc1]; · iexists d1; iexact HDc1
        iexact HDr1
      iexact HD2
    iexists _; iexact HOW
  iintro %a ⟨%ha, HS⟩
  have ha' : a = acc 704 := ha.trans (congrArg acc trips_eq)
  subst ha'
  ihave HS' := (of_eq ((congrArg (St c X (rd c gM G) W D (rd c hM G2)) trips_eq).trans (St_last c X W D (rd c gM G) (rd c hM G2)))) $$ [HS]; · iexact HS
  icases HS' with ⟨HC, HG, HH, HN, HX, ⟨HO0, ⟨⟨%fo, %go, %hgo, HO1⟩, HOD⟩, -⟩, ⟨HY0, ⟨⟨%fy, %gy, %hgy, HY1⟩, HYD⟩, -⟩, HW, HV, HD, ⟨%ow', HOW⟩⟩
  have c9 := chk9_ok
  have c8 := chk8_ok
  have c7 := chk7_ok
  sl_exec
  sl_step
  have r0 : Ring.bk 64 63 = 63 := Fin.ext (by rfl)
  isplitr [HOD HO1_dst HYD HY1_dst]
  · isplitl [HN]; · iexact HN
    isplitl [HC]; · iexists _; iexact HC
    isplitl [HG]
    · icases HG with ⟨%g, -, HG⟩; iexists g; iexact HG
    isplitl [HH]
    · icases HH with ⟨%h, -, HH⟩; iexists h; iexact HH
    isplitl [HX]; · iexact HX
    isplitl [HO0 HO1_src HO1]
    · isplitl [HO0]; · iexact HO0
      isplitl [HO1]; · iexact HO1
      iexists _; iexact HO1_src
    isplitl [HY0 HY1_src HY1]
    · isplitl [HY0]; · iexact HY0
      isplitl [HY1]; · iexact HY1
      iexists _; iexact HY1_src
    isplitl [HW]
    · icases HW with ⟨H2, H0, H1⟩
      isplitl [H0]; · iexact H0
      isplitl [H1]; · iexact H1
      iexact H2
    isplitl [HV]
    · icases HV with ⟨H2, H0, H1⟩
      isplitl [H0]; · iexact H0
      isplitl [H1]; · iexact H1
      iexact H2
    isplitl [HD]
    · icases HD with ⟨H2, H0, H1⟩
      isplitl [H0]; · iexact H0
      isplitl [H1]; · iexact H1
      iexact H2
    isplitl [HGc HGM]
    · isplitl [HGc]; · iexact HGc
      iexact HGM
    isplitl [HHc HHM]
    · isplitl [HHc]; · iexact HHc
      iexact HHM
    iexists _; iexact HOW
  isplitl [HOD HO1_dst]
  · iapply (of_eq (oDone_succ c X (rd c gM G) W D (n := 63) (by omega)).symm)
    irw [r0]
    isplitl [HO1_dst]
    · iexists _; isplitr; rotate_left; · iexact HO1_dst
      ipureintro; exact (rd_writes c _ _ _).trans hgo
    iexact HOD
  iapply (of_eq (yDone_succ c X (rd c gM G) W D (rd c hM G2) (n := 63) (by omega)).symm)
  irw [r0]
  isplitl [HY1_dst]
  · iexists _; isplitr; rotate_left; · iexact HY1_dst
    ipureintro; exact (rd_writes c _ _ _).trans hgy
  iexact HYD

end Cert.Proof.Ffn
-- ==== Proof.Parts.lean ====
/-
  The arrays, buffers and counters the launch hands over, cut into the pieces the body moves between, and put back.
-/
module

public import proofs.«01_k».proof.Proof.Body
public import proofs.«01_k».proof.Proof.Gen.KernelIdeal.Frame
public import Idealize.ShloMosaic.Lib.Pipeline.ValueKit.Geometry

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ
variable (c : Dev nD)

/-! ## Element sets -/

/-- Slot `s`'s elements of a `S2x512x2048` buffer. -/
abbrev Z2 (s : Fin 2) : Finset S2x512x2048.Idx := (Rect.unit (s := S2x512x2048) (slotOff s) S1x512x2048.size (slot2_inb s)).set
theorem mem_Z2 (s : Fin 2) (y : S2x512x2048.Idx) : y ∈ Z2 s ↔ (y 0).val = s.val := by
  rw [Rect.mem_set_unit]
  have h1 : (y 1).val < 512 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 2048; omega
theorem Z2_disjoint : ∀ s s' : Fin 2, s ≠ s' → Disjoint (Z2 s) (Z2 s') := by
  intro s s' hne; rw [Finset.disjoint_left]; intro y hy hy'; rw [mem_Z2] at hy hy'; exact hne (Fin.ext (hy.symm.trans hy'))
theorem Z2_cover : (Finset.univ : Finset (Fin 2)).biUnion Z2 = Finset.univ := by
  ext y; simp only [Finset.mem_biUnion, Finset.mem_univ, true_and, iff_true]; exact ⟨(y 0).cast (by decide), by rw [mem_Z2]; rfl⟩

/-- Slot `s`'s elements of a `S3x2048x512` buffer. -/
abbrev Z3w (s : Fin 3) : Finset S3x2048x512.Idx := (Rect.unit (s := S3x2048x512) (slotOff s) S1x2048x512.size (slot3w_inb s)).set
theorem mem_Z3w (s : Fin 3) (y : S3x2048x512.Idx) : y ∈ Z3w s ↔ (y 0).val = s.val := by
  rw [Rect.mem_set_unit]
  have h1 : (y 1).val < 2048 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 512; omega
theorem Z3w_disjoint : ∀ s s' : Fin 3, s ≠ s' → Disjoint (Z3w s) (Z3w s') := by
  intro s s' hne; rw [Finset.disjoint_left]; intro y hy hy'; rw [mem_Z3w] at hy hy'; exact hne (Fin.ext (hy.symm.trans hy'))
theorem Z3w_cover : (Finset.univ : Finset (Fin 3)).biUnion Z3w = Finset.univ := by
  ext y; simp only [Finset.mem_biUnion, Finset.mem_univ, true_and, iff_true]; exact ⟨(y 0).cast (by decide), by rw [mem_Z3w]; rfl⟩

/-- Slot `s`'s elements of a `S3x512x2048` buffer. -/
abbrev Z3 (s : Fin 3) : Finset S3x512x2048.Idx := (Rect.unit (s := S3x512x2048) (slotOff s) S1x512x2048.size (slot3_inb s)).set
theorem mem_Z3 (s : Fin 3) (y : S3x512x2048.Idx) : y ∈ Z3 s ↔ (y 0).val = s.val := by
  rw [Rect.mem_set_unit]
  have h1 : (y 1).val < 512 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 2048; omega
theorem Z3_disjoint : ∀ s s' : Fin 3, s ≠ s' → Disjoint (Z3 s) (Z3 s') := by
  intro s s' hne; rw [Finset.disjoint_left]; intro y hy hy'; rw [mem_Z3] at hy hy'; exact hne (Fin.ext (hy.symm.trans hy'))
theorem Z3_cover : (Finset.univ : Finset (Fin 3)).biUnion Z3 = Finset.univ := by
  ext y; simp only [Finset.mem_biUnion, Finset.mem_univ, true_and, iff_true]; exact ⟨(y 0).cast (by decide), by rw [mem_Z3]; rfl⟩

/-- Block `b`'s rows of a result. -/
abbrev R64 (b : Fin 64) : Finset S32768x2048.Idx := (Rect.unit (s := S32768x2048) (rowOff b) S512x2048.size (row64_inb b)).set
theorem mem_R64 (b : Fin 64) (y : S32768x2048.Idx) : y ∈ R64 b ↔ (y 0).val / 512 = b.val := by
  rw [Rect.mem_set_unit]
  have h1 : (y 1).val < 2048 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 2048; omega
theorem R64_disjoint : ∀ s s' : Fin 64, s ≠ s' → Disjoint (R64 s) (R64 s') := by
  intro s s' hne; rw [Finset.disjoint_left]; intro y hy hy'; rw [mem_R64] at hy hy'; exact hne (Fin.ext (hy.symm.trans hy'))
theorem R64_cover : (Finset.univ : Finset (Fin 64)).biUnion R64 = Finset.univ := by
  ext y; simp only [Finset.mem_biUnion, Finset.mem_univ, true_and, iff_true]
  have h0 : (y 0).val < 32768 := (y 0).isLt
  exact ⟨⟨(y 0).val / 512, by omega⟩, by rw [mem_R64]⟩

/-! ## The buffers, whole and by slots -/

theorem big2 (Φ : Fin 2 → sProp 𝕄) : bigSep Finset.univ Φ = iprop(Φ 0 ∗ Φ 1) :=
  bigSep_univ_eq_bigSepL [(0 : Fin 2), (1 : Fin 2)] (by decide) (by decide) Φ
theorem big3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

theorem xSet (s : Fin 2) (f : BufOf (F := F) c (xSlot s)) : (own c (xSlot s) f : sProp 𝕄) = (((c : Thread nD τ).loc cc0_scoped0) ↦[Z2 s]{fullShare} f) :=
  congrArg (fun S => (((c : Thread nD τ).loc cc0_scoped0) ↦[S]{fullShare} f : sProp 𝕄)) ((View.set_reshape _ _).trans (View.set_slice_whole _ _))
theorem x_cut : iprop(∃ f : Buf (Elt F) ((c : Thread nD τ).loc cc0_scoped0), ((c : Thread nD τ).loc cc0_scoped0) ↦{fullShare} f) ⊢ (iprop((∃ f, own c (xSlot 0) f) ∗ (∃ f, own c (xSlot 1) f)) : sProp 𝕄) := by
  iintro ⟨%f, H⟩
  ihave H2 := (of_eq ((Ring.pointsTo_blocks (Ix := Unit) (Name := ℕ) (U := UU nD τ) (Lvl := ℕ) (q := fullShare) (ℓ := ((c : Thread nD τ).loc cc0_scoped0)) Z2 Z2_disjoint Z2_cover f).trans (big2 _))) $$ H
  icases H2 with ⟨H0, H1⟩
  isplitl [H0]
  · iexists f; iapply (of_eq (xSet c 0 f).symm); iexact H0
  iexists f; iapply (of_eq (xSet c 1 f).symm); iexact H1
theorem x_put : (iprop((∃ f, own c (xSlot 0) f) ∗ (∃ f, own c (xSlot 1) f)) : sProp 𝕄) ⊢ iprop(∃ f : Buf (Elt F) ((c : Thread nD τ).loc cc0_scoped0), ((c : Thread nD τ).loc cc0_scoped0) ↦{fullShare} f) := by
  iintro ⟨⟨%f0, H0⟩, ⟨%f1, H1⟩⟩
  iapply (Ring.pointsTo_blocks_join_exists (ℓ := ((c : Thread nD τ).loc cc0_scoped0)) Z2 Z2_disjoint Z2_cover f0)
  irw [big2]
  isplitl [H0]
  · iexists f0; iapply (of_eq (xSet c 0 f0)); iexact H0
  iexists f1; iapply (of_eq (xSet c 1 f1)); iexact H1

theorem oSet (s : Fin 2) (f : BufOf (F := F) c (oSlot s)) : (own c (oSlot s) f : sProp 𝕄) = (((c : Thread nD τ).loc cc0_scoped10) ↦[Z2 s]{fullShare} f) :=
  congrArg (fun S => (((c : Thread nD τ).loc cc0_scoped10) ↦[S]{fullShare} f : sProp 𝕄)) ((View.set_reshape _ _).trans (View.set_slice_whole _ _))
theorem o_cut : iprop(∃ f : Buf (Elt F) ((c : Thread nD τ).loc cc0_scoped10), ((c : Thread nD τ).loc cc0_scoped10) ↦{fullShare} f) ⊢ (iprop((∃ f, own c (oSlot 0) f) ∗ (∃ f, own c (oSlot 1) f)) : sProp 𝕄) := by
  iintro ⟨%f, H⟩
  ihave H2 := (of_eq ((Ring.pointsTo_blocks (Ix := Unit) (Name := ℕ) (U := UU nD τ) (Lvl := ℕ) (q := fullShare) (ℓ := ((c : Thread nD τ).loc cc0_scoped10)) Z2 Z2_disjoint Z2_cover f).trans (big2 _))) $$ H
  icases H2 with ⟨H0, H1⟩
  isplitl [H0]
  · iexists f; iapply (of_eq (oSet c 0 f).symm); iexact H0
  iexists f; iapply (of_eq (oSet c 1 f).symm); iexact H1
theorem o_put : (iprop((∃ f, own c (oSlot 0) f) ∗ (∃ f, own c (oSlot 1) f)) : sProp 𝕄) ⊢ iprop(∃ f : Buf (Elt F) ((c : Thread nD τ).loc cc0_scoped10), ((c : Thread nD τ).loc cc0_scoped10) ↦{fullShare} f) := by
  iintro ⟨⟨%f0, H0⟩, ⟨%f1, H1⟩⟩
  iapply (Ring.pointsTo_blocks_join_exists (ℓ := ((c : Thread nD τ).loc cc0_scoped10)) Z2 Z2_disjoint Z2_cover f0)
  irw [big2]
  isplitl [H0]
  · iexists f0; iapply (of_eq (oSet c 0 f0)); iexact H0
  iexists f1; iapply (of_eq (oSet c 1 f1)); iexact H1

theorem ySet (s : Fin 2) (f : BufOf (F := F) c (ySlot s)) : (own c (ySlot s) f : sProp 𝕄) = (((c : Thread nD τ).loc cc0_scoped12) ↦[Z2 s]{fullShare} f) :=
  congrArg (fun S => (((c : Thread nD τ).loc cc0_scoped12) ↦[S]{fullShare} f : sProp 𝕄)) ((View.set_reshape _ _).trans (View.set_slice_whole _ _))
theorem y_cut : iprop(∃ f : Buf (Elt F) ((c : Thread nD τ).loc cc0_scoped12), ((c : Thread nD τ).loc cc0_scoped12) ↦{fullShare} f) ⊢ (iprop((∃ f, own c (ySlot 0) f) ∗ (∃ f, own c (ySlot 1) f)) : sProp 𝕄) := by
  iintro ⟨%f, H⟩
  ihave H2 := (of_eq ((Ring.pointsTo_blocks (Ix := Unit) (Name := ℕ) (U := UU nD τ) (Lvl := ℕ) (q := fullShare) (ℓ := ((c : Thread nD τ).loc cc0_scoped12)) Z2 Z2_disjoint Z2_cover f).trans (big2 _))) $$ H
  icases H2 with ⟨H0, H1⟩
  isplitl [H0]
  · iexists f; iapply (of_eq (ySet c 0 f).symm); iexact H0
  iexists f; iapply (of_eq (ySet c 1 f).symm); iexact H1
theorem y_put : (iprop((∃ f, own c (ySlot 0) f) ∗ (∃ f, own c (ySlot 1) f)) : sProp 𝕄) ⊢ iprop(∃ f : Buf (Elt F) ((c : Thread nD τ).loc cc0_scoped12), ((c : Thread nD τ).loc cc0_scoped12) ↦{fullShare} f) := by
  iintro ⟨⟨%f0, H0⟩, ⟨%f1, H1⟩⟩
  iapply (Ring.pointsTo_blocks_join_exists (ℓ := ((c : Thread nD τ).loc cc0_scoped12)) Z2 Z2_disjoint Z2_cover f0)
  irw [big2]
  isplitl [H0]
  · iexists f0; iapply (of_eq (ySet c 0 f0)); iexact H0
  iexists f1; iapply (of_eq (ySet c 1 f1)); iexact H1

theorem wSet (s : Fin 3) (f : BufOf (F := F) c (wSlot s)) : (own c (wSlot s) f : sProp 𝕄) = (((c : Thread nD τ).loc cc0_scoped3) ↦[Z3w s]{fullShare} f) :=
  congrArg (fun S => (((c : Thread nD τ).loc cc0_scoped3) ↦[S]{fullShare} f : sProp 𝕄)) ((View.set_reshape _ _).trans (View.set_slice_whole _ _))
theorem w_cut : iprop(∃ f : Buf (Elt F) ((c : Thread nD τ).loc cc0_scoped3), ((c : Thread nD τ).loc cc0_scoped3) ↦{fullShare} f) ⊢ (iprop((∃ f, own c (wSlot 0) f) ∗ (∃ f, own c (wSlot 1) f) ∗ (∃ f, own c (wSlot 2) f)) : sProp 𝕄) := by
  iintro ⟨%f, H⟩
  ihave H2 := (of_eq ((Ring.pointsTo_blocks (Ix := Unit) (Name := ℕ) (U := UU nD τ) (Lvl := ℕ) (q := fullShare) (ℓ := ((c : Thread nD τ).loc cc0_scoped3)) Z3w Z3w_disjoint Z3w_cover f).trans (big3 _))) $$ H
  icases H2 with ⟨H0, H1, H2⟩
  isplitl [H0]
  · iexists f; iapply (of_eq (wSet c 0 f).symm); iexact H0
  isplitl [H1]
  · iexists f; iapply (of_eq (wSet c 1 f).symm); iexact H1
  iexists f; iapply (of_eq (wSet c 2 f).symm); iexact H2
theorem w_put : (iprop((∃ f, own c (wSlot 0) f) ∗ (∃ f, own c (wSlot 1) f) ∗ (∃ f, own c (wSlot 2) f)) : sProp 𝕄) ⊢ iprop(∃ f : Buf (Elt F) ((c : Thread nD τ).loc cc0_scoped3), ((c : Thread nD τ).loc cc0_scoped3) ↦{fullShare} f) := by
  iintro ⟨⟨%f0, H0⟩, ⟨%f1, H1⟩, ⟨%f2, H2⟩⟩
  iapply (Ring.pointsTo_blocks_join_exists (ℓ := ((c : Thread nD τ).loc cc0_scoped3)) Z3w Z3w_disjoint Z3w_cover f0)
  irw [big3]
  isplitl [H0]
  · iexists f0; iapply (of_eq (wSet c 0 f0)); iexact H0
  isplitl [H1]
  · iexists f1; iapply (of_eq (wSet c 1 f1)); iexact H1
  iexists f2; iapply (of_eq (wSet c 2 f2)); iexact H2

theorem vSet (s : Fin 3) (f : BufOf (F := F) c (vSlot s)) : (own c (vSlot s) f : sProp 𝕄) = (((c : Thread nD τ).loc cc0_scoped5) ↦[Z3w s]{fullShare} f) :=
  congrArg (fun S => (((c : Thread nD τ).loc cc0_scoped5) ↦[S]{fullShare} f : sProp 𝕄)) ((View.set_reshape _ _).trans (View.set_slice_whole _ _))
theorem v_cut : iprop(∃ f : Buf (Elt F) ((c : Thread nD τ).loc cc0_scoped5), ((c : Thread nD τ).loc cc0_scoped5) ↦{fullShare} f) ⊢ (iprop((∃ f, own c (vSlot 0) f) ∗ (∃ f, own c (vSlot 1) f) ∗ (∃ f, own c (vSlot 2) f)) : sProp 𝕄) := by
  iintro ⟨%f, H⟩
  ihave H2 := (of_eq ((Ring.pointsTo_blocks (Ix := Unit) (Name := ℕ) (U := UU nD τ) (Lvl := ℕ) (q := fullShare) (ℓ := ((c : Thread nD τ).loc cc0_scoped5)) Z3w Z3w_disjoint Z3w_cover f).trans (big3 _))) $$ H
  icases H2 with ⟨H0, H1, H2⟩
  isplitl [H0]
  · iexists f; iapply (of_eq (vSet c 0 f).symm); iexact H0
  isplitl [H1]
  · iexists f; iapply (of_eq (vSet c 1 f).symm); iexact H1
  iexists f; iapply (of_eq (vSet c 2 f).symm); iexact H2
theorem v_put : (iprop((∃ f, own c (vSlot 0) f) ∗ (∃ f, own c (vSlot 1) f) ∗ (∃ f, own c (vSlot 2) f)) : sProp 𝕄) ⊢ iprop(∃ f : Buf (Elt F) ((c : Thread nD τ).loc cc0_scoped5), ((c : Thread nD τ).loc cc0_scoped5) ↦{fullShare} f) := by
  iintro ⟨⟨%f0, H0⟩, ⟨%f1, H1⟩, ⟨%f2, H2⟩⟩
  iapply (Ring.pointsTo_blocks_join_exists (ℓ := ((c : Thread nD τ).loc cc0_scoped5)) Z3w Z3w_disjoint Z3w_cover f0)
  irw [big3]
  isplitl [H0]
  · iexists f0; iapply (of_eq (vSet c 0 f0)); iexact H0
  isplitl [H1]
  · iexists f1; iapply (of_eq (vSet c 1 f1)); iexact H1
  iexists f2; iapply (of_eq (vSet c 2 f2)); iexact H2

theorem dSet (s : Fin 3) (f : BufOf (F := F) c (dSlot s)) : (own c (dSlot s) f : sProp 𝕄) = (((c : Thread nD τ).loc cc0_scoped7) ↦[Z3 s]{fullShare} f) :=
  congrArg (fun S => (((c : Thread nD τ).loc cc0_scoped7) ↦[S]{fullShare} f : sProp 𝕄)) ((View.set_reshape _ _).trans (View.set_slice_whole _ _))
theorem d_cut : iprop(∃ f : Buf (Elt F) ((c : Thread nD τ).loc cc0_scoped7), ((c : Thread nD τ).loc cc0_scoped7) ↦{fullShare} f) ⊢ (iprop((∃ f, own c (dSlot 0) f) ∗ (∃ f, own c (dSlot 1) f) ∗ (∃ f, own c (dSlot 2) f)) : sProp 𝕄) := by
  iintro ⟨%f, H⟩
  ihave H2 := (of_eq ((Ring.pointsTo_blocks (Ix := Unit) (Name := ℕ) (U := UU nD τ) (Lvl := ℕ) (q := fullShare) (ℓ := ((c : Thread nD τ).loc cc0_scoped7)) Z3 Z3_disjoint Z3_cover f).trans (big3 _))) $$ H
  icases H2 with ⟨H0, H1, H2⟩
  isplitl [H0]
  · iexists f; iapply (of_eq (dSet c 0 f).symm); iexact H0
  isplitl [H1]
  · iexists f; iapply (of_eq (dSet c 1 f).symm); iexact H1
  iexists f; iapply (of_eq (dSet c 2 f).symm); iexact H2
theorem d_put : (iprop((∃ f, own c (dSlot 0) f) ∗ (∃ f, own c (dSlot 1) f) ∗ (∃ f, own c (dSlot 2) f)) : sProp 𝕄) ⊢ iprop(∃ f : Buf (Elt F) ((c : Thread nD τ).loc cc0_scoped7), ((c : Thread nD τ).loc cc0_scoped7) ↦{fullShare} f) := by
  iintro ⟨⟨%f0, H0⟩, ⟨%f1, H1⟩, ⟨%f2, H2⟩⟩
  iapply (Ring.pointsTo_blocks_join_exists (ℓ := ((c : Thread nD τ).loc cc0_scoped7)) Z3 Z3_disjoint Z3_cover f0)
  irw [big3]
  isplitl [H0]
  · iexists f0; iapply (of_eq (dSet c 0 f0)); iexact H0
  isplitl [H1]
  · iexists f1; iapply (of_eq (dSet c 1 f1)); iexact H1
  iexists f2; iapply (of_eq (dSet c 2 f2)); iexact H2

/-! ## The operands, whole and by shares -/

theorem whole_set {sp : Space} {s : Shape} {e : EltTy} (r : Ref sig .tc) (f : Buf (Elt F) ((c : Thread nD τ).loc r)) :
    (own c (Memref.whole r) f : sProp 𝕄) = (((c : Thread nD τ).loc r) ↦{fullShare} f) :=
  congrArg (fun S => (((c : Thread nD τ).loc r) ↦[S]{fullShare} f : sProp 𝕄)) (View.set_whole _)

variable (X : BufOf (F := F) c xM) (G : S1x2048.Idx → Elt F .f32) (W : BufOf (F := F) c wM) (D : BufOf (F := F) c dM) (G2 : S1x2048.Idx → Elt F .f32)

theorem x_share : (((c : Thread nD τ).loc main_v0) ↦{fullShare} X : sProp 𝕄) ⊣⊢ iprop(xAll c X 0 ∗ xAll c X 1) :=
  pointsTo_share (PosShare.mem_left_op_right fullShare)
theorem w_share : (((c : Thread nD τ).loc main_v4) ↦{fullShare} W : sProp 𝕄)
    ⊣⊢ iprop((((c : Thread nD τ).loc main_v4) ↦{fullShare.left} W) ∗ ((c : Thread nD τ).loc main_v4) ↦{fullShare.right} W) :=
  pointsTo_share (PosShare.mem_left_op_right fullShare)
theorem w_thirds : (((c : Thread nD τ).loc main_v4) ↦{fullShare.left} W : sProp 𝕄) ⊣⊢ iprop(wAll c W 0 ∗ wAll c W 1 ∗ wAll c W 2) :=
  Ring.pointsTo_thirds _ _
theorem v_thirds : (((c : Thread nD τ).loc main_v4) ↦{fullShare.right} W : sProp 𝕄) ⊣⊢ iprop(vAll c W 0 ∗ vAll c W 1 ∗ vAll c W 2) :=
  Ring.pointsTo_thirds _ _
theorem d_thirds : (((c : Thread nD τ).loc main_v6) ↦{fullShare} D : sProp 𝕄) ⊣⊢ iprop(dAll c D 0 ∗ dAll c D 1 ∗ dAll c D 2) :=
  Ring.pointsTo_thirds _ _

/-! ## The results, whole and by blocks -/

/-- The element of a block of 512 rows that an element of the whole array is. -/
def ix512 (r : ℕ) (d : Fin 2048) : S512x2048.Idx := Fin.cons (⟨r % 512, Nat.mod_lt _ (by decide)⟩ : Fin 512) (Fin.cons d (fun i => i.elim0))

/-- An element of block `b` of the whole array is the same element of that block. -/
theorem ix_eq {α : Type} (v : ℕ → S512x2048.Idx → α) (b : ℕ) (i : S512x2048.Idx) (y : S32768x2048.Idx)
    (h0 : (y 0).val = 512 * b + (i 0).val) (h1 : (y 1).val = (i 1).val) : v ((y 0).val / 512) (ix512 (y 0).val (y 1)) = v b i := by
  have hi : (i 0).val < 512 := (i 0).isLt
  rw [show (y 0).val / 512 = b by omega]
  refine congrArg (v b) (funext fun a => ?_)
  fin_cases a
  · exact Fin.ext (show (y 0).val % 512 = (i 0).val by omega)
  · exact Fin.ext h1

theorem oBSet (b : Fin 64) (f : BufOf (F := F) c (oBlk b)) : (own c (oBlk b) f : sProp 𝕄) = (((c : Thread nD τ).loc main_v9_0) ↦[R64 b]{fullShare} f) :=
  congrArg (fun S => (((c : Thread nD τ).loc main_v9_0) ↦[S]{fullShare} f : sProp 𝕄)) (View.set_slice_whole _ _)
/-- The result's array, block by block of its rows. -/
def oOut : BufOf (F := F) c oM := fun y => hb c X G W D ((y 0).val / 512) (ix512 (y 0).val (y 1))
theorem oBlk_rd (b : Fin 64) (f : BufOf (F := F) c oM) (i : S512x2048.Idx) :
    rd c (oBlk b) f i = f ((Rect.unit (s := S32768x2048) (rowOff b) S512x2048.size (row64_inb b)).emb i) := rfl
theorem oOut_rd (b : Fin 64) : rd c (oBlk b) (oOut c X G W D) = hb c X G W D b.val := by
  funext i
  refine (oBlk_rd c b (oOut c X G W D) i).trans ?_
  have h0 : (i 0).val < 512 := (i 0).isLt
  exact ix_eq (hb c X G W D) b.val i _ (ValueKit.rect_emb_unit_val (s := S32768x2048) (rowOff b) S512x2048.size (row64_inb b) i 0) ((ValueKit.rect_emb_unit_val (s := S32768x2048) (rowOff b) S512x2048.size (row64_inb b) i 1).trans (Nat.zero_add _))
theorem o_pieces (f : Buf (Elt F) ((c : Thread nD τ).loc main_v9_0)) : (((c : Thread nD τ).loc main_v9_0) ↦{fullShare} f : sProp 𝕄) ⊢ oTodo c 0 := by
  rw [Ring.pointsTo_blocks (ℓ := ((c : Thread nD τ).loc main_v9_0)) R64 R64_disjoint R64_cover]
  unfold oTodo
  rw [show (Finset.univ.filter fun b : Fin 64 => 0 ≤ b.val) = Finset.univ from Finset.filter_true_of_mem fun _ _ => Nat.zero_le _]
  refine bigSep_mono fun b _ => ?_
  exact (of_eq (oBSet c b f).symm).trans (by iintro H; iexists f; iexact H)
theorem o_whole : (oDone c X G W D 64 : sProp 𝕄) ⊢ (((c : Thread nD τ).loc main_v9_0) ↦{fullShare} oOut c X G W D) := by
  rw [Ring.pointsTo_blocks (ℓ := ((c : Thread nD τ).loc main_v9_0)) R64 R64_disjoint R64_cover]
  unfold oDone
  rw [show (Finset.univ.filter fun b : Fin 64 => b.val < 64) = Finset.univ from Finset.filter_true_of_mem fun b _ => b.isLt]
  refine bigSep_mono fun b _ => ?_
  refine BIBase.Entails.trans ?_ (of_eq (oBSet c b _))
  iintro ⟨%f, %hf, H⟩
  iapply (at_congr c (oBlk b) fullShare (hf.trans (oOut_rd c X G W D b).symm)); iexact H

theorem yBSet (b : Fin 64) (f : BufOf (F := F) c (yBlk b)) : (own c (yBlk b) f : sProp 𝕄) = (((c : Thread nD τ).loc main_v9_1) ↦[R64 b]{fullShare} f) :=
  congrArg (fun S => (((c : Thread nD τ).loc main_v9_1) ↦[S]{fullShare} f : sProp 𝕄)) (View.set_slice_whole _ _)
/-- The result's array, block by block of its rows. -/
def yOut : BufOf (F := F) c yM := fun y => ub c X G W D G2 ((y 0).val / 512) (ix512 (y 0).val (y 1))
theorem yBlk_rd (b : Fin 64) (f : BufOf (F := F) c yM) (i : S512x2048.Idx) :
    rd c (yBlk b) f i = f ((Rect.unit (s := S32768x2048) (rowOff b) S512x2048.size (row64_inb b)).emb i) := rfl
theorem yOut_rd (b : Fin 64) : rd c (yBlk b) (yOut c X G W D G2) = ub c X G W D G2 b.val := by
  funext i
  refine (yBlk_rd c b (yOut c X G W D G2) i).trans ?_
  have h0 : (i 0).val < 512 := (i 0).isLt
  exact ix_eq (ub c X G W D G2) b.val i _ (ValueKit.rect_emb_unit_val (s := S32768x2048) (rowOff b) S512x2048.size (row64_inb b) i 0) ((ValueKit.rect_emb_unit_val (s := S32768x2048) (rowOff b) S512x2048.size (row64_inb b) i 1).trans (Nat.zero_add _))
theorem y_pieces (f : Buf (Elt F) ((c : Thread nD τ).loc main_v9_1)) : (((c : Thread nD τ).loc main_v9_1) ↦{fullShare} f : sProp 𝕄) ⊢ yTodo c 0 := by
  rw [Ring.pointsTo_blocks (ℓ := ((c : Thread nD τ).loc main_v9_1)) R64 R64_disjoint R64_cover]
  unfold yTodo
  rw [show (Finset.univ.filter fun b : Fin 64 => 0 ≤ b.val) = Finset.univ from Finset.filter_true_of_mem fun _ _ => Nat.zero_le _]
  refine bigSep_mono fun b _ => ?_
  exact (of_eq (yBSet c b f).symm).trans (by iintro H; iexists f; iexact H)
theorem y_whole : (yDone c X G W D G2 64 : sProp 𝕄) ⊢ (((c : Thread nD τ).loc main_v9_1) ↦{fullShare} yOut c X G W D G2) := by
  rw [Ring.pointsTo_blocks (ℓ := ((c : Thread nD τ).loc main_v9_1)) R64 R64_disjoint R64_cover]
  unfold yDone
  rw [show (Finset.univ.filter fun b : Fin 64 => b.val < 64) = Finset.univ from Finset.filter_true_of_mem fun b _ => b.isLt]
  refine bigSep_mono fun b _ => ?_
  refine BIBase.Entails.trans ?_ (of_eq (yBSet c b _))
  iintro ⟨%f, %hf, H⟩
  iapply (at_congr c (yBlk b) fullShare (hf.trans (yOut_rd c X G W D G2 b).symm)); iexact H

end Cert.Proof.Ffn
-- ==== Proof.Launch.lean ====
/-
  The launch: the region handed its arrays, buffers and counters, the body run in it, and the results read at the end.
-/
module

public import proofs.«01_k».proof.Proof.Parts

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ
variable (c : Dev nD)

/-- The kernel's own transfer counters. -/
abbrev osem : Fin 17 → SemLoc sig := fun k => .dma k
theorem osemFacts : Pipeline.OwnSemFacts (cfg0.spec) osem := by decide
theorem ownSems_eq : (Pipeline.ownSems0 (Ix := Unit) (Name := ℕ) (U := UU nD τ) (Lvl := ℕ) (Val := Elt F) (τ := τ) osem c : sProp 𝕄)
    = iprop(zero c (xCell 0) ∗ zero c (xCell 1) ∗ zero c (wCell 0) ∗ zero c (wCell 1) ∗ zero c (wCell 2) ∗ zero c (vCell 0) ∗ zero c (vCell 1) ∗ zero c (vCell 2) ∗ zero c (dCell 0) ∗ zero c (dCell 1) ∗ zero c (dCell 2) ∗ zero c (oCell 0) ∗ zero c (oCell 1) ∗ zero c (yCell 0) ∗ zero c (yCell 1) ∗ zero c cc0_scoped14 ∗ zero c cc0_scoped15) := by
  unfold Pipeline.ownSems0
  exact bigSep_univ_eq_bigSepL [((0 : Fin 17)), ((1 : Fin 17)), ((2 : Fin 17)), ((3 : Fin 17)), ((4 : Fin 17)), ((5 : Fin 17)), ((6 : Fin 17)), ((7 : Fin 17)), ((8 : Fin 17)), ((9 : Fin 17)), ((10 : Fin 17)), ((11 : Fin 17)), ((12 : Fin 17)), ((13 : Fin 17)), ((14 : Fin 17)), ((15 : Fin 17)), ((16 : Fin 17))] (by decide) (by decide) _

variable (X : BufOf (F := F) c xM) (G : BufOf (F := F) c gM) (W : BufOf (F := F) c wM) (D : BufOf (F := F) c dM) (G2 : BufOf (F := F) c hM)

/-- What the body runs over, apart from what the core owes. -/
def Quiet : sProp 𝕄 :=
  iprop(nAny c ∗ (∃ f, own c cB f) ∗ (∃ f, own c gB f) ∗ (∃ f, own c hB f)
    ∗ (xFree c X 0 ∗ xFree c X 1) ∗ (oFree c 0 ∗ oFree c 1) ∗ (yFree c 0 ∗ yFree c 1)
    ∗ (wFree c W 0 ∗ wFree c W 1 ∗ wFree c W 2) ∗ (vFree c W 0 ∗ vFree c W 1 ∗ vFree c W 2) ∗ (dFree c D 0 ∗ dFree c D 1 ∗ dFree c D 2)
    ∗ (zero c cc0_scoped14 ∗ own c gM G) ∗ (zero c cc0_scoped15 ∗ own c hM G2))
theorem Idle_split : (Idle c X G W D G2 : sProp 𝕄) ⊢ iprop(Quiet c X G W D G2 ∗ owing c) := by
  unfold Quiet
  iintro ⟨H1, H2, H3, H4, H5, H6, H7, H8, H9, H10, H11, H12, HO⟩
  isplitr [HO]
  · iframe
  · iexact HO
theorem Idle_join : iprop(Quiet c X G W D G2 ∗ owing c) ⊢ (Idle c X G W D G2 : sProp 𝕄) := by
  unfold Quiet
  iintro ⟨⟨H1, H2, H3, H4, H5, H6, H7, H8, H9, H10, H11, H12⟩, HO⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HO

/-- A whole buffer at anything, as the body names it. -/
theorem n_any : (iprop(∃ f, own c nB f) : sProp 𝕄) = iprop(∃ f : Buf (Elt F) ((c : Thread nD τ).loc cc0_scratch0), ((c : Thread nD τ).loc cc0_scratch0) ↦{fullShare} f) :=
  congrArg (fun S => (iprop(∃ f : Buf (Elt F) ((c : Thread nD τ).loc cc0_scratch0), ((c : Thread nD τ).loc cc0_scratch0) ↦[S]{fullShare} f) : sProp 𝕄)) (View.set_whole cc0_scratch0)
theorem g_any : (iprop(∃ f, own c gB f) : sProp 𝕄) = iprop(∃ f : Buf (Elt F) ((c : Thread nD τ).loc cc0_scoped2), ((c : Thread nD τ).loc cc0_scoped2) ↦{fullShare} f) :=
  congrArg (fun S => (iprop(∃ f : Buf (Elt F) ((c : Thread nD τ).loc cc0_scoped2), ((c : Thread nD τ).loc cc0_scoped2) ↦[S]{fullShare} f) : sProp 𝕄)) (View.set_whole cc0_scoped2)
theorem h_any : (iprop(∃ f, own c hB f) : sProp 𝕄) = iprop(∃ f : Buf (Elt F) ((c : Thread nD τ).loc cc0_scoped9), ((c : Thread nD τ).loc cc0_scoped9) ↦{fullShare} f) :=
  congrArg (fun S => (iprop(∃ f : Buf (Elt F) ((c : Thread nD τ).loc cc0_scoped9), ((c : Thread nD τ).loc cc0_scoped9) ↦[S]{fullShare} f) : sProp 𝕄)) (View.set_whole cc0_scoped9)
theorem c_any : (iprop(∃ f, own c cB f) : sProp 𝕄) = iprop(∃ f : Buf (Elt F) ((c : Thread nD τ).loc cc0_scratch1), ((c : Thread nD τ).loc cc0_scratch1) ↦{fullShare} f) :=
  congrArg (fun S => (iprop(∃ f : Buf (Elt F) ((c : Thread nD τ).loc cc0_scratch1), ((c : Thread nD τ).loc cc0_scratch1) ↦[S]{fullShare} f) : sProp 𝕄)) (View.set_whole cc0_scratch1)
theorem g_own : (own c gM G : sProp 𝕄) = (((c : Thread nD τ).loc main_v2) ↦{fullShare} G) :=
  congrArg (fun S => (((c : Thread nD τ).loc main_v2) ↦[S]{fullShare} G : sProp 𝕄)) (View.set_whole main_v2)
theorem h_own : (own c hM G2 : sProp 𝕄) = (((c : Thread nD τ).loc main_v8) ↦{fullShare} G2) :=
  congrArg (fun S => (((c : Thread nD τ).loc main_v8) ↦[S]{fullShare} G2 : sProp 𝕄)) (View.set_whole main_v8)

/-- The arrays the region works on. -/
def Arrays (A : Buf (Elt F) ((c : Thread nD τ).loc main_v9_0)) (B : Buf (Elt F) ((c : Thread nD τ).loc main_v9_1)) : sProp 𝕄 :=
  iprop((((c : Thread nD τ).loc main_v0) ↦{fullShare} X) ∗ (((c : Thread nD τ).loc main_v2) ↦{fullShare} G) ∗ (((c : Thread nD τ).loc main_v4) ↦{fullShare} W) ∗ (((c : Thread nD τ).loc main_v6) ↦{fullShare} D)
    ∗ (((c : Thread nD τ).loc main_v8) ↦{fullShare} G2) ∗ (((c : Thread nD τ).loc main_v9_0) ↦{fullShare} A) ∗ (((c : Thread nD τ).loc main_v9_1) ↦{fullShare} B))
/-- The buffers it works in. -/
def Scoped : sProp 𝕄 := iprop((∃ f : Buf (Elt F) ((c : Thread nD τ).loc cc0_scratch0), ((c : Thread nD τ).loc cc0_scratch0) ↦{fullShare} f) ∗ (∃ f : Buf (Elt F) ((c : Thread nD τ).loc cc0_scoped0), ((c : Thread nD τ).loc cc0_scoped0) ↦{fullShare} f) ∗ (∃ f : Buf (Elt F) ((c : Thread nD τ).loc cc0_scoped2), ((c : Thread nD τ).loc cc0_scoped2) ↦{fullShare} f) ∗ (∃ f : Buf (Elt F) ((c : Thread nD τ).loc cc0_scoped3), ((c : Thread nD τ).loc cc0_scoped3) ↦{fullShare} f) ∗ (∃ f : Buf (Elt F) ((c : Thread nD τ).loc cc0_scoped5), ((c : Thread nD τ).loc cc0_scoped5) ↦{fullShare} f) ∗ (∃ f : Buf (Elt F) ((c : Thread nD τ).loc cc0_scoped7), ((c : Thread nD τ).loc cc0_scoped7) ↦{fullShare} f) ∗ (∃ f : Buf (Elt F) ((c : Thread nD τ).loc cc0_scoped9), ((c : Thread nD τ).loc cc0_scoped9) ↦{fullShare} f) ∗ (∃ f : Buf (Elt F) ((c : Thread nD τ).loc cc0_scoped10), ((c : Thread nD τ).loc cc0_scoped10) ↦{fullShare} f) ∗ (∃ f : Buf (Elt F) ((c : Thread nD τ).loc cc0_scoped12), ((c : Thread nD τ).loc cc0_scoped12) ↦{fullShare} f) ∗ (∃ f : Buf (Elt F) ((c : Thread nD τ).loc cc0_scratch1), ((c : Thread nD τ).loc cc0_scratch1) ↦{fullShare} f))

set_option maxHeartbeats 1600000 in
/-- Handed its arrays, counters and buffers, the body has what it runs over. -/
theorem enter (A : Buf (Elt F) ((c : Thread nD τ).loc main_v9_0)) (B : Buf (Elt F) ((c : Thread nD τ).loc main_v9_1)) :
    iprop((Arrays c X G W D G2 A B ∗ Pipeline.ownSems0 osem c) ∗ Scoped c) ⊢ (iprop(Quiet c X G W D G2 ∗ oTodo c 0 ∗ yTodo c 0) : sProp 𝕄) := by
  rw [ownSems_eq]
  unfold Arrays Scoped Quiet
  iintro ⟨⟨⟨HX, HG, HW, HD, HG2, HA, HB⟩, ⟨Cx0, Cx1, Cw0, Cw1, Cw2, Cv0, Cv1, Cv2, Cd0, Cd1, Cd2, Co0, Co1, Cy0, Cy1, Cg, Ch⟩⟩, ⟨Bn, Bx, Bg, Bw, Bv, Bd, Bh, Bo, By, Bc⟩⟩
  ihave Hx := (x_share c X).1 $$ HX
  icases Hx with ⟨Sx0, Sx1⟩
  ihave Hw := (w_share c W).1 $$ HW
  icases Hw with ⟨HWl, HWr⟩
  ihave Hw := (w_thirds c W).1 $$ HWl
  icases Hw with ⟨Sw0, Sw1, Sw2⟩
  ihave Hv := (v_thirds c W).1 $$ HWr
  icases Hv with ⟨Sv0, Sv1, Sv2⟩
  ihave Hd := (d_thirds c D).1 $$ HD
  icases Hd with ⟨Sd0, Sd1, Sd2⟩
  ihave Hb := (x_cut c) $$ Bx
  icases Hb with ⟨Px0, Px1⟩
  ihave Hb := (w_cut c) $$ Bw
  icases Hb with ⟨Pw0, Pw1, Pw2⟩
  ihave Hb := (v_cut c) $$ Bv
  icases Hb with ⟨Pv0, Pv1, Pv2⟩
  ihave Hb := (d_cut c) $$ Bd
  icases Hb with ⟨Pd0, Pd1, Pd2⟩
  ihave Hb := (o_cut c) $$ Bo
  icases Hb with ⟨Po0, Po1⟩
  ihave Hb := (y_cut c) $$ By
  icases Hb with ⟨Py0, Py1⟩
  ihave Nn := (of_eq (n_any c).symm) $$ Bn
  ihave Ng := (of_eq (g_any c).symm) $$ Bg
  ihave Nh := (of_eq (h_any c).symm) $$ Bh
  ihave Nc := (of_eq (c_any c).symm) $$ Bc
  ihave Hg := (of_eq (g_own c G).symm) $$ HG
  ihave Hh := (of_eq (h_own c G2).symm) $$ HG2
  ihave Ho := (o_pieces c A) $$ HA
  ihave Hy := (y_pieces c B) $$ HB
  isplitr [Ho Hy]; rotate_left
  · isplitl [Ho]; · iexact Ho
    iexact Hy
  isplitl [Nn]; · iexact Nn
  isplitl [Nc]; · iexact Nc
  isplitl [Ng]; · iexact Ng
  isplitl [Nh]; · iexact Nh
  isplitl [Cx0 Px0 Sx0 Cx1 Px1 Sx1]
  · isplitl [Cx0 Px0 Sx0]
    · isplitl [Cx0]; · iexact Cx0
      isplitl [Px0]; · iexact Px0
      iexact Sx0
    isplitl [Cx1]; · iexact Cx1
    isplitl [Px1]; · iexact Px1
    iexact Sx1
  isplitl [Co0 Po0 Co1 Po1]
  · isplitl [Co0 Po0]
    · isplitl [Co0]; · iexact Co0
      iexact Po0
    isplitl [Co1]; · iexact Co1
    iexact Po1
  isplitl [Cy0 Py0 Cy1 Py1]
  · isplitl [Cy0 Py0]
    · isplitl [Cy0]; · iexact Cy0
      iexact Py0
    isplitl [Cy1]; · iexact Cy1
    iexact Py1
  isplitl [Cw0 Pw0 Sw0 Cw1 Pw1 Sw1 Cw2 Pw2 Sw2]
  · isplitl [Cw0 Pw0 Sw0]
    · isplitl [Cw0]; · iexact Cw0
      isplitl [Pw0]; · iexact Pw0
      iexact Sw0
    isplitl [Cw1 Pw1 Sw1]
    · isplitl [Cw1]; · iexact Cw1
      isplitl [Pw1]; · iexact Pw1
      iexact Sw1
    isplitl [Cw2]; · iexact Cw2
    isplitl [Pw2]; · iexact Pw2
    iexact Sw2
  isplitl [Cv0 Pv0 Sv0 Cv1 Pv1 Sv1 Cv2 Pv2 Sv2]
  · isplitl [Cv0 Pv0 Sv0]
    · isplitl [Cv0]; · iexact Cv0
      isplitl [Pv0]; · iexact Pv0
      iexact Sv0
    isplitl [Cv1 Pv1 Sv1]
    · isplitl [Cv1]; · iexact Cv1
      isplitl [Pv1]; · iexact Pv1
      iexact Sv1
    isplitl [Cv2]; · iexact Cv2
    isplitl [Pv2]; · iexact Pv2
    iexact Sv2
  isplitl [Cd0 Pd0 Sd0 Cd1 Pd1 Sd1 Cd2 Pd2 Sd2]
  · isplitl [Cd0 Pd0 Sd0]
    · isplitl [Cd0]; · iexact Cd0
      isplitl [Pd0]; · iexact Pd0
      iexact Sd0
    isplitl [Cd1 Pd1 Sd1]
    · isplitl [Cd1]; · iexact Cd1
      isplitl [Pd1]; · iexact Pd1
      iexact Sd1
    isplitl [Cd2]; · iexact Cd2
    isplitl [Pd2]; · iexact Pd2
    iexact Sd2
  isplitl [Cg Hg]
  · isplitl [Cg]; · iexact Cg
    iexact Hg
  isplitl [Ch]; · iexact Ch
  iexact Hh

set_option maxHeartbeats 1600000 in
/-- What the body leaves is its results whole, and its counters and buffers to give back. -/
theorem leave : iprop(Quiet c X G W D G2 ∗ oDone c X (rd c gM G) W D 64 ∗ yDone c X (rd c gM G) W D (rd c hM G2) 64)
    ⊢ (iprop(((((c : Thread nD τ).loc main_v9_0) ↦{fullShare} oOut c X (rd c gM G) W D) ∗ (((c : Thread nD τ).loc main_v9_1) ↦{fullShare} yOut c X (rd c gM G) W D (rd c hM G2)))
      ∗ Pipeline.ownSems0 osem c ∗ Scoped c) : sProp 𝕄) := by
  rw [ownSems_eq]
  unfold Scoped Quiet
  iintro ⟨⟨Nn, Nc, Ng, Nh, ⟨⟨Cx0, Px0, Sx0⟩, ⟨Cx1, Px1, Sx1⟩⟩, ⟨⟨Co0, Po0⟩, ⟨Co1, Po1⟩⟩, ⟨⟨Cy0, Py0⟩, ⟨Cy1, Py1⟩⟩, ⟨⟨Cw0, Pw0, Sw0⟩, ⟨Cw1, Pw1, Sw1⟩, ⟨Cw2, Pw2, Sw2⟩⟩, ⟨⟨Cv0, Pv0, Sv0⟩, ⟨Cv1, Pv1, Sv1⟩, ⟨Cv2, Pv2, Sv2⟩⟩, ⟨⟨Cd0, Pd0, Sd0⟩, ⟨Cd1, Pd1, Sd1⟩, ⟨Cd2, Pd2, Sd2⟩⟩, ⟨Cg, -⟩, ⟨Ch, -⟩⟩, Ho, Hy⟩
  ihave Ho := (o_whole c X (rd c gM G) W D) $$ Ho
  ihave Hy := (y_whole c X (rd c gM G) W D (rd c hM G2)) $$ Hy
  ihave Bn := (of_eq (n_any c)) $$ Nn
  ihave Bg := (of_eq (g_any c)) $$ Ng
  ihave Bh := (of_eq (h_any c)) $$ Nh
  ihave Bc := (of_eq (c_any c)) $$ Nc
  isplitl [Ho Hy]
  · isplitl [Ho]; · iexact Ho
    iexact Hy
  isplitl [Cx0 Cx1 Cw0 Cw1 Cw2 Cv0 Cv1 Cv2 Cd0 Cd1 Cd2 Co0 Co1 Cy0 Cy1 Cg Ch]
  · isplitl [Cx0]; · iexact Cx0
    isplitl [Cx1]; · iexact Cx1
    isplitl [Cw0]; · iexact Cw0
    isplitl [Cw1]; · iexact Cw1
    isplitl [Cw2]; · iexact Cw2
    isplitl [Cv0]; · iexact Cv0
    isplitl [Cv1]; · iexact Cv1
    isplitl [Cv2]; · iexact Cv2
    isplitl [Cd0]; · iexact Cd0
    isplitl [Cd1]; · iexact Cd1
    isplitl [Cd2]; · iexact Cd2
    isplitl [Co0]; · iexact Co0
    isplitl [Co1]; · iexact Co1
    isplitl [Cy0]; · iexact Cy0
    isplitl [Cy1]; · iexact Cy1
    isplitl [Cg]; · iexact Cg
    iexact Ch
  isplitl [Bn]; · iexact Bn
  isplitl [Px0 Px1]
  · iapply (x_put c)
    isplitl [Px0]; · iexact Px0
    iexact Px1
  isplitl [Bg]; · iexact Bg
  isplitl [Pw0 Pw1 Pw2]
  · iapply (w_put c)
    isplitl [Pw0]; · iexact Pw0
    isplitl [Pw1]; · iexact Pw1
    iexact Pw2
  isplitl [Pv0 Pv1 Pv2]
  · iapply (v_put c)
    isplitl [Pv0]; · iexact Pv0
    isplitl [Pv1]; · iexact Pv1
    iexact Pv2
  isplitl [Pd0 Pd1 Pd2]
  · iapply (d_put c)
    isplitl [Pd0]; · iexact Pd0
    isplitl [Pd1]; · iexact Pd1
    iexact Pd2
  isplitl [Bh]; · iexact Bh
  isplitl [Po0 Po1]
  · iapply (o_put c)
    isplitl [Po0]; · iexact Po0
    iexact Po1
  isplitl [Py0 Py1]
  · iapply (y_put c)
    isplitl [Py0]; · iexact Py0
    iexact Py1
  iexact Bc

/-! ## The region -/

variable (m : (ℓ : Loc nD τ sig) → Buf (Elt F) ℓ) (ρ : Dev nD → PrngReg)

/-- The operands as the region finds them. -/
abbrev Xv : BufOf (F := F) c xM := Gen.V m c main_v0
abbrev Gv : BufOf (F := F) c gM := Gen.V m c main_v2
abbrev Wv : BufOf (F := F) c wM := Gen.V m c main_v4
abbrev Dv : BufOf (F := F) c dM := Gen.V m c main_v6
abbrev Hv : BufOf (F := F) c hM := Gen.V m c main_v8

/-- Before the body every block of the results holds anything, after it its value. -/
def ΦB : sProp 𝕄 := iprop(Quiet c (Xv c m) (Gv c m) (Wv c m) (Dv c m) (Hv c m) ∗ oTodo c 0 ∗ yTodo c 0)
def ΦE : sProp 𝕄 := iprop(Quiet c (Xv c m) (Gv c m) (Wv c m) (Dv c m) (Hv c m)
  ∗ oDone c (Xv c m) (rd c gM (Gv c m)) (Wv c m) (Dv c m) 64 ∗ yDone c (Xv c m) (rd c gM (Gv c m)) (Wv c m) (Dv c m) (rd c hM (Hv c m)) 64)
def Φt (t : Fin (cfg0.N + 1)) : sProp 𝕄 := if t.val = 0 then ΦB c m else ΦE c m

def dats (_ : Fin 1) (c : Dev nD) : Dat τ (Elt F) Unit ℕ (UU nD τ) ℕ cfg0 c where
  A w := w.elim0
  after w _ := w.elim0
  Φ t := Φt c m t
  q _ := fullShare
  owed _ := 0

theorem Φt_zero (t : Fin (cfg0.N + 1)) (h : t.val = 0) : Φt c m t = ΦB c m := if_pos h
theorem Φt_pos (t : Fin (cfg0.N + 1)) (h : t.val ≠ 0) : Φt c m t = ΦE c m := if_neg h
theorem Φ_before (t : Fin cfg0.N) : (dats m 0 c).Φ t.castSucc = ΦB c m := by
  refine Φt_zero c m t.castSucc ?_
  have h : t = t0_0 := fin_N0 t
  subst h; rfl
theorem Φ_after (t : Fin cfg0.N) : (dats m 0 c).Φ t.succ = ΦE c m := Φt_pos c m t.succ (Nat.succ_ne_zero _)
theorem Φ_first : (dats m 0 c).Φ 0 = ΦB c m := Φt_zero c m 0 rfl
theorem Φ_last : (dats m 0 c).Φ (Fin.last cfg0.N) = ΦE c m :=
  Φt_pos c m (Fin.last cfg0.N) (by rw [show (Fin.last cfg0.N).val = 1 from N_0]; decide)

/-- The region's body is the kernel on its arrays and buffers. -/
theorem body_tab : (defs₀ (F := F)) .tc cfg0.body = fun _ => bodyG (F := F) := rfl
theorem body_eq (t : Fin cfg0.N) : (defs₀ (F := F)) .tc cfg0.body (cfg0.bodyArgs t (cfg0.slots t)) = bodyG (F := F) :=
  (congrFun body_tab _).trans rfl

theorem no_windows (Ψ : Fin cfg0.W → sProp 𝕄) : bigSep Finset.univ Ψ = (iprop(emp) : sProp 𝕄) := bigSep_empty

set_option backward.isDefEq.respectTransparency.types false in
/-- The region's one point. -/
theorem region_body : BodyObligation (dats (F := F) m 0 c) (defs₀ (F := F)) 𝒱₀ () Set.univ := fun t => by
  rw [no_windows, no_windows]
  rw [Φ_before, Φ_after]
  unfold Dat.owesAt Pipeline.owesWithin
  rw [show (dats m 0 c).owed t.castSucc = 0 from rfl, show (dats m 0 c).owed t.succ = 0 from rfl]
  unfold ΦB ΦE
  iintro ⟨⟨HQ, Ho, Hy⟩, ⟨%S, -, HS⟩, -⟩
  sl_rw [body_eq t]
  ihave HI := (Idle_join c (Xv c m) (Gv c m) (Wv c m) (Dv c m) (Hv c m)) $$ [HQ HS]
  · isplitl [HQ]; · iexact HQ
    iexists S; iexact HS
  iapply (wp_wand_r Idealize.ShloMosaic.frame (wpE (defs₀ (F := F)) 𝒱₀ (c : Thread nD τ) none) Set.univ)
  isplitl [HI Ho Hy]
  · iapply (bodyRun c (Xv c m) (Gv c m) (Wv c m) (Dv c m) (Hv c m))
    isplitl [HI]; · iexact HI
    isplitl [Ho]; · iexact Ho
    iexact Hy
  · iintro %a ⟨HI, Ho, Hy⟩
    ihave HI := (Idle_split c (Xv c m) (Gv c m) (Wv c m) (Dv c m) (Hv c m)) $$ HI
    icases HI with ⟨HQ, ⟨%S', HS⟩⟩
    isplitl [HQ Ho Hy]
    · isplitl [HQ]; · iexact HQ
      isplitl [Ho]; · iexact Ho
      iexact Hy
    isplitl [HS]
    · iexists S'; isplitr; · ipureintro; exact fun _ _ => Or.inl trivial
      iexact HS
    iempintro

/-! ## The run -/

/-- The two results. -/
abbrev outO : Buf (Elt F) ((c : Thread nD τ).loc main_v9_0) := oOut c (Xv c m) (rd c gM (Gv c m)) (Wv c m) (Dv c m)
abbrev outY : Buf (Elt F) ((c : Thread nD τ).loc main_v9_1) := yOut c (Xv c m) (rd c gM (Gv c m)) (Wv c m) (Dv c m) (rd c hM (Hv c m))
/-- The arguments as launched, held through the region. -/
def Args : sProp 𝕄 := iprop((((c : Thread nD τ).loc main_arg0) ↦{fullShare} m ((c : Thread nD τ).loc main_arg0)) ∗ (((c : Thread nD τ).loc main_arg1) ↦{fullShare} m ((c : Thread nD τ).loc main_arg1)) ∗ (((c : Thread nD τ).loc main_arg2) ↦{fullShare} m ((c : Thread nD τ).loc main_arg2)) ∗ (((c : Thread nD τ).loc main_arg3) ↦{fullShare} m ((c : Thread nD τ).loc main_arg3)) ∗ (((c : Thread nD τ).loc main_arg4) ↦{fullShare} m ((c : Thread nD τ).loc main_arg4)))
def Outs : sProp 𝕄 := iprop((((c : Thread nD τ).loc main_v9_0) ↦{fullShare} outO c m) ∗ (((c : Thread nD τ).loc main_v9_1) ↦{fullShare} outY c m))
/-- What the run ends in: the results at their values, the arguments as launched. -/
def Ends (c : Dev nD) (s : MemSt nD τ sig (Elt F)) : Prop :=
  s.mem ((c : Thread nD τ).loc main_v9_0) = outO c m ∧ s.mem ((c : Thread nD τ).loc main_v9_1) = outY c m
    ∧ s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4)

set_option backward.isDefEq.respectTransparency.types false in
set_option maxHeartbeats 1600000 in
/-- From any memory with zero counters, every execution of `main` terminates with both results at their values, the
    arguments as launched, and every counter at zero. -/
theorem run_main : θ_run defs (onTc (τ := τ) (main (F := F))) ⟨m, fun _ => 0, ρ⟩ (fun r => (∀ c, Ends m c r.2) ∧ r.2.sem = fun _ => 0) :=
  Pipeline.θ_run_region_kit_quiescent cfgs (dats m) () (0 : Fin 1) launch0 osemFacts EP defs₀ 𝒱₀ m ρ main
    (hbody := fun c => (region_body c m).loose) (hshare := fun c => (dats m 0 c).share_full fun _ => rfl)
    (howed := fun _ _ => rfl)
    (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := Gen.V m)
    (hmain := Pipeline.hmain_prefix cfgs 0 defs₀ 𝒱₀ m main hostOps0 hostOps0_sub hostOps0_fresh main_chain)
    (hA := fun _ w => w.elim0)
    (X := fun c => iprop(Arrays c (Xv c m) (Gv c m) (Wv c m) (Dv c m) (Hv c m) (Gen.V m c main_v9_0) (Gen.V m c main_v9_1) ∗ Pipeline.ownSems0 osem c))
    (Y := fun c => Outs c m) (Z := fun c => Args c m)
    (hX := fun c => by
      rw [unscopedRest0_eq, V_main_arg0, V_main_arg1, V_main_arg2, V_main_arg3, V_main_arg4]
      unfold Args Arrays
      iintro ⟨⟨A0, A1, A2, A3, A4, H0, -, H2, -, H4, -, H6, -, H8, HA, HB⟩, HS, -, -, -⟩; imodintro
      isplitr [A0 A1 A2 A3 A4]; rotate_left
      · isplitl [A0]; · iexact A0
        isplitl [A1]; · iexact A1
        isplitl [A2]; · iexact A2
        isplitl [A3]; · iexact A3
        iexact A4
      isplitr [HS]; rotate_left; · iexact HS
      isplitl [H0]; · iexact H0
      isplitl [H2]; · iexact H2
      isplitl [H4]; · iexact H4
      isplitl [H6]; · iexact H6
      isplitl [H8]; · iexact H8
      isplitl [HA]; · iexact HA
      iexact HB)
    (hin := fun c => by
      rw [scopedRest0_eq, Φ_first]
      exact enter c (Xv c m) (Gv c m) (Wv c m) (Dv c m) (Hv c m) _ _)
    (hout := fun c => by
      rw [scopedRest0_eq, Φ_last]
      exact leave c (Xv c m) (Gv c m) (Wv c m) (Dv c m) (Hv c m))
    (QY := Ends m)
    (hY := fun c s' => by
      unfold Outs Args
      iintro ⟨⟨H0, H1⟩, ⟨A0, A1, A2, A3, A4⟩, HSI⟩
      icombine HSI H0 gives %hH0
      icombine HSI H1 gives %hH1
      icombine HSI A0 gives %hA0
      icombine HSI A1 gives %hA1
      icombine HSI A2 gives %hA2
      icombine HSI A3 gives %hA3
      icombine HSI A4 gives %hA4
      imodintro
      isplitr
      · ipureintro
        exact ⟨Buf.eq_of_forall_mem_univ hH0, Buf.eq_of_forall_mem_univ hH1, Buf.eq_of_forall_mem_univ hA0, Buf.eq_of_forall_mem_univ hA1,
          Buf.eq_of_forall_mem_univ hA2, Buf.eq_of_forall_mem_univ hA3, Buf.eq_of_forall_mem_univ hA4⟩
      iexact HSI)
    (hQ := fun _ hh hz => ⟨fun c => (hh c).2, hz⟩)

end Cert.Proof.Ffn
-- ==== Proof.Row.lean ====
/-
  The half-step in coordinates: the root-mean-square norm of a row, the gated activation, and the row they leave.
-/
module

public import Idealize.ShloMosaic.PureOps.Ideal
public import Idealize.ShloMosaic.Lib.Pointwise

@[expose] public section

noncomputable section

namespace Cert.Proof.Row

open Idealize.ShloMosaic

/-- The factor a row of 2048 numbers is scaled by: one over the root of its mean square, the small constant added. -/
def scale (x : Fin 2048 → EReal) : EReal :=
  Ideal.rsqrt (Ideal.div (∑ k, x k * x k) (Ideal.ofBits FTy.f32 1157627904#32) + Ideal.ofBits FTy.f32 897988541#32)

/-- The row scaled, with a gain for each of its numbers. -/
def norm (x g : Fin 2048 → EReal) (d : Fin 2048) : EReal := x d * scale x * g d

/-- Gate column `k` of the first weights. -/
abbrev lo (k : Fin 5632) : Fin 11264 := ⟨k.1, by omega⟩

/-- Value column `k` of the first weights. -/
abbrev hi (k : Fin 5632) : Fin 11264 := ⟨5632 + k.1, by omega⟩

/-- The gate's number times its logistic times the value's number. -/
def act (n : Fin 2048 → EReal) (w : Fin 2048 → Fin 11264 → EReal) (k : Fin 5632) : EReal :=
  (∑ d, n d * w d (lo k)) * Ideal.logistic (∑ d, n d * w d (lo k)) * ∑ d, n d * w d (hi k)

/-- The row plus half of what the feed-forward block makes of its norm. -/
def half (x g : Fin 2048 → EReal) (w : Fin 2048 → Fin 11264 → EReal) (v : Fin 5632 → Fin 2048 → EReal) (l : Fin 2048) : EReal :=
  x l + Ideal.ofBits FTy.f32 1056964608#32 * ∑ k, act (norm x g) w k * v k l

end Cert.Proof.Row
-- ==== Proof.Maths.lean ====
/-
  The kernel's results in coordinates: what a block of rows comes to after its eleven blocks of columns.
-/
module

public import proofs.«01_k».proof.Proof.Launch
public import proofs.«01_k».proof.Proof.Row

@[expose] public section

noncomputable section

namespace Cert.Proof.Ffn

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (c : Dev nD)

theorem down_at {α : Type} (v : S1x512x2048.Idx → α) (r : Fin 512) (d : Fin 2048) : down v (ix2 r d) = v (ix3 0 r d) := by
  unfold down
  pointwise
theorem up_at {α : Type} (v : S512x2048.Idx → α) (r : Fin 512) (d : Fin 2048) : up v (ix3 0 r d) = v (ix2 r d) := by
  rw [← down_at (up v), down_up]
theorem upw_at {α : Type} (v : S2048x512.Idx → α) (r : Fin 2048) (d : Fin 512) : upw v (ix3 0 r d) = v (ix2 r d) := by
  refine congrArg v ((Equiv.symm_apply_eq _).2 ?_)
  pointwise

theorem pay1_at (x : Vec Ideal S1x512x2048 .f32) (g : Vec Ideal S1x2048 .f32) (r : Fin 512) (d : Fin 2048) :
    k0_pay1 (F := Ideal) x g (ix2 r d) = Row.norm (fun d => x (ix3 0 r d)) (fun d => g (ix2 0 d)) d := by
  unfold Row.norm Row.scale
  pointwise [k0_pay1]
theorem pay2_at (r : Fin 512) (d : Fin 2048) : k0_pay2 (F := Ideal) (ix3 0 r d) = (0 : EReal) := by
  pointwise [k0_pay2]
theorem pay3_at (n w v o dd) (r : Fin 512) (d : Fin 2048) :
    k0_pay3 (F := Ideal) n w v o dd (ix3 0 r d) = o (ix3 0 r d) + ∑ t : Fin 512,
      ((∑ e : Fin 2048, n (ix2 r e) * w (ix3 0 e t)) * Ideal.logistic (∑ e : Fin 2048, n (ix2 r e) * w (ix3 0 e t)) * ∑ e : Fin 2048, n (ix2 r e) * v (ix3 0 e t))
        * dd (ix3 0 t d) := by
  pointwise [k0_pay3]
theorem pay5_at (x a) (r : Fin 512) (d : Fin 2048) :
    k0_pay5 (F := Ideal) x a (ix3 0 r d) = x (ix3 0 r d) + Ideal.ofBits FTy.f32 1056964608#32 * a (ix3 0 r d) := by
  pointwise [k0_pay5, k0_pay4]
theorem pay6_at (x a) (g) (r : Fin 512) (d : Fin 2048) :
    k0_pay6 (F := Ideal) x a g (ix3 0 r d)
      = Row.norm (fun d => x (ix3 0 r d) + Ideal.ofBits FTy.f32 1056964608#32 * a (ix3 0 r d)) (fun d => g (ix2 0 d)) d := by
  unfold Row.norm Row.scale
  pointwise [k0_pay6, k0_pay4]

variable (X : BufOf (F := Ideal) c xM) (G : Vec Ideal S1x2048 .f32) (W : BufOf (F := Ideal) c wM) (D : BufOf (F := Ideal) c dM)

theorem xb_at (i : ℕ) (hi : i < 64) (r : Fin 512) (d : Fin 2048) : xb c X i (ix2 r d) = X (ix2 (⟨512 * i + r.1, by omega⟩ : Fin 32768) d) := by
  refine congrArg X (funext fun a => Fin.ext ?_)
  refine (ValueKit.rect_emb_unit_val (s := S32768x2048) (rowOff (Ring.bk 64 i)) S512x2048.size (row64_inb (Ring.bk 64 i)) (ix2 r d) a).trans ?_
  have : (Ring.bk 64 i).val = i := Ring.bk_val hi
  fin_cases a
  · show 512 * (Ring.bk 64 i).val + r.1 = 512 * i + r.1
    rw [this]
  · show 0 + d.1 = d.1
    omega

theorem wb_at (j : ℕ) (hj : j < 11) (d : Fin 2048) (t : Fin 512) : wb c W j (ix2 d t) = W (ix2 d (⟨512 * j + t.1, by omega⟩ : Fin 11264)) := by
  refine congrArg W (funext fun a => Fin.ext ?_)
  refine (ValueKit.rect_emb_unit_val (s := S2048x11264) (colOff (Ring.sl 11 j)) S2048x512.size (col_inb (Ring.sl 11 j)) (ix2 d t) a).trans ?_
  have : (Ring.sl 11 j).val = j := Ring.bk_val hj
  fin_cases a
  · show 0 + d.1 = d.1
    omega
  · show 512 * (Ring.sl 11 j).val + t.1 = 512 * j + t.1
    rw [this]

theorem vb_at (j : ℕ) (hj : j < 11) (d : Fin 2048) (t : Fin 512) : vb c W j (ix2 d t) = W (ix2 d (⟨5632 + (512 * j + t.1), by omega⟩ : Fin 11264)) := by
  refine congrArg W (funext fun a => Fin.ext ?_)
  refine (ValueKit.rect_emb_unit_val (s := S2048x11264) (colOff' (Ring.sl 11 j)) S2048x512.size (col'_inb (Ring.sl 11 j)) (ix2 d t) a).trans ?_
  have : (Ring.sl 11 j).val = j := Ring.bk_val hj
  fin_cases a
  · show 0 + d.1 = d.1
    omega
  · show 512 * (11 + (Ring.sl 11 j).val) + t.1 = 5632 + (512 * j + t.1)
    rw [this]; omega

theorem db_at (j : ℕ) (hj : j < 11) (t : Fin 512) (d : Fin 2048) : db c D j (ix2 t d) = D (ix2 (⟨512 * j + t.1, by omega⟩ : Fin 5632) d) := by
  refine congrArg D (funext fun a => Fin.ext ?_)
  refine (ValueKit.rect_emb_unit_val (s := S5632x2048) (rowOff (Ring.sl 11 j)) S512x2048.size (row11_inb (Ring.sl 11 j)) (ix2 t d) a).trans ?_
  have : (Ring.sl 11 j).val = j := Ring.bk_val hj
  fin_cases a
  · show 512 * (Ring.sl 11 j).val + t.1 = 512 * j + t.1
    rw [this]
  · show 0 + d.1 = d.1
    omega

/-- Row `r` of block `i` of the rows. -/
def row (i : ℕ) (hi : i < 64) (r : Fin 512) (d : Fin 2048) : EReal := X (ix2 (⟨512 * i + r.1, by omega⟩ : Fin 32768) d)

/-- One term of the second product, zero past the last. -/
def term (n : Fin 2048 → EReal) (l : Fin 2048) (k : ℕ) : EReal :=
  if h : k < 5632 then Row.act n (fun d k => W (ix2 d k)) ⟨k, h⟩ * D (ix2 (⟨k, h⟩ : Fin 5632) l) else 0

theorem nrm_at (i : ℕ) (hi : i < 64) (r : Fin 512) (d : Fin 2048) :
    nrm c X G i (ix2 r d) = Row.norm (row c X i hi r) (fun d => G (ix2 0 d)) d := by
  refine (pay1_at _ _ r d).trans ?_
  simp only [up_at]
  rw [show (fun d => xb c X i (ix2 r d)) = row c X i hi r from funext fun d => xb_at c X i hi r d]

/-- After `j` blocks of columns the accumulator holds the first `512 * j` terms. -/
theorem acc_at (i : ℕ) (hi : i < 64) (r : Fin 512) (l : Fin 2048) : ∀ j, j ≤ 11 →
    acc' c X G W D i j (ix2 r l) = ∑ k ∈ Finset.range (512 * j), term c W D (Row.norm (row c X i hi r) (fun d => G (ix2 0 d))) l k
  | 0, _ => by
    refine (down_at _ r l).trans ((pay2_at r l).trans ?_)
    simp
  | j + 1, hj => by
    refine (down_at _ r l).trans ((pay3_at _ _ _ _ _ r l).trans ?_)
    rw [up_at, acc_at i hi r l j (by omega), show 512 * (j + 1) = 512 * j + 512 by ring, Finset.sum_range_add, Finset.sum_range (n := 512)]
    congr 1
    refine Finset.sum_congr rfl fun t _ => ?_
    have ht : 512 * j + t.1 < 5632 := by omega
    rw [term, dif_pos ht, up_at, db_at c D j (by omega)]
    simp only [upw_at, wb_at c W j (by omega : j < 11), vb_at c W j (by omega : j < 11), nrm_at c X G i hi]
    rfl

theorem acc_all (i : ℕ) (hi : i < 64) (r : Fin 512) (l : Fin 2048) :
    acc' c X G W D i 11 (ix2 r l)
      = ∑ k : Fin 5632, Row.act (Row.norm (row c X i hi r) (fun d => G (ix2 0 d))) (fun d k => W (ix2 d k)) k * D (ix2 k l) := by
  rw [acc_at c X G W D i hi r l 11 le_rfl, Finset.sum_range]
  refine Finset.sum_congr rfl fun k _ => ?_
  rw [term, dif_pos k.2]

theorem hb_at (i : ℕ) (hi : i < 64) (r : Fin 512) (l : Fin 2048) :
    hb c X G W D i (ix2 r l) = Row.half (row c X i hi r) (fun d => G (ix2 0 d)) (fun d k => W (ix2 d k)) (fun k d => D (ix2 k d)) l := by
  refine (down_at _ r l).trans ((pay5_at _ _ r l).trans ?_)
  rw [up_at, up_at, xb_at c X i hi, acc_all c X G W D i hi]
  rfl

theorem ub_at (G2 : Vec Ideal S1x2048 .f32) (i : ℕ) (hi : i < 64) (r : Fin 512) (l : Fin 2048) :
    ub c X G W D G2 i (ix2 r l)
      = Row.norm (Row.half (row c X i hi r) (fun d => G (ix2 0 d)) (fun d k => W (ix2 d k)) (fun k d => D (ix2 k d))) (fun d => G2 (ix2 0 d)) l := by
  refine (down_at _ r l).trans ((pay6_at _ _ _ r l).trans ?_)
  simp only [up_at, xb_at c X i hi, acc_all c X G W D i hi]
  rfl

theorem ix512_eq (R : Fin 32768) (d : Fin 2048) : ix512 R.1 d = ix2 (⟨R.1 % 512, by omega⟩ : Fin 512) d := by
  funext a
  fin_cases a <;> rfl

theorem oOut_at (R : Fin 32768) (l : Fin 2048) :
    oOut c X G W D (ix2 R l) = Row.half (fun d => X (ix2 R d)) (fun d => G (ix2 0 d)) (fun d k => W (ix2 d k)) (fun k d => D (ix2 k d)) l := by
  refine (congrArg (hb c X G W D (R.1 / 512)) (ix512_eq R l)).trans ((hb_at c X G W D (R.1 / 512) (by omega) _ l).trans ?_)
  rw [show row c X (R.1 / 512) (by omega) ⟨R.1 % 512, by omega⟩ = fun d => X (ix2 R d) from funext fun d => by
    unfold row
    exact congrArg (fun q : Fin 32768 => X (ix2 q d)) (Fin.ext (by show 512 * (R.1 / 512) + R.1 % 512 = R.1; omega))]

theorem yOut_at (G2 : Vec Ideal S1x2048 .f32) (R : Fin 32768) (l : Fin 2048) :
    yOut c X G W D G2 (ix2 R l)
      = Row.norm (Row.half (fun d => X (ix2 R d)) (fun d => G (ix2 0 d)) (fun d k => W (ix2 d k)) (fun k d => D (ix2 k d))) (fun d => G2 (ix2 0 d)) l := by
  refine (congrArg (ub c X G W D G2 (R.1 / 512)) (ix512_eq R l)).trans ((ub_at c X G W D G2 (R.1 / 512) (by omega) _ l).trans ?_)
  rw [show row c X (R.1 / 512) (by omega) ⟨R.1 % 512, by omega⟩ = fun d => X (ix2 R d) from funext fun d => by
    unfold row
    exact congrArg (fun q : Fin 32768 => X (ix2 q d)) (Fin.ext (by show 512 * (R.1 / 512) + R.1 % 512 = R.1; omega))]

theorem flat_at (x : FVec Ideal S16x2048x2048 .f32) (R : Fin 32768) (d : Fin 2048) :
    shapeCast S32768x2048 x shapeCasts_S16x2048x2048_S32768x2048 (ix2 R d)
      = x (ix3 (⟨R.1 / 2048, by omega⟩ : Fin 16) (⟨R.1 % 2048, by omega⟩ : Fin 2048) d) := by
  pointwise
theorem gain_at (g : FVec Ideal S1x2048 .f32) (d : Fin 2048) :
    broadcastInDim S1x2048 ![1] bcast_S2048_S1x2048_1 (shapeCast S2048 g shapeCasts_S1x2048_S2048) (ix2 0 d) = g (ix2 0 d) := by
  pointwise
theorem wide_at (w : FVec Ideal S1x2048x11264 .f32) (d : Fin 2048) (k : Fin 11264) :
    truncf .bf16 (shapeCast S2048x11264 w shapeCasts_S1x2048x11264_S2048x11264) bitsLt_bf16_f32 (ix2 d k) = w (ix3 0 d k) := by
  pointwise
theorem tall_at (w : FVec Ideal S1x5632x2048 .f32) (k : Fin 5632) (d : Fin 2048) :
    truncf .bf16 (shapeCast S5632x2048 w shapeCasts_S1x5632x2048_S5632x2048) bitsLt_bf16_f32 (ix2 k d) = w (ix3 0 k d) := by
  pointwise

variable (m : (ℓ : Loc nD τ sig) → Buf (Elt Ideal) ℓ)

theorem Xv_eq : Xv c m = shapeCast S32768x2048 (m (c.tc.loc main_arg0) : FVec Ideal S16x2048x2048 .f32) shapeCasts_S16x2048x2048_S32768x2048 := by
  unfold Xv Gen.V hostOps0
  after_results_simp
  rfl
theorem Gv_eq : rd c gM (Gv c m)
    = broadcastInDim S1x2048 ![1] bcast_S2048_S1x2048_1 (shapeCast S2048 (m (c.tc.loc main_arg1) : FVec Ideal S1x2048 .f32) shapeCasts_S1x2048_S2048) := by
  unfold Gv Gen.V hostOps0
  after_results_simp
  rfl
theorem Wv_eq : Wv c m
    = (truncf .bf16 (shapeCast S2048x11264 (m (c.tc.loc main_arg2) : FVec Ideal S1x2048x11264 .f32) shapeCasts_S1x2048x11264_S2048x11264) bitsLt_bf16_f32 : FVec Ideal S2048x11264 .bf16) := by
  unfold Wv Gen.V hostOps0
  after_results_simp
  rfl
theorem Dv_eq : Dv c m
    = (truncf .bf16 (shapeCast S5632x2048 (m (c.tc.loc main_arg3) : FVec Ideal S1x5632x2048 .f32) shapeCasts_S1x5632x2048_S5632x2048) bitsLt_bf16_f32 : FVec Ideal S5632x2048 .bf16) := by
  unfold Dv Gen.V hostOps0
  after_results_simp
  rfl
theorem Hv_eq : rd c hM (Hv c m)
    = broadcastInDim S1x2048 ![1] bcast_S2048_S1x2048_1 (shapeCast S2048 (m (c.tc.loc main_arg4) : FVec Ideal S1x2048 .f32) shapeCasts_S1x2048_S2048) := by
  unfold Hv Gen.V hostOps0
  after_results_simp
  rfl

/-- The kernel's first result in coordinates. -/
theorem outO_at (x : FVec Ideal S16x2048x2048 .f32) (g : FVec Ideal S1x2048 .f32) (w : FVec Ideal S1x2048x11264 .f32) (v : FVec Ideal S1x5632x2048 .f32)
    (hx : m (c.tc.loc main_arg0) = x) (hg : m (c.tc.loc main_arg1) = g) (hw : m (c.tc.loc main_arg2) = w) (hv : m (c.tc.loc main_arg3) = v)
    (R : Fin 32768) (l : Fin 2048) :
    outO c m (ix2 R l) = Row.half (fun d => x (ix3 (⟨R.1 / 2048, by omega⟩ : Fin 16) (⟨R.1 % 2048, by omega⟩ : Fin 2048) d)) (fun d => g (ix2 0 d))
      (fun d k => w (ix3 0 d k)) (fun k d => v (ix3 0 k d)) l := by
  unfold outO
  rw [oOut_at, Xv_eq, Gv_eq, Wv_eq, Dv_eq, hx, hg, hw, hv]
  simp only [wide_at, tall_at]
  exact congrArg₂ (fun a b => Row.half a b (fun d k => w (ix3 0 d k)) (fun k d => v (ix3 0 k d)) l) (funext fun d => flat_at x R d) (funext fun d => gain_at g d)

/-- The kernel's second result in coordinates. -/
theorem outY_at (x : FVec Ideal S16x2048x2048 .f32) (g : FVec Ideal S1x2048 .f32) (w : FVec Ideal S1x2048x11264 .f32) (v : FVec Ideal S1x5632x2048 .f32)
    (g2 : FVec Ideal S1x2048 .f32)
    (hx : m (c.tc.loc main_arg0) = x) (hg : m (c.tc.loc main_arg1) = g) (hw : m (c.tc.loc main_arg2) = w) (hv : m (c.tc.loc main_arg3) = v)
    (hg2 : m (c.tc.loc main_arg4) = g2) (R : Fin 32768) (l : Fin 2048) :
    outY c m (ix2 R l) = Row.norm (Row.half (fun d => x (ix3 (⟨R.1 / 2048, by omega⟩ : Fin 16) (⟨R.1 % 2048, by omega⟩ : Fin 2048) d)) (fun d => g (ix2 0 d))
      (fun d k => w (ix3 0 d k)) (fun k d => v (ix3 0 k d))) (fun d => g2 (ix2 0 d)) l := by
  unfold outY
  rw [yOut_at, Xv_eq, Gv_eq, Wv_eq, Dv_eq, Hv_eq, hx, hg, hw, hv, hg2]
  simp only [wide_at, tall_at]
  exact congrArg₂ (fun h e => Row.norm h e l)
    (congrArg₂ (fun a b => Row.half a b (fun d k => w (ix3 0 d k)) (fun k d => v (ix3 0 k d))) (funext fun d => flat_at x R d) (funext fun d => gain_at g d))
    (funext fun d => gain_at g2 d)

end Cert.Proof.Ffn
-- ==== Proof.Refr.lean ====
/-
  The reference read in coordinates.
-/
module

public import proofs.«01_k».proof.Proof.Row
public import proofs.«01_k».proof.Proof.Gen.ReferenceIdeal.Run

@[expose] public section

noncomputable section

namespace Cert.Proof.Refr

open Cert.ReferenceIdeal Cert.ReferenceIdeal.Gen
open Idealize.ShloMosaic Idealize.ShloMosaic.TcCoe Idealize.ShloMosaic.StableHlo Idealize.SL.Sem
open Cert.Proof

/-- The reference's norm, as its operations make it. -/
def rms (x : FVec Ideal S16x2048x2048 .f32) (g : FVec Ideal S1x2048 .f32) : FVec Ideal S16x2048x2048 .f32 :=
  mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ g shapeCasts_S1x2048_S2048)))

/-- The product with the first weights. -/
def wide (n : FVec Ideal S16x2048x2048 .f32) (w : FVec Ideal S1x2048x11264 .f32) : FVec Ideal S16x2048x11264 .f32 :=
  Host.dotGeneral dot_S16x2048x2048_S2048x11264_S16x2048x11264_2_0_01_1_n_n none n (shapeCast _ w shapeCasts_S1x2048x11264_S2048x11264)

/-- The gated activation of it. -/
def gated (a : FVec Ideal S16x2048x11264 .f32) : FVec Ideal S16x2048x5632 .f32 :=
  mulf (mulf (extractStridedSlice S16x2048x5632 ![0, 0, 0] a slices_S16x2048x11264_S16x2048x5632_0_0_0) (Host.divf (broadcastInDim S16x2048x5632 ![] bcast_S_S16x2048x5632 (constant S_ .f32 0x3F800000#32)) (addf (broadcastInDim S16x2048x5632 ![] bcast_S_S16x2048x5632 (constant S_ .f32 0x3F800000#32)) (Host.exp (Host.negf (extractStridedSlice S16x2048x5632 ![0, 0, 0] a slices_S16x2048x11264_S16x2048x5632_0_0_0)))))) (extractStridedSlice S16x2048x5632 ![0, 0, 5632] a slices_S16x2048x11264_S16x2048x5632_0_0_5632)

/-- The rows plus half of the product with the second weights. -/
def step (x : FVec Ideal S16x2048x2048 .f32) (a : FVec Ideal S16x2048x5632 .f32) (v : FVec Ideal S1x5632x2048 .f32) : FVec Ideal S16x2048x2048 .f32 :=
  addf x (mulf (broadcastInDim S16x2048x2048 ![] bcast_S_S16x2048x2048 (constant S_ .f32 0x3F000000#32)) (Host.dotGeneral dot_S16x2048x5632_S5632x2048_S16x2048x2048_2_0_01_1_n_n none a (shapeCast _ v shapeCasts_S1x5632x2048_S5632x2048)))

theorem rms_at (x : FVec Ideal S16x2048x2048 .f32) (g : FVec Ideal S1x2048 .f32) (a : Fin 16) (b d : Fin 2048) :
    rms x g (ix3 a b d) = Row.norm (fun d => x (ix3 a b d)) (fun d => g (ix2 0 d)) d := by
  unfold Row.norm Row.scale
  pointwise [rms]

theorem wide_at (n : FVec Ideal S16x2048x2048 .f32) (w : FVec Ideal S1x2048x11264 .f32) (a : Fin 16) (b : Fin 2048) (k : Fin 11264) :
    wide n w (ix3 a b k) = ∑ d : Fin 2048, n (ix3 a b d) * w (ix3 0 d k) := by
  pointwise [wide]

theorem gated_at (n : FVec Ideal S16x2048x11264 .f32) (a : Fin 16) (b : Fin 2048) (k : Fin 5632) :
    gated n (ix3 a b k) = n (ix3 a b (Row.lo k)) * Ideal.logistic (n (ix3 a b (Row.lo k))) * n (ix3 a b (Row.hi k)) := by
  pointwise [gated]
  rfl

theorem step_at (x : FVec Ideal S16x2048x2048 .f32) (n : FVec Ideal S16x2048x5632 .f32) (v : FVec Ideal S1x5632x2048 .f32) (a : Fin 16) (b d : Fin 2048) :
    step x n v (ix3 a b d) = x (ix3 a b d) + Ideal.ofBits FTy.f32 1056964608#32 * ∑ k : Fin 5632, n (ix3 a b k) * v (ix3 0 k d) := by
  pointwise [step]

theorem flat_at (x : FVec Ideal S16x2048x2048 .f32) (r : Fin 32768) (d : Fin 2048) :
    shapeCast S32768x2048 x shapeCasts_S16x2048x2048_S32768x2048 (ix2 r d) = x (ix3 ⟨r.1 / 2048, by omega⟩ ⟨r.1 % 2048, by omega⟩ d) := by
  pointwise

/-- The first result before it is flattened. -/
def first (x : FVec Ideal S16x2048x2048 .f32) (g : FVec Ideal S1x2048 .f32) (w : FVec Ideal S1x2048x11264 .f32) (v : FVec Ideal S1x5632x2048 .f32) :
    FVec Ideal S16x2048x2048 .f32 := step x (gated (wide (rms x g) w)) v

theorem first_at (x : FVec Ideal S16x2048x2048 .f32) (g : FVec Ideal S1x2048 .f32) (w : FVec Ideal S1x2048x11264 .f32) (v : FVec Ideal S1x5632x2048 .f32)
    (a : Fin 16) (b d : Fin 2048) :
    first x g w v (ix3 a b d) = Row.half (fun d => x (ix3 a b d)) (fun d => g (ix2 0 d)) (fun d k => w (ix3 0 d k)) (fun k d => v (ix3 0 k d)) d := by
  unfold first Row.half Row.act
  simp only [step_at, gated_at, wide_at, rms_at]

/-- The first result at row `r`. -/
theorem out0_at (x : FVec Ideal S16x2048x2048 .f32) (g : FVec Ideal S1x2048 .f32) (w : FVec Ideal S1x2048x11264 .f32) (v : FVec Ideal S1x5632x2048 .f32)
    (r : Fin 32768) (d : Fin 2048) :
    shapeCast S32768x2048 (first x g w v) shapeCasts_S16x2048x2048_S32768x2048 (ix2 r d)
      = Row.half (fun d => x (ix3 ⟨r.1 / 2048, by omega⟩ ⟨r.1 % 2048, by omega⟩ d)) (fun d => g (ix2 0 d)) (fun d k => w (ix3 0 d k)) (fun k d => v (ix3 0 k d)) d := by
  rw [flat_at, first_at]

/-- The second result at row `r`. -/
theorem out1_at (x : FVec Ideal S16x2048x2048 .f32) (g : FVec Ideal S1x2048 .f32) (w : FVec Ideal S1x2048x11264 .f32) (v : FVec Ideal S1x5632x2048 .f32)
    (g2 : FVec Ideal S1x2048 .f32) (r : Fin 32768) (d : Fin 2048) :
    truncf .bf16 (shapeCast S32768x2048 (rms (first x g w v) g2) shapeCasts_S16x2048x2048_S32768x2048) bitsLt_bf16_f32 (ix2 r d)
      = Row.norm (Row.half (fun d => x (ix3 ⟨r.1 / 2048, by omega⟩ ⟨r.1 % 2048, by omega⟩ d)) (fun d => g (ix2 0 d)) (fun d k => w (ix3 0 d k)) (fun k d => v (ix3 0 k d)))
          (fun d => g2 (ix2 0 d)) d := by
  refine (show truncf .bf16 (shapeCast S32768x2048 (rms (first x g w v) g2) shapeCasts_S16x2048x2048_S32768x2048) bitsLt_bf16_f32 (ix2 r d)
    = shapeCast S32768x2048 (rms (first x g w v) g2) shapeCasts_S16x2048x2048_S32768x2048 (ix2 r d) from rfl).trans ?_
  rw [flat_at, rms_at]
  simp only [first_at]

variable (m : (ℓ : Loc nD τ sig) → Buf (Elt Ideal) ℓ) (c : Dev nD)

set_option maxRecDepth 8192 in
theorem res1_eq : Value.res_main_v41 (F := Ideal) m c
    = truncf .bf16 (shapeCast S32768x2048 (rms (first (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg4)))
        shapeCasts_S16x2048x2048_S32768x2048) bitsLt_bf16_f32 := rfl

/-- What the reference's two results hold at the end. -/
def Ends (s : MemSt nD τ sig (Elt Ideal)) : Prop :=
  s.mem ((c.tc : Thread nD τ).loc main_v39) = shapeCast S32768x2048 (first (m ((c.tc : Thread nD τ).loc main_arg0)) (m ((c.tc : Thread nD τ).loc main_arg1))
        (m ((c.tc : Thread nD τ).loc main_arg2)) (m ((c.tc : Thread nD τ).loc main_arg3))) shapeCasts_S16x2048x2048_S32768x2048
  ∧ s.mem ((c.tc : Thread nD τ).loc main_v41) = Value.res_main_v41 m c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

theorem run_ref (ρ : Dev nD → PrngReg) :
    θ_run defs (onTc (τ := τ) (main (F := Ideal))) ⟨m, fun _ => 0, ρ⟩ (fun r => (∀ c, Ends m c r.2) ∧ r.2.sem = fun _ => 0) :=
  (θ_run defs _ _).mono (fun r h => ⟨fun c => h c, sem_eq_zero_of_no_sems (by decide) r.2⟩) (Value.run m ρ)

end Cert.Proof.Refr
-- ==== Proof.Keys.lean ====
/-
  The projection to the queries and the keys: what a point leaves, the result against the plain product.
-/
module

public import proofs.«01_k».proof.Proof.Gen.Kernel3Ideal.Value
public import Idealize.ShloMosaic.Lib.Pipeline.ValueKit
public import Idealize.ShloMosaic.Lib.Pointwise
public import Idealize.ShloMosaic.Lib.Tactic

@[expose] public section

noncomputable section

namespace Cert.Proof.Keys

open Cert.Kernel3Ideal Cert.Kernel3Ideal.Gen
open Idealize.ShloMosaic Idealize.ShloMosaic.TcCoe Idealize.SL.Sem

theorem off_zero : (![0, 0] : Fin 2 → Nat) = fun _ => 0 := funext fun a => by fin_cases a <;> rfl

theorem pay_at (x : Vec Ideal S2048x2048 .bf16) (w : Vec Ideal S2048x1024 .bf16) (r : Fin 2048) (j : Fin 1024) :
    k0_pay1 (F := Ideal) x w (ix2 r j) = ∑ e : Fin 2048, x (ix2 r e) * w (ix2 e j) := by
  pointwise [k0_pay1]

theorem idx0 : ∀ t : Fin cfg0.N, win0_0.index t (0 : Fin 2) = t.val / 2 ∧ win0_0.index t (1 : Fin 2) = 0 := (by decide +kernel : ∀ t : Fin grid0.N, _)
theorem idx1 : ∀ t : Fin cfg0.N, win0_1.index t (0 : Fin 2) = 0 ∧ win0_1.index t (1 : Fin 2) = t.val % 2 := (by decide +kernel : ∀ t : Fin grid0.N, _)
theorem idx2 : ∀ t : Fin cfg0.N, win0_2.index t (0 : Fin 2) = t.val / 2 ∧ win0_2.index t (1 : Fin 2) = t.val % 2 := (by decide +kernel : ∀ t : Fin grid0.N, _)

variable (m : (ℓ : Loc nD τ sig) → Buf (Elt Ideal) ℓ) (c : Dev nD)

/-- The rows. -/
def U : FVec Ideal S32768x2048 .bf16 := V m c main_arg0
/-- The weights, as the host cuts them. -/
def W : FVec Ideal S2048x2048 .bf16 := V m c main_v2

/-- The product of the two. -/
def G : FVec Ideal S32768x2048 .bf16 := fun y => ∑ e : Fin 2048, U m c (ix2 (y 0) e) * W m c (ix2 e (y 1))

theorem rows_at (t : Fin cfg0.N) (r e : Fin 2048) (R : Fin 32768) (hR : R.1 = 2048 * (t.val / 2) + r.1) :
    iblk m c 0 t (ix2 r e) = U m c (ix2 R e) := by
  obtain ⟨e0, e1⟩ := idx0 t
  refine congrArg (V m c main_arg0) (funext fun a => Fin.ext ?_)
  fin_cases a
  · show win0_0.index t (0 : Fin 2) * 2048 + 1 * r.1 = R.1
    omega
  · show win0_0.index t (1 : Fin 2) * 2048 + 1 * e.1 = e.1
    omega

theorem cols_at (t : Fin cfg0.N) (e : Fin 2048) (j : Fin 1024) (J : Fin 2048) (hJ : J.1 = 1024 * (t.val % 2) + j.1) :
    iblk m c 1 t (ix2 e j) = W m c (ix2 e J) := by
  obtain ⟨e0, e1⟩ := idx1 t
  refine congrArg (V m c main_v2) (funext fun a => Fin.ext ?_)
  fin_cases a
  · show win0_1.index t (0 : Fin 2) * 2048 + 1 * e.1 = e.1
    omega
  · show win0_1.index t (1 : Fin 2) * 1024 + 1 * j.1 = J.1
    omega

/-- What a point leaves at a place of its block. -/
theorem block_at (t : Fin cfg0.N) (r : Fin 2048) (j : Fin 1024) (R : Fin 32768) (J : Fin 2048)
    (hR : R.1 = 2048 * (t.val / 2) + r.1) (hJ : J.1 = 1024 * (t.val % 2) + j.1) :
    k0_pay1 (F := Ideal) (iblk m c 0 t) (iblk m c 1 t) (ix2 r j) = G m c (ix2 R J) := by
  refine (pay_at (iblk m c 0 t) (iblk m c 1 t) r j).trans (Finset.sum_congr rfl fun e _ => ?_)
  exact congrArg₂ (fun a b => a * b) (rows_at m c t r e R hR) (cols_at m c t e j J hJ)

theorem body_eq (x : Vec Ideal S2048x2048 .bf16) (w : Vec Ideal S2048x1024 .bf16) : out0_2 x w = k0_pay1 x w := by
  unfold out0_2
  rw [View.canon_unit_zero off_zero]
  simp only [View.ld_unit_zero (S := S2048x2048) off_zero, View.ld_unit_zero (S := S2048x1024) off_zero]

/-- The array the call leaves. -/
theorem arr_eq : (dats m 0 c).arrAt 2 cfg0.N = G m c := by
  refine (dats m 0 c).arrAt_eq_of_covers 2 _ (by decide +kernel) fun t hf y => ?_
  obtain ⟨e0, e1⟩ := idx2 t
  obtain ⟨r, j, rfl⟩ : ∃ (r : Fin 2048) (j : Fin 1024), y = ix2 r j := ⟨y 0, y 1, funext fun a => by fin_cases a <;> rfl⟩
  blk_simp
  rw [after0_2, body_eq]
  refine (block_at m c t r j ((win0_2.blk t).view.emb (ix2 r j) 0) ((win0_2.blk t).view.emb (ix2 r j) 1) ?_ ?_).trans ?_
  · show win0_2.index t (0 : Fin 2) * 2048 + 1 * r.1 = _
    omega
  · show win0_2.index t (1 : Fin 2) * 1024 + 1 * j.1 = _
    omega
  · rfl

/-- The column of the input weights that column `J` of the result takes. -/
def col (J : Fin 2048) : Fin 8192 := ⟨J.1, by omega⟩

theorem cut_at (w : FVec Ideal S1x2048x8192 .f32) (e J : Fin 2048) :
    (truncf .bf16 (extractStridedSlice S2048x2048 ![0, 0] (shapeCast S2048x8192 w shapeCasts_S1x2048x8192_S2048x8192) slices_S2048x8192_S2048x2048_0_0) bitsLt_bf16_f32 : FVec Ideal S2048x2048 .bf16) (ix2 e J)
      = w (ix3 0 e (col J)) := by
  pointwise
  rfl

theorem W_eq : W m c = (truncf .bf16 (extractStridedSlice S2048x2048 ![0, 0] (shapeCast S2048x8192 (m (c.tc.loc main_arg1) : FVec Ideal S1x2048x8192 .f32) shapeCasts_S1x2048x8192_S2048x8192) slices_S2048x8192_S2048x2048_0_0) bitsLt_bf16_f32 : FVec Ideal S2048x2048 .bf16) := by
  unfold W Gen.V hostOps0
  after_results_simp
  rfl

/-- The call's result in coordinates. -/
theorem out_at (u : FVec Ideal S32768x2048 .bf16) (w : FVec Ideal S1x2048x8192 .f32)
    (hu : m (c.tc.loc main_arg0) = u) (hw : m (c.tc.loc main_arg1) = w) (R : Fin 32768) (J : Fin 2048) :
    (dats m 0 c).arrAt 2 cfg0.N (ix2 R J) = ∑ e : Fin 2048, u (ix2 R e) * w (ix3 0 e (col J)) := by
  rw [arr_eq]
  show ∑ e : Fin 2048, U m c (ix2 R e) * W m c (ix2 e J) = _
  rw [W_eq, hw, show U m c = u from (V_main_arg0 m c).trans hu]
  refine Finset.sum_congr rfl fun e _ => ?_
  rw [cut_at]

end Cert.Proof.Keys
-- ==== Proof.Vals.lean ====
/-
  The projection to the values, its result transposed: what a point leaves, the result against the plain product.
-/
module

public import proofs.«01_k».proof.Proof.Gen.Kernel4Ideal.Value
public import Idealize.ShloMosaic.Lib.Pipeline.ValueKit
public import Idealize.ShloMosaic.Lib.Pointwise
public import Idealize.ShloMosaic.Lib.Tactic

@[expose] public section

noncomputable section

namespace Cert.Proof.Vals

open Cert.Kernel4Ideal Cert.Kernel4Ideal.Gen
open Idealize.ShloMosaic Idealize.ShloMosaic.TcCoe Idealize.SL.Sem

theorem off_zero : (![0, 0] : Fin 2 → Nat) = fun _ => 0 := funext fun a => by fin_cases a <;> rfl

theorem pay_at (w : Vec Ideal S1024x2048 .bf16) (x : Vec Ideal S2048x2048 .bf16) (j : Fin 1024) (r : Fin 2048) :
    k0_pay1 (F := Ideal) w x (ix2 j r) = ∑ e : Fin 2048, w (ix2 j e) * x (ix2 r e) := by
  pointwise [k0_pay1]

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)

variable (m : (ℓ : Loc nD τ sig) → Buf (Elt Ideal) ℓ) (c : Dev nD)

/-- The rows. -/
def U : FVec Ideal S32768x2048 .bf16 := V m c main_arg0
/-- The weights, as the host cuts and turns them. -/
def W : FVec Ideal S1024x2048 .bf16 := V m c main_v3

/-- The product of the two. -/
def G : FVec Ideal S1024x32768 .bf16 := fun y => ∑ e : Fin 2048, W m c (ix2 (y 0) e) * U m c (ix2 (y 1) e)

theorem cols_at (t : Fin cfg0.N) (j : Fin 1024) (e : Fin 2048) (J : Fin 1024) (hJ : J.1 = j.1) : iblk m c 0 t (ix2 j e) = W m c (ix2 J e) := by
  obtain ⟨e0, e1⟩ := idx0 t
  refine congrArg (V m c main_v3) (funext fun a => Fin.ext ?_)
  fin_cases a
  · show win0_0.index t (0 : Fin 2) * 1024 + 1 * j.1 = J.1
    omega
  · show win0_0.index t (1 : Fin 2) * 2048 + 1 * e.1 = e.1
    omega

theorem rows_at (t : Fin cfg0.N) (r e : Fin 2048) (R : Fin 32768) (hR : R.1 = 2048 * t.val + r.1) :
    iblk m c 1 t (ix2 r e) = U m c (ix2 R e) := by
  obtain ⟨e0, e1⟩ := idx1 t
  refine congrArg (V m c main_arg0) (funext fun a => Fin.ext ?_)
  fin_cases a
  · show win0_1.index t (0 : Fin 2) * 2048 + 1 * r.1 = R.1
    omega
  · show win0_1.index t (1 : Fin 2) * 2048 + 1 * e.1 = e.1
    omega

/-- What a point leaves at a place of its block. -/
theorem block_at (t : Fin cfg0.N) (j : Fin 1024) (r : Fin 2048) (J : Fin 1024) (R : Fin 32768) (hJ : J.1 = j.1) (hR : R.1 = 2048 * t.val + r.1) :
    k0_pay1 (F := Ideal) (iblk m c 0 t) (iblk m c 1 t) (ix2 j r) = G m c (ix2 J R) := by
  refine (pay_at (iblk m c 0 t) (iblk m c 1 t) j r).trans (Finset.sum_congr rfl fun e _ => ?_)
  exact congrArg₂ (fun a b => a * b) (cols_at m c t j e J hJ) (rows_at m c t r e R hR)

theorem body_eq (w : Vec Ideal S1024x2048 .bf16) (x : Vec Ideal S2048x2048 .bf16) : out0_2 w x = k0_pay1 w x := by
  unfold out0_2
  rw [View.canon_unit_zero off_zero]
  simp only [View.ld_unit_zero (S := S2048x2048) off_zero, View.ld_unit_zero (S := S1024x2048) off_zero]

/-- The array the call leaves. -/
theorem arr_eq : (dats m 0 c).arrAt 2 cfg0.N = G m c := by
  refine (dats m 0 c).arrAt_eq_of_covers 2 _ (by decide +kernel) fun t hf y => ?_
  obtain ⟨e0, e1⟩ := idx2 t
  obtain ⟨j, r, rfl⟩ : ∃ (j : Fin 1024) (r : Fin 2048), y = ix2 j r := ⟨y 0, y 1, funext fun a => by fin_cases a <;> rfl⟩
  blk_simp
  rw [after0_2, body_eq]
  refine (block_at m c t j r ((win0_2.blk t).view.emb (ix2 j r) 0) ((win0_2.blk t).view.emb (ix2 j r) 1) ?_ ?_).trans ?_
  · show win0_2.index t (0 : Fin 2) * 1024 + 1 * j.1 = _
    omega
  · show win0_2.index t (1 : Fin 2) * 2048 + 1 * r.1 = _
    omega
  · rfl

/-- The column of the input weights that row `J` of the result takes. -/
def col (J : Fin 1024) : Fin 8192 := ⟨2048 + J.1, by omega⟩

theorem cut_at (w : FVec Ideal S1x2048x8192 .f32) (J : Fin 1024) (e : Fin 2048) :
    (truncf .bf16 (transpose S1024x2048 [1, 0] (extractStridedSlice S2048x1024 ![0, 2048] (shapeCast S2048x8192 w shapeCasts_S1x2048x8192_S2048x8192) slices_S2048x8192_S2048x1024_0_2048) transposes_S2048x1024_S1024x2048_1_0) bitsLt_bf16_f32 : FVec Ideal S1024x2048 .bf16) (ix2 J e)
      = w (ix3 0 e (col J)) := by
  pointwise
  rfl

theorem W_eq : W m c = (truncf .bf16 (transpose S1024x2048 [1, 0] (extractStridedSlice S2048x1024 ![0, 2048] (shapeCast S2048x8192 (m (c.tc.loc main_arg1) : FVec Ideal S1x2048x8192 .f32) shapeCasts_S1x2048x8192_S2048x8192) slices_S2048x8192_S2048x1024_0_2048) transposes_S2048x1024_S1024x2048_1_0) bitsLt_bf16_f32 : FVec Ideal S1024x2048 .bf16) := by
  unfold W Gen.V hostOps0
  after_results_simp
  rfl

/-- The call's result in coordinates. -/
theorem out_at (u : FVec Ideal S32768x2048 .bf16) (w : FVec Ideal S1x2048x8192 .f32)
    (hu : m (c.tc.loc main_arg0) = u) (hw : m (c.tc.loc main_arg1) = w) (J : Fin 1024) (R : Fin 32768) :
    (dats m 0 c).arrAt 2 cfg0.N (ix2 J R) = ∑ e : Fin 2048, u (ix2 R e) * w (ix3 0 e (col J)) := by
  rw [arr_eq]
  show ∑ e : Fin 2048, W m c (ix2 J e) * U m c (ix2 R e) = _
  rw [W_eq, hw, show U m c = u from (V_main_arg0 m c).trans hu]
  refine Finset.sum_congr rfl fun e _ => ?_
  rw [cut_at, mul_comm]

end Cert.Proof.Vals
-- ==== Proof.Rest.lean ====
/-
  The projection to the gates and the pooling mixer: what a point leaves, the result against the plain product.
-/
module

public import proofs.«01_k».proof.Proof.Gen.Kernel5Ideal.Value
public import Idealize.ShloMosaic.Lib.Pipeline.ValueKit
public import Idealize.ShloMosaic.Lib.Pointwise
public import Idealize.ShloMosaic.Lib.Tactic

@[expose] public section

noncomputable section

namespace Cert.Proof.Rest

open Cert.Kernel5Ideal Cert.Kernel5Ideal.Gen
open Idealize.ShloMosaic Idealize.ShloMosaic.TcCoe Idealize.SL.Sem

theorem off_zero : (![0, 0] : Fin 2 → Nat) = fun _ => 0 := funext fun a => by fin_cases a <;> rfl

theorem pay_at (x : Vec Ideal S2048x2048 .bf16) (w : Vec Ideal S2048x1024 .bf16) (r : Fin 2048) (j : Fin 1024) :
    k0_pay1 (F := Ideal) x w (ix2 r j) = ∑ e : Fin 2048, x (ix2 r e) * w (ix2 e j) := by
  pointwise [k0_pay1]

theorem idx0 : ∀ t : Fin cfg0.N, win0_0.index t (0 : Fin 2) = t.val / 5 ∧ win0_0.index t (1 : Fin 2) = 0 := (by decide +kernel : ∀ t : Fin grid0.N, _)
theorem idx1 : ∀ t : Fin cfg0.N, win0_1.index t (0 : Fin 2) = 0 ∧ win0_1.index t (1 : Fin 2) = t.val % 5 := (by decide +kernel : ∀ t : Fin grid0.N, _)
theorem idx2 : ∀ t : Fin cfg0.N, win0_2.index t (0 : Fin 2) = t.val / 5 ∧ win0_2.index t (1 : Fin 2) = t.val % 5 := (by decide +kernel : ∀ t : Fin grid0.N, _)

variable (m : (ℓ : Loc nD τ sig) → Buf (Elt Ideal) ℓ) (c : Dev nD)

/-- The rows. -/
def U : FVec Ideal S32768x2048 .bf16 := V m c main_arg0
/-- The weights, as the host cuts them. -/
def W : FVec Ideal S2048x5120 .bf16 := V m c main_v4

/-- The product of the two. -/
def G : FVec Ideal S32768x5120 .f32 := fun y => ∑ e : Fin 2048, U m c (ix2 (y 0) e) * W m c (ix2 e (y 1))

theorem rows_at (t : Fin cfg0.N) (r e : Fin 2048) (R : Fin 32768) (hR : R.1 = 2048 * (t.val / 5) + r.1) :
    iblk m c 0 t (ix2 r e) = U m c (ix2 R e) := by
  obtain ⟨e0, e1⟩ := idx0 t
  refine congrArg (V m c main_arg0) (funext fun a => Fin.ext ?_)
  fin_cases a
  · show win0_0.index t (0 : Fin 2) * 2048 + 1 * r.1 = R.1
    omega
  · show win0_0.index t (1 : Fin 2) * 2048 + 1 * e.1 = e.1
    omega

theorem cols_at (t : Fin cfg0.N) (e : Fin 2048) (j : Fin 1024) (J : Fin 5120) (hJ : J.1 = 1024 * (t.val % 5) + j.1) :
    iblk m c 1 t (ix2 e j) = W m c (ix2 e J) := by
  obtain ⟨e0, e1⟩ := idx1 t
  refine congrArg (V m c main_v4) (funext fun a => Fin.ext ?_)
  fin_cases a
  · show win0_1.index t (0 : Fin 2) * 2048 + 1 * e.1 = e.1
    omega
  · show win0_1.index t (1 : Fin 2) * 1024 + 1 * j.1 = J.1
    omega

/-- What a point leaves at a place of its block. -/
theorem block_at (t : Fin cfg0.N) (r : Fin 2048) (j : Fin 1024) (R : Fin 32768) (J : Fin 5120)
    (hR : R.1 = 2048 * (t.val / 5) + r.1) (hJ : J.1 = 1024 * (t.val % 5) + j.1) :
    k0_pay1 (F := Ideal) (iblk m c 0 t) (iblk m c 1 t) (ix2 r j) = G m c (ix2 R J) := by
  refine (pay_at (iblk m c 0 t) (iblk m c 1 t) r j).trans (Finset.sum_congr rfl fun e _ => ?_)
  exact congrArg₂ (fun a b => a * b) (rows_at m c t r e R hR) (cols_at m c t e j J hJ)

theorem body_eq (x : Vec Ideal S2048x2048 .bf16) (w : Vec Ideal S2048x1024 .bf16) : out0_2 x w = k0_pay1 x w := by
  unfold out0_2
  rw [View.canon_unit_zero off_zero]
  simp only [View.ld_unit_zero (S := S2048x2048) off_zero, View.ld_unit_zero (S := S2048x1024) off_zero]

/-- The array the call leaves. -/
theorem arr_eq : (dats m 0 c).arrAt 2 cfg0.N = G m c := by
  refine (dats m 0 c).arrAt_eq_of_covers 2 _ (by decide +kernel) fun t hf y => ?_
  obtain ⟨e0, e1⟩ := idx2 t
  obtain ⟨r, j, rfl⟩ : ∃ (r : Fin 2048) (j : Fin 1024), y = ix2 r j := ⟨y 0, y 1, funext fun a => by fin_cases a <;> rfl⟩
  blk_simp
  rw [after0_2, body_eq]
  refine (block_at m c t r j ((win0_2.blk t).view.emb (ix2 r j) 0) ((win0_2.blk t).view.emb (ix2 r j) 1) ?_ ?_).trans ?_
  · show win0_2.index t (0 : Fin 2) * 2048 + 1 * r.1 = _
    omega
  · show win0_2.index t (1 : Fin 2) * 1024 + 1 * j.1 = _
    omega
  · rfl

/-- The column of the input weights that column `J` of the result takes. -/
def col (J : Fin 5120) : Fin 8192 := if h : J.1 < 4096 then ⟨4096 + J.1, by omega⟩ else ⟨J.1 - 1024, by omega⟩

theorem cut_at (w : FVec Ideal S1x2048x8192 .f32) (e : Fin 2048) (J : Fin 5120) :
    (truncf .bf16 (concatenate S2048x5120 1
      [⟨S2048x4096, (extractStridedSlice S2048x4096 ![0, 4096] (shapeCast S2048x8192 w shapeCasts_S1x2048x8192_S2048x8192) slices_S2048x8192_S2048x4096_0_4096 : FVec Ideal S2048x4096 .f32)⟩,
       ⟨S2048x1024, (extractStridedSlice S2048x1024 ![0, 3072] (shapeCast S2048x8192 w shapeCasts_S1x2048x8192_S2048x8192) slices_S2048x8192_S2048x1024_0_3072 : FVec Ideal S2048x1024 .f32)⟩]
      concatenates_S2048x4096_S2048x1024_S2048x5120_d1) bitsLt_bf16_f32 : FVec Ideal S2048x5120 .bf16) (ix2 e J) = w (ix3 0 e (col J)) := by
  have key : ∀ a : Fin 8192, a.1 = (col J).1 → w (ix3 0 e a) = w (ix3 0 e (col J)) := fun a h => congrArg (fun q => w (ix3 0 e q)) (Fin.ext h)
  have e1 : J.1 < 4096 → (col J).1 = 4096 + J.1 := fun h => by rw [col, dif_pos h]
  have e2 : ¬J.1 < 4096 → (col J).1 = J.1 - 1024 := fun h => by rw [col, dif_neg h]
  pointwise
  split_ifs <;> refine key _ ?_ <;> dsimp only <;> omega

theorem W_eq : W m c = (truncf .bf16 (concatenate S2048x5120 1
      [⟨S2048x4096, (extractStridedSlice S2048x4096 ![0, 4096] (shapeCast S2048x8192 (m (c.tc.loc main_arg1) : FVec Ideal S1x2048x8192 .f32) shapeCasts_S1x2048x8192_S2048x8192) slices_S2048x8192_S2048x4096_0_4096 : FVec Ideal S2048x4096 .f32)⟩,
       ⟨S2048x1024, (extractStridedSlice S2048x1024 ![0, 3072] (shapeCast S2048x8192 (m (c.tc.loc main_arg1) : FVec Ideal S1x2048x8192 .f32) shapeCasts_S1x2048x8192_S2048x8192) slices_S2048x8192_S2048x1024_0_3072 : FVec Ideal S2048x1024 .f32)⟩]
      concatenates_S2048x4096_S2048x1024_S2048x5120_d1) bitsLt_bf16_f32 : FVec Ideal S2048x5120 .bf16) := by
  unfold W Gen.V hostOps0
  after_results_simp
  rfl

/-- The call's result in coordinates. -/
theorem out_at (u : FVec Ideal S32768x2048 .bf16) (w : FVec Ideal S1x2048x8192 .f32)
    (hu : m (c.tc.loc main_arg0) = u) (hw : m (c.tc.loc main_arg1) = w) (R : Fin 32768) (J : Fin 5120) :
    (dats m 0 c).arrAt 2 cfg0.N (ix2 R J) = ∑ e : Fin 2048, u (ix2 R e) * w (ix3 0 e (col J)) := by
  rw [arr_eq]
  show ∑ e : Fin 2048, U m c (ix2 R e) * W m c (ix2 e J) = _
  rw [W_eq, hw, show U m c = u from (V_main_arg0 m c).trans hu]
  refine Finset.sum_congr rfl fun e _ => ?_
  rw [cut_at]

end Cert.Proof.Rest
-- ==== Proof.Gate.lean ====
/-
  A row of the gated merge, over the extended reals.
-/
module

public import Idealize.ShloMosaic.Lib.Pointwise

@[expose] public section

noncomputable section

namespace Cert.Proof.Gate

open Idealize.ShloMosaic

/-- The two mixers' rows, each projected and gated, added. -/
def merged (a p : Fin 1024 → EReal) (ga gp : Fin 2048 → EReal) (wa wp : Fin 1024 → Fin 2048 → EReal) (k : Fin 2048) : EReal :=
  Ideal.logistic (ga k) * (∑ e : Fin 1024, a e * wa e k) + Ideal.logistic (gp k) * ∑ e : Fin 1024, p e * wp e k

/-- The row plus the merged row's product with the last weights. -/
def out (a p : Fin 1024 → EReal) (ga gp h : Fin 2048 → EReal) (wa wp : Fin 1024 → Fin 2048 → EReal) (wo : Fin 2048 → Fin 2048 → EReal) (d : Fin 2048) : EReal :=
  h d + ∑ k : Fin 2048, merged a p ga gp wa wp k * wo k d

end Cert.Proof.Gate
-- ==== Proof.Mix.lean ====
/-
  The gated merge: what a point leaves, the result in coordinates.
-/
module

public import proofs.«01_k».proof.Proof.Gate
public import proofs.«01_k».proof.Proof.Gen.Kernel6Ideal.Value
public import Idealize.ShloMosaic.Lib.Pipeline.ValueKit
public import Idealize.ShloMosaic.Lib.Tactic

@[expose] public section

noncomputable section

namespace Cert.Proof.Mix

open Cert.Kernel6Ideal Cert.Kernel6Ideal.Gen
open Idealize.ShloMosaic Idealize.ShloMosaic.TcCoe Idealize.SL.Sem

theorem pay_at (a wa p wp ga gp h wo) (r : Fin 256) (d : Fin 2048) :
    k0_pay1 (F := Ideal) a wa p wp ga gp h wo (ix2 r d)
      = Gate.out (fun e => a (ix2 r e)) (fun e => p (ix2 r e)) (fun k => ga (ix2 r k)) (fun k => gp (ix2 r k)) (fun k => h (ix2 r k))
          (fun e k => wa (ix2 e k)) (fun e k => wp (ix2 e k)) (fun k d => wo (ix2 k d)) d := by
  unfold Gate.out Gate.merged
  pointwise [k0_pay1]

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 1 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)

variable (m : (ℓ : Loc nD τ sig) → Buf (Elt Ideal) ℓ) (c : Dev nD)

/-- The attention's rows. -/
def A : FVec Ideal S32768x1024 .bf16 := V m c main_arg0
/-- The pooling mixer's rows. -/
def P : FVec Ideal S32768x1024 .bf16 := V m c main_arg1
/-- The gates, before the logistic function. -/
def Z : FVec Ideal S32768x5120 .f32 := V m c main_arg2
/-- The rows that the merge is added to. -/
def H : FVec Ideal S32768x2048 .f32 := V m c main_arg3
/-- The weights. -/
def WA : FVec Ideal S1024x2048 .bf16 := V m c main_v1
/-- The weights. -/
def WP : FVec Ideal S1024x2048 .bf16 := V m c main_v3
/-- The weights. -/
def WO : FVec Ideal S2048x2048 .bf16 := V m c main_v5

/-- The first gate's column. -/
def lo (k : Fin 2048) : Fin 5120 := ⟨k.1, by omega⟩
/-- The second gate's column. -/
def hi (k : Fin 2048) : Fin 5120 := ⟨2048 + k.1, by omega⟩

/-- The result. -/
def G : FVec Ideal S32768x2048 .f32 := fun y =>
  Gate.out (fun e => A m c (ix2 (y 0) e)) (fun e => P m c (ix2 (y 0) e)) (fun k => Z m c (ix2 (y 0) (lo k))) (fun k => Z m c (ix2 (y 0) (hi k)))
    (fun k => H m c (ix2 (y 0) k)) (fun e k => WA m c (ix2 e k)) (fun e k => WP m c (ix2 e k)) (fun k d => WO m c (ix2 k d)) (y 1)

theorem a_at (t : Fin cfg0.N) (r : Fin 256) (e : Fin 1024) (R : Fin 32768) (hR : R.1 = 256 * t.val + r.1) : iblk m c 0 t (ix2 r e) = A m c (ix2 R e) := by
  obtain ⟨e0, e1⟩ := idx0 t
  refine congrArg (V m c main_arg0) (funext fun a => Fin.ext ?_)
  fin_cases a
  · show win0_0.index t (0 : Fin 2) * 256 + 1 * r.1 = R.1
    omega
  · show win0_0.index t (1 : Fin 2) * 1024 + 1 * e.1 = e.1
    omega

theorem p_at (t : Fin cfg0.N) (r : Fin 256) (e : Fin 1024) (R : Fin 32768) (hR : R.1 = 256 * t.val + r.1) : iblk m c 1 t (ix2 r e) = P m c (ix2 R e) := by
  obtain ⟨e0, e1⟩ := idx1 t
  refine congrArg (V m c main_arg1) (funext fun a => Fin.ext ?_)
  fin_cases a
  · show win0_1.index t (0 : Fin 2) * 256 + 1 * r.1 = R.1
    omega
  · show win0_1.index t (1 : Fin 2) * 1024 + 1 * e.1 = e.1
    omega

theorem ga_at (t : Fin cfg0.N) (r : Fin 256) (k : Fin 2048) (R : Fin 32768) (hR : R.1 = 256 * t.val + r.1) : X0_2 m c t (ix2 r k) = Z m c (ix2 R (lo k)) := by
  obtain ⟨e0, e1⟩ := idx2 t
  unfold X0_2 Pipeline.Window.fill
  rw [dif_pos (moved0_2 t _)]
  refine congrArg (V m c main_arg2) (funext fun a => Fin.ext ?_)
  fin_cases a
  · show win0_2.index t (0 : Fin 2) * 256 + 1 * r.1 = R.1
    omega
  · show win0_2.index t (1 : Fin 2) * 2048 + 1 * k.1 = k.1
    omega

theorem gp_at (t : Fin cfg0.N) (r : Fin 256) (k : Fin 2048) (R : Fin 32768) (hR : R.1 = 256 * t.val + r.1) : X0_3 m c t (ix2 r k) = Z m c (ix2 R (hi k)) := by
  obtain ⟨e0, e1⟩ := idx3 t
  unfold X0_3 Pipeline.Window.fill
  rw [dif_pos (moved0_3 t _)]
  refine congrArg (V m c main_arg2) (funext fun a => Fin.ext ?_)
  fin_cases a
  · show win0_3.index t (0 : Fin 2) * 256 + 1 * r.1 = R.1
    omega
  · show win0_3.index t (1 : Fin 2) * 2048 + 1 * k.1 = 2048 + k.1
    omega

theorem h_at (t : Fin cfg0.N) (r : Fin 256) (k : Fin 2048) (R : Fin 32768) (hR : R.1 = 256 * t.val + r.1) : iblk m c 4 t (ix2 r k) = H m c (ix2 R k) := by
  obtain ⟨e0, e1⟩ := idx4 t
  refine congrArg (V m c main_arg3) (funext fun a => Fin.ext ?_)
  fin_cases a
  · show win0_4.index t (0 : Fin 2) * 256 + 1 * r.1 = R.1
    omega
  · show win0_4.index t (1 : Fin 2) * 2048 + 1 * k.1 = k.1
    omega

theorem wa_at (t : Fin cfg0.N) (e : Fin 1024) (k : Fin 2048) : iblk m c 5 t (ix2 e k) = WA m c (ix2 e k) := by
  obtain ⟨e0, e1⟩ := idx5 t
  refine congrArg (V m c main_v1) (funext fun a => Fin.ext ?_)
  fin_cases a
  · show win0_5.index t (0 : Fin 2) * 1024 + 1 * e.1 = e.1
    omega
  · show win0_5.index t (1 : Fin 2) * 2048 + 1 * k.1 = k.1
    omega

theorem wp_at (t : Fin cfg0.N) (e : Fin 1024) (k : Fin 2048) : iblk m c 6 t (ix2 e k) = WP m c (ix2 e k) := by
  obtain ⟨e0, e1⟩ := idx6 t
  refine congrArg (V m c main_v3) (funext fun a => Fin.ext ?_)
  fin_cases a
  · show win0_6.index t (0 : Fin 2) * 1024 + 1 * e.1 = e.1
    omega
  · show win0_6.index t (1 : Fin 2) * 2048 + 1 * k.1 = k.1
    omega

theorem wo_at (t : Fin cfg0.N) (k d : Fin 2048) : iblk m c 7 t (ix2 k d) = WO m c (ix2 k d) := by
  obtain ⟨e0, e1⟩ := idx7 t
  refine congrArg (V m c main_v5) (funext fun a => Fin.ext ?_)
  fin_cases a
  · show win0_7.index t (0 : Fin 2) * 2048 + 1 * k.1 = k.1
    omega
  · show win0_7.index t (1 : Fin 2) * 2048 + 1 * d.1 = d.1
    omega

/-- What a point leaves at a place of its block. -/
theorem block_at (t : Fin cfg0.N) (r : Fin 256) (d : Fin 2048) (R : Fin 32768) (D : Fin 2048) (hR : R.1 = 256 * t.val + r.1) (hD : D.1 = d.1) :
    k0_pay1 (F := Ideal) (iblk m c 0 t) (iblk m c 5 t) (iblk m c 1 t) (iblk m c 6 t) (X0_2 m c t) (X0_3 m c t) (iblk m c 4 t) (iblk m c 7 t) (ix2 r d)
      = G m c (ix2 R D) := by
  obtain rfl : D = d := Fin.ext hD
  refine (pay_at (iblk m c 0 t) (iblk m c 5 t) (iblk m c 1 t) (iblk m c 6 t) (X0_2 m c t) (X0_3 m c t) (iblk m c 4 t) (iblk m c 7 t) r D).trans ?_
  rw [funext fun e => a_at m c t r e R hR, funext fun e => p_at m c t r e R hR, funext fun k => ga_at m c t r k R hR, funext fun k => gp_at m c t r k R hR,
    funext fun k => h_at m c t r k R hR, funext fun e => funext fun k => wa_at m c t e k, funext fun e => funext fun k => wp_at m c t e k,
    funext fun k => funext fun d => wo_at m c t k d]
  rfl

theorem body_eq (t : Fin cfg0.N) : outsAt0 m c t
    = k0_pay1 (iblk m c 0 t) (iblk m c 5 t) (iblk m c 1 t) (iblk m c 6 t) (X0_2 m c t) (X0_3 m c t) (iblk m c 4 t) (iblk m c 7 t) := by
  unfold outsAt0
  frame_out

/-- The array the call leaves. -/
theorem arr_eq : (dats m 0 c).arrAt 8 cfg0.N = G m c := by
  refine (dats m 0 c).arrAt_eq_of_covers 8 _ (by decide +kernel) fun t hf y => ?_
  obtain ⟨e0, e1⟩ := idx8 t
  obtain ⟨r, d, rfl⟩ : ∃ (r : Fin 256) (d : Fin 2048), y = ix2 r d := ⟨y 0, y 1, funext fun a => by fin_cases a <;> rfl⟩
  blk_simp
  rw [after0_8, body_eq]
  refine (block_at m c t r d ((win0_8.blk t).view.emb (ix2 r d) 0) ((win0_8.blk t).view.emb (ix2 r d) 1) ?_ ?_).trans ?_
  · show win0_8.index t (0 : Fin 2) * 256 + 1 * r.1 = _
    omega
  · show win0_8.index t (1 : Fin 2) * 2048 + 1 * d.1 = _
    omega
  · rfl

theorem tall_at (w : FVec Ideal S1x1024x2048 .f32) (e : Fin 1024) (k : Fin 2048) :
    (truncf .bf16 (shapeCast S1024x2048 w shapeCasts_S1x1024x2048_S1024x2048) bitsLt_bf16_f32 : FVec Ideal S1024x2048 .bf16) (ix2 e k) = w (ix3 0 e k) := by
  pointwise
theorem square_at (w : FVec Ideal S1x2048x2048 .f32) (e k : Fin 2048) :
    (truncf .bf16 (shapeCast S2048x2048 w shapeCasts_S1x2048x2048_S2048x2048) bitsLt_bf16_f32 : FVec Ideal S2048x2048 .bf16) (ix2 e k) = w (ix3 0 e k) := by
  pointwise

theorem WA_eq : WA m c
    = (truncf .bf16 (shapeCast S1024x2048 (m (c.tc.loc main_arg4) : FVec Ideal S1x1024x2048 .f32) shapeCasts_S1x1024x2048_S1024x2048) bitsLt_bf16_f32 : FVec Ideal S1024x2048 .bf16) := by
  unfold WA Gen.V hostOps0
  after_results_simp
  rfl
theorem WP_eq : WP m c
    = (truncf .bf16 (shapeCast S1024x2048 (m (c.tc.loc main_arg5) : FVec Ideal S1x1024x2048 .f32) shapeCasts_S1x1024x2048_S1024x2048) bitsLt_bf16_f32 : FVec Ideal S1024x2048 .bf16) := by
  unfold WP Gen.V hostOps0
  after_results_simp
  rfl
theorem WO_eq : WO m c
    = (truncf .bf16 (shapeCast S2048x2048 (m (c.tc.loc main_arg6) : FVec Ideal S1x2048x2048 .f32) shapeCasts_S1x2048x2048_S2048x2048) bitsLt_bf16_f32 : FVec Ideal S2048x2048 .bf16) := by
  unfold WO Gen.V hostOps0
  after_results_simp
  rfl

/-- The call's result in coordinates. -/
theorem out_at (a p : FVec Ideal S32768x1024 .bf16) (z : FVec Ideal S32768x5120 .f32) (h : FVec Ideal S32768x2048 .f32)
    (wa wp : FVec Ideal S1x1024x2048 .f32) (wo : FVec Ideal S1x2048x2048 .f32)
    (ha : m (c.tc.loc main_arg0) = a) (hp : m (c.tc.loc main_arg1) = p) (hz : m (c.tc.loc main_arg2) = z) (hh : m (c.tc.loc main_arg3) = h)
    (hwa : m (c.tc.loc main_arg4) = wa) (hwp : m (c.tc.loc main_arg5) = wp) (hwo : m (c.tc.loc main_arg6) = wo) (R : Fin 32768) (d : Fin 2048) :
    (dats m 0 c).arrAt 8 cfg0.N (ix2 R d)
      = Gate.out (fun e => a (ix2 R e)) (fun e => p (ix2 R e)) (fun k => z (ix2 R (lo k))) (fun k => z (ix2 R (hi k))) (fun k => h (ix2 R k))
          (fun e k => wa (ix3 0 e k)) (fun e k => wp (ix3 0 e k)) (fun k d => wo (ix3 0 k d)) d := by
  rw [arr_eq]
  show Gate.out (fun e => A m c (ix2 R e)) (fun e => P m c (ix2 R e)) (fun k => Z m c (ix2 R (lo k))) (fun k => Z m c (ix2 R (hi k)))
    (fun k => H m c (ix2 R k)) (fun e k => WA m c (ix2 e k)) (fun e k => WP m c (ix2 e k)) (fun k d => WO m c (ix2 k d)) d = _
  rw [WA_eq, WP_eq, WO_eq, hwa, hwp, hwo, show A m c = a from (V_main_arg0 m c).trans ha, show P m c = p from (V_main_arg1 m c).trans hp,
    show Z m c = z from (V_main_arg2 m c).trans hz, show H m c = h from (V_main_arg3 m c).trans hh]
  simp only [tall_at, square_at]

end Cert.Proof.Mix
-- ==== Proof.Refr3.lean ====
/-
  The reference of the projection to the queries and the keys, read in coordinates.
-/
module

public import proofs.«01_k».proof.Proof.Gen.Reference3Ideal.Run
public import Idealize.ShloMosaic.Lib.Pointwise

@[expose] public section

noncomputable section

namespace Cert.Proof.Refr3

open Cert.Reference3Ideal Cert.Reference3Ideal.Gen
open Idealize.ShloMosaic Idealize.ShloMosaic.TcCoe Idealize.ShloMosaic.StableHlo Idealize.SL.Sem

/-- The product with the input weights. -/
def proj (u : FVec Ideal S32768x2048 .bf16) (w : FVec Ideal S1x2048x8192 .f32) : FVec Ideal S32768x8192 .f32 :=
  Host.dotGeneral dot_S32768x2048_S2048x8192_S32768x8192_1_0_0_1_n_n none (extf .f32 u bitsLt_bf16_f32) (shapeCast _ w shapeCasts_S1x2048x8192_S2048x8192)

theorem proj_at (u : FVec Ideal S32768x2048 .bf16) (w : FVec Ideal S1x2048x8192 .f32) (r : Fin 32768) (k : Fin 8192) :
    proj u w (ix2 r k) = ∑ e : Fin 2048, u (ix2 r e) * w (ix3 0 e k) := by
  pointwise [proj]

/-- The queries beside the keys. -/
def keys (z : FVec Ideal S32768x8192 .f32) : FVec Ideal S32768x2048 .bf16 :=
  truncf .bf16 (concatenate S32768x2048 1 [⟨S32768x1024, (extractStridedSlice S32768x1024 ![0, 0] z slices_S32768x8192_S32768x1024_0_0)⟩, ⟨S32768x1024, (extractStridedSlice S32768x1024 ![0, 1024] z slices_S32768x8192_S32768x1024_0_1024)⟩] concatenates_S32768x1024_S32768x1024_S32768x2048_d1) bitsLt_bf16_f32

theorem keys_at (z : FVec Ideal S32768x8192 .f32) (r : Fin 32768) (k : Fin 2048) (K : Fin 8192) (hK : K.1 = k.1) : keys z (ix2 r k) = z (ix2 r K) := by
  pointwise [keys]
  split
  · refine congrArg z (funext fun a => Fin.ext ?_)
    fin_cases a
    · rfl
    · exact hK.symm
  · refine congrArg z (funext fun a => Fin.ext ?_)
    fin_cases a
    · rfl
    · show 1024 + (k.1 - 1024) = K.1
      omega

variable (m : (ℓ : Loc nD τ sig) → Buf (Elt Ideal) ℓ) (c : Dev nD)

/-- What the reference's result holds at the end. -/
def Ends (s : MemSt nD τ sig (Elt Ideal)) : Prop :=
  s.mem ((c.tc : Thread nD τ).loc main_v10) = keys (proj (m ((c.tc : Thread nD τ).loc main_arg0)) (m ((c.tc : Thread nD τ).loc main_arg1)))
  ∧ s.mem ((c.tc : Thread nD τ).loc main_arg0) = m ((c.tc : Thread nD τ).loc main_arg0)
  ∧ s.mem ((c.tc : Thread nD τ).loc main_arg1) = m ((c.tc : Thread nD τ).loc main_arg1)

set_option maxRecDepth 8192 in
theorem run_ref (ρ : Dev nD → PrngReg) :
    θ_run defs (onTc (τ := τ) (main (F := Ideal))) ⟨m, fun _ => 0, ρ⟩ (fun r => (∀ c, Ends m c r.2) ∧ r.2.sem = fun _ => 0) :=
  (θ_run defs _ _).mono (fun r h => ⟨fun c => h c, sem_eq_zero_of_no_sems (by decide) r.2⟩) (Value.run m ρ)

end Cert.Proof.Refr3
-- ==== Proof.Refr4.lean ====
/-
  The reference of the projection to the values, read in coordinates.
-/
module

public import proofs.«01_k».proof.Proof.Gen.Reference4Ideal.Run
public import Idealize.ShloMosaic.Lib.Pointwise

@[expose] public section

noncomputable section

namespace Cert.Proof.Refr4

open Cert.Reference4Ideal Cert.Reference4Ideal.Gen
open Idealize.ShloMosaic Idealize.ShloMosaic.TcCoe Idealize.ShloMosaic.StableHlo Idealize.SL.Sem

/-- The product with the input weights. -/
def proj (u : FVec Ideal S32768x2048 .bf16) (w : FVec Ideal S1x2048x8192 .f32) : FVec Ideal S32768x8192 .f32 :=
  Host.dotGeneral dot_S32768x2048_S2048x8192_S32768x8192_1_0_0_1_n_n none (extf .f32 u bitsLt_bf16_f32) (shapeCast _ w shapeCasts_S1x2048x8192_S2048x8192)

theorem proj_at (u : FVec Ideal S32768x2048 .bf16) (w : FVec Ideal S1x2048x8192 .f32) (r : Fin 32768) (k : Fin 8192) :
    proj u w (ix2 r k) = ∑ e : Fin 2048, u (ix2 r e) * w (ix3 0 e k) := by
  pointwise [proj]

/-- The values, transposed. -/
def vals (z : FVec Ideal S32768x8192 .f32) : FVec Ideal S1024x32768 .bf16 :=
  truncf .bf16 (transpose S1024x32768 [1, 0] (extractStridedSlice S32768x1024 ![0, 2048] z slices_S32768x8192_S32768x1024_0_2048) transposes_S32768x1024_S1024x32768_1_0) bitsLt_bf16_f32

theorem vals_at (z : FVec Ideal S32768x8192 .f32) (k : Fin 1024) (r : Fin 32768) : vals z (ix2 k r) = z (ix2 r (⟨2048 + k.1, by omega⟩ : Fin 8192)) := by
  pointwise [vals]

variable (m : (ℓ : Loc nD τ sig) → Buf (Elt Ideal) ℓ) (c : Dev nD)

/-- What the reference's result holds at the end. -/
def Ends (s : MemSt nD τ sig (Elt Ideal)) : Prop :=
  s.mem ((c.tc : Thread nD τ).loc main_v10) = vals (proj (m ((c.tc : Thread nD τ).loc main_arg0)) (m ((c.tc : Thread nD τ).loc main_arg1)))
  ∧ s.mem ((c.tc : Thread nD τ).loc main_arg0) = m ((c.tc : Thread nD τ).loc main_arg0)
  ∧ s.mem ((c.tc : Thread nD τ).loc main_arg1) = m ((c.tc : Thread nD τ).loc main_arg1)

set_option maxRecDepth 8192 in
theorem run_ref (ρ : Dev nD → PrngReg) :
    θ_run defs (onTc (τ := τ) (main (F := Ideal))) ⟨m, fun _ => 0, ρ⟩ (fun r => (∀ c, Ends m c r.2) ∧ r.2.sem = fun _ => 0) :=
  (θ_run defs _ _).mono (fun r h => ⟨fun c => h c, sem_eq_zero_of_no_sems (by decide) r.2⟩) (Value.run m ρ)

end Cert.Proof.Refr4
-- ==== Proof.Refr5.lean ====
/-
  The reference of the projection to the gates and the pooling mixer, read in coordinates.
-/
module

public import proofs.«01_k».proof.Proof.Gen.Reference5Ideal.Run
public import Idealize.ShloMosaic.Lib.Pointwise

@[expose] public section

noncomputable section

namespace Cert.Proof.Refr5

open Cert.Reference5Ideal Cert.Reference5Ideal.Gen
open Idealize.ShloMosaic Idealize.ShloMosaic.TcCoe Idealize.ShloMosaic.StableHlo Idealize.SL.Sem

/-- The product with the input weights. -/
def proj (u : FVec Ideal S32768x2048 .bf16) (w : FVec Ideal S1x2048x8192 .f32) : FVec Ideal S32768x8192 .f32 :=
  Host.dotGeneral dot_S32768x2048_S2048x8192_S32768x8192_1_0_0_1_n_n none (extf .f32 u bitsLt_bf16_f32) (shapeCast _ w shapeCasts_S1x2048x8192_S2048x8192)

theorem proj_at (u : FVec Ideal S32768x2048 .bf16) (w : FVec Ideal S1x2048x8192 .f32) (r : Fin 32768) (k : Fin 8192) :
    proj u w (ix2 r k) = ∑ e : Fin 2048, u (ix2 r e) * w (ix3 0 e k) := by
  pointwise [proj]

/-- The two gates beside the pooling mixer's input. -/
def rest (z : FVec Ideal S32768x8192 .f32) : FVec Ideal S32768x5120 .f32 :=
  concatenate S32768x5120 1 [⟨S32768x2048, (extractStridedSlice S32768x2048 ![0, 4096] z slices_S32768x8192_S32768x2048_0_4096 : FVec Ideal S32768x2048 .f32)⟩, ⟨S32768x2048, (extractStridedSlice S32768x2048 ![0, 6144] z slices_S32768x8192_S32768x2048_0_6144 : FVec Ideal S32768x2048 .f32)⟩, ⟨S32768x1024, (extractStridedSlice S32768x1024 ![0, 3072] z slices_S32768x8192_S32768x1024_0_3072 : FVec Ideal S32768x1024 .f32)⟩] concatenates_S32768x2048_S32768x2048_S32768x1024_S32768x5120_d1

theorem rest_at (z : FVec Ideal S32768x8192 .f32) (r : Fin 32768) (k : Fin 5120) (K : Fin 8192)
    (hK : K.1 = if k.1 < 4096 then 4096 + k.1 else k.1 - 1024) : rest z (ix2 r k) = z (ix2 r K) := by
  pointwise [rest]
  have e1 : k.1 < 4096 → K.1 = 4096 + k.1 := fun h => by rw [hK, if_pos h]
  have e2 : ¬k.1 < 4096 → K.1 = k.1 - 1024 := fun h => by rw [hK, if_neg h]
  have key : ∀ a : Fin 8192, a.1 = K.1 → z (ix2 r a) = z (ix2 r K) := fun a h => congrArg (fun q => z (ix2 r q)) (Fin.ext h)
  clear hK
  split_ifs <;> refine key _ ?_ <;> dsimp only <;> omega

variable (m : (ℓ : Loc nD τ sig) → Buf (Elt Ideal) ℓ) (c : Dev nD)

/-- What the reference's result holds at the end. -/
def Ends (s : MemSt nD τ sig (Elt Ideal)) : Prop :=
  s.mem ((c.tc : Thread nD τ).loc main_v9) = rest (proj (m ((c.tc : Thread nD τ).loc main_arg0)) (m ((c.tc : Thread nD τ).loc main_arg1)))
  ∧ s.mem ((c.tc : Thread nD τ).loc main_arg0) = m ((c.tc : Thread nD τ).loc main_arg0)
  ∧ s.mem ((c.tc : Thread nD τ).loc main_arg1) = m ((c.tc : Thread nD τ).loc main_arg1)

set_option maxRecDepth 8192 in
theorem run_ref (ρ : Dev nD → PrngReg) :
    θ_run defs (onTc (τ := τ) (main (F := Ideal))) ⟨m, fun _ => 0, ρ⟩ (fun r => (∀ c, Ends m c r.2) ∧ r.2.sem = fun _ => 0) :=
  (θ_run defs _ _).mono (fun r h => ⟨fun c => h c, sem_eq_zero_of_no_sems (by decide) r.2⟩) (Value.run m ρ)

end Cert.Proof.Refr5
-- ==== Proof.Refr6.lean ====
/-
  The reference of the gated merge, read in coordinates.
-/
module

public import proofs.«01_k».proof.Proof.Gen.Reference6Ideal.Run
public import proofs.«01_k».proof.Proof.Gate

@[expose] public section

noncomputable section

namespace Cert.Proof.Refr6

open Cert.Reference6Ideal Cert.Reference6Ideal.Gen
open Idealize.ShloMosaic Idealize.ShloMosaic.TcCoe Idealize.ShloMosaic.StableHlo Idealize.SL.Sem

/-- The logistic function, as the reference's operations make it. -/
def gate (x : FVec Ideal S32768x2048 .f32) : FVec Ideal S32768x2048 .f32 :=
  Host.divf (broadcastInDim S32768x2048 ![] bcast_S_S32768x2048 (constant S_ .f32 0x3F800000#32)) (addf (broadcastInDim S32768x2048 ![] bcast_S_S32768x2048 (constant S_ .f32 0x3F800000#32)) (Host.exp (Host.negf x)))

/-- A mixer's rows, projected. -/
def proj (a : FVec Ideal S32768x1024 .bf16) (w : FVec Ideal S1x1024x2048 .f32) : FVec Ideal S32768x2048 .f32 :=
  Host.dotGeneral dot_S32768x1024_S1024x2048_S32768x2048_1_0_0_1_n_n none (extf .f32 a bitsLt_bf16_f32) (shapeCast _ w shapeCasts_S1x1024x2048_S1024x2048)

/-- The rows plus the merged rows' product. -/
def added (h g : FVec Ideal S32768x2048 .f32) (w : FVec Ideal S1x2048x2048 .f32) : FVec Ideal S32768x2048 .f32 :=
  addf h (Host.dotGeneral dot_S32768x2048_S2048x2048_S32768x2048_1_0_0_1_n_n none g (shapeCast _ w shapeCasts_S1x2048x2048_S2048x2048))

theorem gate_at (x : FVec Ideal S32768x2048 .f32) (r : Fin 32768) (k : Fin 2048) : gate x (ix2 r k) = Ideal.logistic (x (ix2 r k)) := by
  pointwise [gate]
  rfl

theorem proj_at (a : FVec Ideal S32768x1024 .bf16) (w : FVec Ideal S1x1024x2048 .f32) (r : Fin 32768) (k : Fin 2048) :
    proj a w (ix2 r k) = ∑ e : Fin 1024, a (ix2 r e) * w (ix3 0 e k) := by
  pointwise [proj]

theorem added_at (h g : FVec Ideal S32768x2048 .f32) (w : FVec Ideal S1x2048x2048 .f32) (r : Fin 32768) (d : Fin 2048) :
    added h g w (ix2 r d) = h (ix2 r d) + ∑ k : Fin 2048, g (ix2 r k) * w (ix3 0 k d) := by
  pointwise [added]

theorem both_at (x y z w : FVec Ideal S32768x2048 .f32) (r : Fin 32768) (k : Fin 2048) :
    addf (mulf x y) (mulf z w) (ix2 r k) = x (ix2 r k) * y (ix2 r k) + z (ix2 r k) * w (ix2 r k) := by
  pointwise

theorem first_at (z : FVec Ideal S32768x5120 .f32) (r : Fin 32768) (k : Fin 2048) :
    extractStridedSlice S32768x2048 ![0, 0] z slices_S32768x5120_S32768x2048_0_0 (ix2 r k) = z (ix2 r (⟨k.1, by omega⟩ : Fin 5120)) := by
  pointwise

theorem second_at (z : FVec Ideal S32768x5120 .f32) (r : Fin 32768) (k : Fin 2048) :
    extractStridedSlice S32768x2048 ![0, 2048] z slices_S32768x5120_S32768x2048_0_2048 (ix2 r k) = z (ix2 r (⟨2048 + k.1, by omega⟩ : Fin 5120)) := by
  pointwise

/-- The reference's result. -/
def res (a p : FVec Ideal S32768x1024 .bf16) (z : FVec Ideal S32768x5120 .f32) (h : FVec Ideal S32768x2048 .f32)
    (wa wp : FVec Ideal S1x1024x2048 .f32) (wo : FVec Ideal S1x2048x2048 .f32) : FVec Ideal S32768x2048 .f32 :=
  added h (addf (mulf (gate (extractStridedSlice S32768x2048 ![0, 0] z slices_S32768x5120_S32768x2048_0_0)) (proj a wa))
    (mulf (gate (extractStridedSlice S32768x2048 ![0, 2048] z slices_S32768x5120_S32768x2048_0_2048)) (proj p wp))) wo

theorem res_at (a p : FVec Ideal S32768x1024 .bf16) (z : FVec Ideal S32768x5120 .f32) (h : FVec Ideal S32768x2048 .f32)
    (wa wp : FVec Ideal S1x1024x2048 .f32) (wo : FVec Ideal S1x2048x2048 .f32) (r : Fin 32768) (d : Fin 2048) :
    res a p z h wa wp wo (ix2 r d)
      = Gate.out (fun e => a (ix2 r e)) (fun e => p (ix2 r e)) (fun k => z (ix2 r (⟨k.1, by omega⟩ : Fin 5120))) (fun k => z (ix2 r (⟨2048 + k.1, by omega⟩ : Fin 5120)))
          (fun k => h (ix2 r k)) (fun e k => wa (ix3 0 e k)) (fun e k => wp (ix3 0 e k)) (fun k d => wo (ix3 0 k d)) d := by
  unfold res Gate.out Gate.merged
  rw [added_at]
  simp only [both_at, gate_at, proj_at, first_at, second_at]

variable (m : (ℓ : Loc nD τ sig) → Buf (Elt Ideal) ℓ) (c : Dev nD)

/-- What the reference's result holds at the end. -/
def Ends (s : MemSt nD τ sig (Elt Ideal)) : Prop :=
  s.mem ((c.tc : Thread nD τ).loc main_v26) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

set_option maxRecDepth 8192 in
theorem run_ref (ρ : Dev nD → PrngReg) :
    θ_run defs (onTc (τ := τ) (main (F := Ideal))) ⟨m, fun _ => 0, ρ⟩ (fun r => (∀ c, Ends m c r.2) ∧ r.2.sem = fun _ => 0) :=
  (θ_run defs _ _).mono (fun r h => ⟨fun c => h c, sem_eq_zero_of_no_sems (by decide) r.2⟩) (Value.run m ρ)

end Cert.Proof.Refr6
-- ==== Proof.Final.lean ====
/-
  The second call's body read as values: what each kind of point leaves in the rows it writes and in the normed rows it keeps.
-/
module

public import proofs.«01_k».proof.Proof.Gen.Kernel2Ideal.Value
public import Idealize.ShloMosaic.Lib.Tactic

@[expose] public section

noncomputable section

namespace Cert.Proof.Final

open Cert.Kernel2Ideal Cert.Kernel2Ideal.Gen
open Idealize.ShloMosaic Idealize.ShloMosaic.TcCoe Idealize.SL.Sem

variable {F : FTy → Type} [FloatOps F]

theorem off_zero : (![0, 0] : Fin 2 → Nat) = fun _ => 0 := funext fun a => by fin_cases a <;> rfl

variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S2048x512 .bf16) (h5 : a5.IsWhole)
  (a6 : Memref sig .tc .vmem S512x2048 .bf16) (h6 : a6.IsWhole) (a7 : Memref sig .tc .vmem S1x2048 .f32) (h7 : a7.IsWhole)
  (a8 : Memref sig .tc .vmem S1024x2048 .f32) (h8 : a8.IsWhole) (a9 : Memref sig .tc .vmem S1024x2048 .bf16) (h9 : a9.IsWhole)
  (x0 : Vec F S1024x2048 .f32) (x1 : Vec F S1x2048 .f32) (x2 x3 : Vec F S2048x512 .bf16) (x4 : Vec F S512x2048 .bf16) (x5 : Vec F S1x2048 .f32)
  (o : Vec F S1024x2048 .f32) (s : Vec F S1024x2048 .bf16)

/-- A middle point adds its block of columns. -/
theorem mid (p : ¬cond0_0 i) (q : ¬cond0_1 i) :
    out0_B_6 c i a2 h2 a3 h3 a4 h4 a5 h5 a6 h6 a7 h7 a8 h8 a9 h9 p q x0 x1 x2 x3 x4 x5 o s = k0_pay3 s x2 x3 o x4 := by
  unfold out0_B_6
  rw [View.read_writes_eq_canon _ _ _ (cover0_B_6 c i a2 h2 a3 h3 a4 h4 a5 h5 a6 h6 a7 h7 a8 h8 a9 h9 p q x0 x1 x2 x3 x4 x5 o s)]
  unfold kernelRun0_B
  dsimp only
  try sl_unfold_words
  rw [View.canon_unit_zero off_zero]
  simp only [View.readAt_eq_ld, h4.read_unread, h5.read_unread, h6.read_unread, h8.read_unread, h9.read_unread,
    View.ld_unit_zero (S := S1024x2048) off_zero, View.ld_unit_zero (S := S2048x512) off_zero, View.ld_unit_zero (S := S512x2048) off_zero]

/-- The first point keeps the normed rows. -/
theorem keep (p : cond0_0 i) (q : ¬cond0_1 i) :
    sout0_A_0 c i a2 h2 a3 h3 a4 h4 a5 h5 a6 h6 a7 h7 a8 h8 a9 h9 p q x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 p q x0 x1 x2 x3 x4 x5)]
  unfold kernelRun0_A
  dsimp only
  try sl_unfold_words
  rw [View.canon_unit_zero off_zero]
  simp only [View.readAt_eq_ld, h2.read_unread, h3.read_unread,
    View.ld_unit_zero (S := S1024x2048) off_zero, View.ld_unit_zero (S := S1x2048) off_zero]

/-- The first point adds its block of columns to zero. -/
theorem start (p : cond0_0 i) (q : ¬cond0_1 i) :
    out0_A_6 c i a2 h2 a3 h3 a4 h4 a5 h5 a6 h6 a7 h7 a8 h8 a9 h9 p q x0 x1 x2 x3 x4 x5 = k0_pay3 (k0_pay1 x0 x1) x2 x3 k0_pay2 x4 := by
  unfold out0_A_6
  rw [View.read_writes_eq_canon _ _ _ (cover0_A_6 c i a2 h2 a3 h3 a4 h4 a5 h5 a6 h6 a7 h7 a8 h8 a9 h9 p q x0 x1 x2 x3 x4 x5)]
  unfold kernelRun0_A
  dsimp only
  sl_unfold_words
  rw [View.canon_cons_unit_zero (S := S1024x2048) off_zero, View.readCov_unit_zero (S := S1024x2048) _ off_zero, View.readCov_unit_zero (S := S1024x2048) _ off_zero]
  simp only [View.readAt_eq_ld, h2.read_unread, h3.read_unread, h4.read_unread, h5.read_unread, h6.read_unread,
    View.ld_unit_zero (S := S1024x2048) off_zero, View.ld_unit_zero (S := S1x2048) off_zero, View.ld_unit_zero (S := S2048x512) off_zero, View.ld_unit_zero (S := S512x2048) off_zero]

/-- The last point adds its block of columns and norms the rows plus half of the sum. -/
theorem stop (p : ¬cond0_0 i) (q : cond0_1 i) :
    out0_C_6 c i a2 h2 a3 h3 a4 h4 a5 h5 a6 h6 a7 h7 a8 h8 a9 h9 p q x0 x1 x2 x3 x4 x5 o s = k0_pay4 x0 (k0_pay3 s x2 x3 o x4) x5 := by
  unfold out0_C_6
  rw [View.read_writes_eq_canon _ _ _ (cover0_C_6 c i a2 h2 a3 h3 a4 h4 a5 h5 a6 h6 a7 h7 a8 h8 a9 h9 p q x0 x1 x2 x3 x4 x5 o s)]
  unfold kernelRun0_C
  dsimp only
  sl_unfold_words
  rw [View.canon_cons_unit_zero (S := S1024x2048) off_zero, View.readCov_unit_zero (S := S1024x2048) _ off_zero]
  simp only [View.readAt_eq_ld, h2.read_unread, h4.read_unread, h5.read_unread, h6.read_unread, h7.read_unread, h8.read_unread, h9.read_unread,
    View.ld_unit_zero (S := S1024x2048) off_zero, View.ld_unit_zero (S := S1x2048) off_zero, View.ld_unit_zero (S := S2048x512) off_zero, View.ld_unit_zero (S := S512x2048) off_zero]

end Cert.Proof.Final
-- ==== Proof.Maths2.lean ====
/-
  The second call's result in coordinates: the rows plus half of the feed-forward block's result, normed with the last gain.
-/
module

public import proofs.«01_k».proof.Proof.Final
public import proofs.«01_k».proof.Proof.Row

@[expose] public section

noncomputable section

namespace Cert.Proof.Final

open Cert.Kernel2Ideal Cert.Kernel2Ideal.Gen
open Idealize.ShloMosaic Idealize.ShloMosaic.TcCoe Idealize.SL.Sem

theorem pay1_at (x : Vec Ideal S1024x2048 .f32) (g : Vec Ideal S1x2048 .f32) (r : Fin 1024) (d : Fin 2048) :
    k0_pay1 (F := Ideal) x g (ix2 r d) = Row.norm (fun d => x (ix2 r d)) (fun d => g (ix2 0 d)) d := by
  unfold Row.norm Row.scale
  pointwise [k0_pay1]

theorem pay2_at (r : Fin 1024) (d : Fin 2048) : k0_pay2 (F := Ideal) (ix2 r d) = (0 : EReal) := by
  pointwise [k0_pay2]

theorem pay3_at (n w v o dd) (r : Fin 1024) (d : Fin 2048) :
    k0_pay3 (F := Ideal) n w v o dd (ix2 r d) = o (ix2 r d) + ∑ t : Fin 512,
      ((∑ e : Fin 2048, n (ix2 r e) * w (ix2 e t)) * Ideal.logistic (∑ e : Fin 2048, n (ix2 r e) * w (ix2 e t)) * ∑ e : Fin 2048, n (ix2 r e) * v (ix2 e t))
        * dd (ix2 t d) := by
  pointwise [k0_pay3]

theorem pay4_at (x a) (g) (r : Fin 1024) (d : Fin 2048) :
    k0_pay4 (F := Ideal) x a g (ix2 r d)
      = Row.norm (fun d => x (ix2 r d) + Ideal.ofBits FTy.f32 1056964608#32 * a (ix2 r d)) (fun d => g (ix2 0 d)) d := by
  unfold Row.norm Row.scale
  pointwise [k0_pay4]

theorem idx0 : ∀ t : Fin cfg0.N, win0_0.index t (0 : Fin 2) = t.val / 11 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 11 := (by decide +kernel : ∀ t : Fin grid0.N, _)
theorem idx3 : ∀ t : Fin cfg0.N, win0_3.index t (0 : Fin 2) = 0 ∧ win0_3.index t (1 : Fin 2) = 11 + t.val % 11 := (by decide +kernel : ∀ t : Fin grid0.N, _)
theorem idx4 : ∀ t : Fin cfg0.N, win0_4.index t (0 : Fin 2) = t.val % 11 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)

variable (m : (ℓ : Loc nD τ sig) → Buf (Elt Ideal) ℓ) (c : Dev nD)

/-- The rows the pipeline reads. -/
def X : FVec Ideal S32768x2048 .f32 := V m c main_v0
/-- The first gain. -/
def G : FVec Ideal S1x2048 .f32 := V m c main_v2
/-- The first weights. -/
def W : FVec Ideal S2048x11264 .bf16 := V m c main_v4
/-- The second weights. -/
def D : FVec Ideal S5632x2048 .bf16 := V m c main_v6
/-- The last gain. -/
def H : FVec Ideal S1x2048 .f32 := V m c main_v7

theorem rows_at (t : Fin cfg0.N) (r : Fin 1024) (d : Fin 2048) (R : Fin 32768) (hR : R.1 = 1024 * (t.val / 11) + r.1) :
    iblk m c 0 t (ix2 r d) = X m c (ix2 R d) := by
  obtain ⟨e0, e1⟩ := idx0 t
  refine congrArg (V m c main_v0) (funext fun a => Fin.ext ?_)
  fin_cases a
  · show win0_0.index t (0 : Fin 2) * 1024 + 1 * r.1 = R.1
    omega
  · show win0_0.index t (1 : Fin 2) * 2048 + 1 * d.1 = d.1
    omega

theorem gain_at (t : Fin cfg0.N) (d : Fin 2048) : iblk m c 1 t (ix2 0 d) = G m c (ix2 0 d) := by
  obtain ⟨e0, e1⟩ := idx1 t
  refine congrArg (V m c main_v2) (funext fun a => Fin.ext ?_)
  fin_cases a
  · show win0_1.index t (0 : Fin 2) * 1 + 1 * 0 = 0
    omega
  · show win0_1.index t (1 : Fin 2) * 2048 + 1 * d.1 = d.1
    omega

theorem gate_at (t : Fin cfg0.N) (d : Fin 2048) (k : Fin 512) (K : Fin 11264) (hK : K.1 = 512 * (t.val % 11) + k.1) :
    iblk m c 2 t (ix2 d k) = W m c (ix2 d K) := by
  obtain ⟨e0, e1⟩ := idx2 t
  refine congrArg (V m c main_v4) (funext fun a => Fin.ext ?_)
  fin_cases a
  · show win0_2.index t (0 : Fin 2) * 2048 + 1 * d.1 = d.1
    omega
  · show win0_2.index t (1 : Fin 2) * 512 + 1 * k.1 = K.1
    omega

theorem value_at (t : Fin cfg0.N) (d : Fin 2048) (k : Fin 512) (K : Fin 11264) (hK : K.1 = 5632 + (512 * (t.val % 11) + k.1)) :
    iblk m c 3 t (ix2 d k) = W m c (ix2 d K) := by
  obtain ⟨e0, e1⟩ := idx3 t
  refine congrArg (V m c main_v4) (funext fun a => Fin.ext ?_)
  fin_cases a
  · show win0_3.index t (0 : Fin 2) * 2048 + 1 * d.1 = d.1
    omega
  · show win0_3.index t (1 : Fin 2) * 512 + 1 * k.1 = K.1
    omega

theorem down_at (t : Fin cfg0.N) (k : Fin 512) (d : Fin 2048) (K : Fin 5632) (hK : K.1 = 512 * (t.val % 11) + k.1) :
    iblk m c 4 t (ix2 k d) = D m c (ix2 K d) := by
  obtain ⟨e0, e1⟩ := idx4 t
  refine congrArg (V m c main_v6) (funext fun a => Fin.ext ?_)
  fin_cases a
  · show win0_4.index t (0 : Fin 2) * 512 + 1 * k.1 = K.1
    omega
  · show win0_4.index t (1 : Fin 2) * 2048 + 1 * d.1 = d.1
    omega

theorem last_at (t : Fin cfg0.N) (d : Fin 2048) : iblk m c 5 t (ix2 0 d) = H m c (ix2 0 d) := by
  obtain ⟨e0, e1⟩ := idx5 t
  refine congrArg (V m c main_v7) (funext fun a => Fin.ext ?_)
  fin_cases a
  · show win0_5.index t (0 : Fin 2) * 1 + 1 * 0 = 0
    omega
  · show win0_5.index t (1 : Fin 2) * 2048 + 1 * d.1 = d.1
    omega

/-- One term of the second product, zero past the last. -/
def term (n : Fin 2048 → EReal) (l : Fin 2048) (k : ℕ) : EReal :=
  if h : k < 5632 then Row.act n (fun d k => W m c (ix2 d k)) ⟨k, h⟩ * D m c (ix2 (⟨k, h⟩ : Fin 5632) l) else 0

/-- The terms add up to the second product. -/
theorem term_sum (n : Fin 2048 → EReal) (l : Fin 2048) :
    ∑ k ∈ Finset.range (512 * 11), term m c n l k = ∑ k : Fin 5632, Row.act n (fun d k => W m c (ix2 d k)) k * D m c (ix2 k l) := by
  rw [Finset.sum_range]
  refine Finset.sum_congr rfl fun k _ => ?_
  rw [term, dif_pos k.2]

/-- A block of columns brings the next 512 terms. -/
theorem more (t : Fin cfg0.N) (j : ℕ) (hj : t.val % 11 = j) (s : Vec Ideal S1024x2048 .bf16) (o : Vec Ideal S1024x2048 .f32) (n : Fin 2048 → EReal)
    (r : Fin 1024) (l : Fin 2048) (hs : ∀ d, s (ix2 r d) = n d) (ho : o (ix2 r l) = ∑ k ∈ Finset.range (512 * j), term m c n l k) :
    k0_pay3 (F := Ideal) s (iblk m c 2 t) (iblk m c 3 t) o (iblk m c 4 t) (ix2 r l) = ∑ k ∈ Finset.range (512 * (j + 1)), term m c n l k := by
  have hj' : j < 11 := by omega
  refine (pay3_at s (iblk m c 2 t) (iblk m c 3 t) o (iblk m c 4 t) r l).trans ?_
  rw [ho, show 512 * (j + 1) = 512 * j + 512 by ring, Finset.sum_range_add, Finset.sum_range (n := 512)]
  congr 1
  refine Finset.sum_congr rfl fun k _ => ?_
  have hk : 512 * j + k.1 < 5632 := by omega
  rw [term, dif_pos hk, down_at m c t k l ⟨512 * j + k.1, hk⟩ (by show 512 * j + k.1 = _; omega)]
  simp only [hs]
  have e2 : ∀ d, iblk m c 2 t (ix2 d k) = W m c (ix2 d (Row.lo ⟨512 * j + k.1, hk⟩)) := fun d => gate_at m c t d k _ (by show 512 * j + k.1 = _; omega)
  have e3 : ∀ d, iblk m c 3 t (ix2 d k) = W m c (ix2 d (Row.hi ⟨512 * j + k.1, hk⟩)) := fun d => value_at m c t d k _ (by show 5632 + (512 * j + k.1) = _; omega)
  simp only [e2, e3]
  rfl

/-- Row `r` of block `b` of the rows. -/
def row (b : ℕ) (hb : b < 32) (r : Fin 1024) (d : Fin 2048) : EReal := X m c (ix2 (⟨1024 * b + r.1, by omega⟩ : Fin 32768) d)

/-- It, normed. -/
def nrow (b : ℕ) (hb : b < 32) (r : Fin 1024) : Fin 2048 → EReal := Row.norm (row m c b hb r) (fun d => G m c (ix2 0 d))

theorem row_at (t : Fin cfg0.N) (b : ℕ) (hb : b < 32) (ht : t.val / 11 = b) (r : Fin 1024) (d : Fin 2048) : iblk m c 0 t (ix2 r d) = row m c b hb r d :=
  rows_at m c t r d _ (by show 1024 * b + r.1 = _; omega)

theorem nrow_at (t : Fin cfg0.N) (b : ℕ) (hb : b < 32) (ht : t.val / 11 = b) (r : Fin 1024) (d : Fin 2048) :
    k0_pay1 (F := Ideal) (iblk m c 0 t) (iblk m c 1 t) (ix2 r d) = nrow m c b hb r d := by
  refine (pay1_at (iblk m c 0 t) (iblk m c 1 t) r d).trans ?_
  simp only [gain_at, row_at m c t b hb ht]
  rfl

/-- After `j + 1` blocks of columns, the last one aside. -/
theorem fold_at (b : ℕ) (hb : b < 32) (r : Fin 1024) : ∀ (j : ℕ) (_ : j ≤ 9) (h : 11 * b + j < cfg0.N),
    (∀ d, (outsAt0 m c (11 * b + j) h).2 (ix2 r d) = nrow m c b hb r d)
    ∧ ∀ l, (outsAt0 m c (11 * b + j) h).1 (ix2 r l) = ∑ k ∈ Finset.range (512 * (j + 1)), term m c (nrow m c b hb r) l k
  | 0, _, h => by
    have e := outsAt0_A m c ⟨11 * b + 0, h⟩ (by show (11 * b + 0) % 11 = 0; omega) (by show ¬(11 * b + 0) % 11 = 10; omega)
    rw [start, keep] at e
    have hd : (⟨11 * b + 0, h⟩ : Fin cfg0.N).val / 11 = b := by show (11 * b + 0) / 11 = b; omega
    refine ⟨fun d => ?_, fun l => ?_⟩
    · refine (congrFun (congrArg Prod.snd e) (ix2 r d)).trans ?_
      exact nrow_at m c _ b hb hd r d
    · refine (congrFun (congrArg Prod.fst e) (ix2 r l)).trans ?_
      refine more m c _ 0 (by show (11 * b + 0) % 11 = 0; omega) _ _ (nrow m c b hb r) r l (fun d => nrow_at m c _ b hb hd r d) ?_
      refine (pay2_at r l).trans ?_
      simp
  | j + 1, hj, h => by
    have ih := fold_at b hb r j (by omega) (by omega)
    have e := outsAt0_B m c ⟨11 * b + (j + 1), h⟩ (by show ¬(11 * b + (j + 1)) % 11 = 0; omega) (by show ¬(11 * b + (j + 1)) % 11 = 10; omega)
    rw [mid] at e
    refine ⟨fun d => ?_, fun l => ?_⟩
    · exact (congrFun (congrArg Prod.snd e) (ix2 r d)).trans (ih.1 d)
    · refine (congrFun (congrArg Prod.fst e) (ix2 r l)).trans ?_
      exact more m c _ (j + 1) (by show (11 * b + (j + 1)) % 11 = j + 1; omega) _ _ (nrow m c b hb r) r l ih.1 (ih.2 l)

/-- After the last block of columns: the result's rows. -/
theorem last_fold (b : ℕ) (hb : b < 32) (r : Fin 1024) (l : Fin 2048) (h : 11 * b + 10 < cfg0.N) :
    (outsAt0 m c (11 * b + 10) h).1 (ix2 r l)
      = Row.norm (Row.half (row m c b hb r) (fun d => G m c (ix2 0 d)) (fun d k => W m c (ix2 d k)) (fun k d => D m c (ix2 k d))) (fun d => H m c (ix2 0 d)) l := by
  have ih := fold_at m c b hb r 9 (by omega) (by omega)
  have e := outsAt0_C m c ⟨11 * b + 10, h⟩ (by show ¬(11 * b + 10) % 11 = 0; omega) (by show (11 * b + 10) % 11 = 10; omega)
  rw [stop] at e
  refine (congrFun (congrArg Prod.fst e) (ix2 r l)).trans ?_
  refine (pay4_at _ _ _ r l).trans ?_
  refine congrArg₂ (fun x g => Row.norm x g l) (funext fun d => ?_) (funext fun d => last_at m c _ d)
  refine congrArg₂ (fun x a => x + Ideal.ofBits FTy.f32 1056964608#32 * a) (row_at m c _ b hb (by show (11 * b + 10) / 11 = b; omega) r d) ?_
  exact (more m c _ 10 (by show (11 * b + 10) % 11 = 10; omega) _ _ (nrow m c b hb r) r d ih.1 (ih.2 d)).trans (term_sum m c _ d)

theorem outs_congr (n n' : ℕ) (h : n < cfg0.N) (h' : n' < cfg0.N) (e : n = n') : outsAt0 m c n h = outsAt0 m c n' h' := by
  subst e
  rfl

/-- The result array at row `R`. -/
theorem arr_at (R : Fin 32768) (l : Fin 2048) :
    Value.G6 m c (ix2 R l)
      = Row.norm (Row.half (fun d => X m c (ix2 R d)) (fun d => G m c (ix2 0 d)) (fun d k => W m c (ix2 d k)) (fun k d => D m c (ix2 k d))) (fun d => H m c (ix2 0 d)) l := by
  have hR := R.2
  have hl := l.2
  have hN : cfg0.N = 352 := N_0
  have hp : Value.pt6Of (ix2 R l) = 11 * (R.1 / 1024) + 10 := by
    show 11 * (1 * (R.1 / 1024 - 0) + 1 * (l.1 / 2048 - 0)) + 10 = _
    omega
  have hq : Value.loc6Of (ix2 R l) = ix2 (⟨R.1 % 1024, by omega⟩ : Fin 1024) l := by
    funext a
    apply Fin.ext
    fin_cases a
    · rfl
    · show l.1 % 2048 = l.1
      omega
  have hlt : Value.pt6Of (ix2 R l) < cfg0.N := by rw [hp, hN]; omega
  unfold Value.G6
  rw [dif_pos hlt, ← Value.outsAt0_sweep m c _ hlt, hq, outs_congr m c _ _ hlt (by rw [hN]; omega) hp, last_fold m c (R.1 / 1024) (by omega)]
  rw [show row m c (R.1 / 1024) (by omega) ⟨R.1 % 1024, by omega⟩ = fun d => X m c (ix2 R d) from funext fun d => by
    unfold row
    exact congrArg (fun q : Fin 32768 => X m c (ix2 q d)) (Fin.ext (by show 1024 * (R.1 / 1024) + R.1 % 1024 = R.1; omega))]

theorem flat_at (x : FVec Ideal S16x2048x2048 .f32) (R : Fin 32768) (d : Fin 2048) :
    shapeCast S32768x2048 x shapeCasts_S16x2048x2048_S32768x2048 (ix2 R d)
      = x (ix3 (⟨R.1 / 2048, by omega⟩ : Fin 16) (⟨R.1 % 2048, by omega⟩ : Fin 2048) d) := by
  pointwise
theorem line_at (g : FVec Ideal S1x2048 .f32) (d : Fin 2048) :
    broadcastInDim S1x2048 ![1] bcast_S2048_S1x2048_1 (shapeCast S2048 g shapeCasts_S1x2048_S2048) (ix2 0 d) = g (ix2 0 d) := by
  pointwise
theorem line_at' (g : FVec Ideal S2048 .f32) (d : Fin 2048) :
    broadcastInDim S1x2048 ![1] bcast_S2048_S1x2048_1 g (ix2 0 d) = g (ix1 d) := by
  pointwise
theorem wide_at (w : FVec Ideal S1x2048x11264 .f32) (d : Fin 2048) (k : Fin 11264) :
    truncf .bf16 (shapeCast S2048x11264 w shapeCasts_S1x2048x11264_S2048x11264) bitsLt_bf16_f32 (ix2 d k) = w (ix3 0 d k) := by
  pointwise
theorem tall_at (w : FVec Ideal S1x5632x2048 .f32) (k : Fin 5632) (d : Fin 2048) :
    truncf .bf16 (shapeCast S5632x2048 w shapeCasts_S1x5632x2048_S5632x2048) bitsLt_bf16_f32 (ix2 k d) = w (ix3 0 k d) := by
  pointwise

theorem X_eq : X m c = shapeCast S32768x2048 (m (c.tc.loc main_arg0) : FVec Ideal S16x2048x2048 .f32) shapeCasts_S16x2048x2048_S32768x2048 := by
  unfold X Gen.V hostOps0
  after_results_simp
  rfl
theorem G_eq : G m c
    = broadcastInDim S1x2048 ![1] bcast_S2048_S1x2048_1 (shapeCast S2048 (m (c.tc.loc main_arg1) : FVec Ideal S1x2048 .f32) shapeCasts_S1x2048_S2048) := by
  unfold G Gen.V hostOps0
  after_results_simp
  rfl
theorem W_eq : W m c
    = (truncf .bf16 (shapeCast S2048x11264 (m (c.tc.loc main_arg2) : FVec Ideal S1x2048x11264 .f32) shapeCasts_S1x2048x11264_S2048x11264) bitsLt_bf16_f32 : FVec Ideal S2048x11264 .bf16) := by
  unfold W Gen.V hostOps0
  after_results_simp
  rfl
theorem D_eq : D m c
    = (truncf .bf16 (shapeCast S5632x2048 (m (c.tc.loc main_arg3) : FVec Ideal S1x5632x2048 .f32) shapeCasts_S1x5632x2048_S5632x2048) bitsLt_bf16_f32 : FVec Ideal S5632x2048 .bf16) := by
  unfold D Gen.V hostOps0
  after_results_simp
  rfl
theorem H_eq : H m c = broadcastInDim S1x2048 ![1] bcast_S2048_S1x2048_1 (m (c.tc.loc main_arg4) : FVec Ideal S2048 .f32) := by
  unfold H Gen.V hostOps0
  after_results_simp

/-- The call's result in coordinates. -/
theorem out_at (x : FVec Ideal S16x2048x2048 .f32) (g : FVec Ideal S1x2048 .f32) (w : FVec Ideal S1x2048x11264 .f32) (v : FVec Ideal S1x5632x2048 .f32)
    (g2 : FVec Ideal S2048 .f32)
    (hx : m (c.tc.loc main_arg0) = x) (hg : m (c.tc.loc main_arg1) = g) (hw : m (c.tc.loc main_arg2) = w) (hv : m (c.tc.loc main_arg3) = v)
    (hg2 : m (c.tc.loc main_arg4) = g2) (R : Fin 32768) (l : Fin 2048) :
    Value.G6 m c (ix2 R l) = Row.norm (Row.half (fun d => x (ix3 (⟨R.1 / 2048, by omega⟩ : Fin 16) (⟨R.1 % 2048, by omega⟩ : Fin 2048) d)) (fun d => g (ix2 0 d))
      (fun d k => w (ix3 0 d k)) (fun k d => v (ix3 0 k d))) (fun d => g2 (ix1 d)) l := by
  rw [arr_at, X_eq, G_eq, W_eq, D_eq, H_eq, hx, hg, hw, hv, hg2]
  simp only [wide_at, tall_at]
  exact congrArg₂ (fun h e => Row.norm h e l)
    (congrArg₂ (fun a b => Row.half a b (fun d k => w (ix3 0 d k)) (fun k d => v (ix3 0 k d))) (funext fun d => flat_at x R d) (funext fun d => line_at g d))
    (funext fun d => line_at' g2 d)

end Cert.Proof.Final
-- ==== Proof.Refr2.lean ====
/-
  The second reference read in coordinates.
-/
module

public import proofs.«01_k».proof.Proof.Row
public import proofs.«01_k».proof.Proof.Gen.Reference2Ideal.Run

@[expose] public section

noncomputable section

namespace Cert.Proof.Refr2

open Cert.Reference2Ideal Cert.Reference2Ideal.Gen
open Idealize.ShloMosaic Idealize.ShloMosaic.TcCoe Idealize.ShloMosaic.StableHlo Idealize.SL.Sem
open Cert.Proof

/-- The reference's norm, as its operations make it. -/
def rms (x : FVec Ideal S16x2048x2048 .f32) (g : FVec Ideal S2048 .f32) : FVec Ideal S16x2048x2048 .f32 :=
  mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g))

/-- The product with the first weights. -/
def wide (n : FVec Ideal S16x2048x2048 .f32) (w : FVec Ideal S1x2048x11264 .f32) : FVec Ideal S16x2048x11264 .f32 :=
  Host.dotGeneral dot_S16x2048x2048_S2048x11264_S16x2048x11264_2_0_01_1_n_n none n (shapeCast _ w shapeCasts_S1x2048x11264_S2048x11264)

/-- The gated activation of it. -/
def gated (a : FVec Ideal S16x2048x11264 .f32) : FVec Ideal S16x2048x5632 .f32 :=
  mulf (mulf (extractStridedSlice S16x2048x5632 ![0, 0, 0] a slices_S16x2048x11264_S16x2048x5632_0_0_0) (Host.divf (broadcastInDim S16x2048x5632 ![] bcast_S_S16x2048x5632 (constant S_ .f32 0x3F800000#32)) (addf (broadcastInDim S16x2048x5632 ![] bcast_S_S16x2048x5632 (constant S_ .f32 0x3F800000#32)) (Host.exp (Host.negf (extractStridedSlice S16x2048x5632 ![0, 0, 0] a slices_S16x2048x11264_S16x2048x5632_0_0_0)))))) (extractStridedSlice S16x2048x5632 ![0, 0, 5632] a slices_S16x2048x11264_S16x2048x5632_0_0_5632)

/-- The rows plus half of the product with the second weights. -/
def step (x : FVec Ideal S16x2048x2048 .f32) (a : FVec Ideal S16x2048x5632 .f32) (v : FVec Ideal S1x5632x2048 .f32) : FVec Ideal S16x2048x2048 .f32 :=
  addf x (mulf (broadcastInDim S16x2048x2048 ![] bcast_S_S16x2048x2048 (constant S_ .f32 0x3F000000#32)) (Host.dotGeneral dot_S16x2048x5632_S5632x2048_S16x2048x2048_2_0_01_1_n_n none a (shapeCast _ v shapeCasts_S1x5632x2048_S5632x2048)))

theorem rms_at (x : FVec Ideal S16x2048x2048 .f32) (g : FVec Ideal S2048 .f32) (a : Fin 16) (b d : Fin 2048) :
    rms x g (ix3 a b d) = Row.norm (fun d => x (ix3 a b d)) (fun d => g (ix1 d)) d := by
  unfold Row.norm Row.scale
  pointwise [rms]

theorem wide_at (n : FVec Ideal S16x2048x2048 .f32) (w : FVec Ideal S1x2048x11264 .f32) (a : Fin 16) (b : Fin 2048) (k : Fin 11264) :
    wide n w (ix3 a b k) = ∑ d : Fin 2048, n (ix3 a b d) * w (ix3 0 d k) := by
  pointwise [wide]

theorem gated_at (n : FVec Ideal S16x2048x11264 .f32) (a : Fin 16) (b : Fin 2048) (k : Fin 5632) :
    gated n (ix3 a b k) = n (ix3 a b (Row.lo k)) * Ideal.logistic (n (ix3 a b (Row.lo k))) * n (ix3 a b (Row.hi k)) := by
  pointwise [gated]
  rfl

theorem step_at (x : FVec Ideal S16x2048x2048 .f32) (n : FVec Ideal S16x2048x5632 .f32) (v : FVec Ideal S1x5632x2048 .f32) (a : Fin 16) (b d : Fin 2048) :
    step x n v (ix3 a b d) = x (ix3 a b d) + Ideal.ofBits FTy.f32 1056964608#32 * ∑ k : Fin 5632, n (ix3 a b k) * v (ix3 0 k d) := by
  pointwise [step]

theorem flat_at (x : FVec Ideal S16x2048x2048 .f32) (r : Fin 32768) (d : Fin 2048) :
    shapeCast S32768x2048 x shapeCasts_S16x2048x2048_S32768x2048 (ix2 r d) = x (ix3 ⟨r.1 / 2048, by omega⟩ ⟨r.1 % 2048, by omega⟩ d) := by
  pointwise

theorem line_at (g : FVec Ideal S1x2048 .f32) (d : Fin 2048) : shapeCast S2048 g shapeCasts_S1x2048_S2048 (ix1 d) = g (ix2 0 d) := by
  pointwise

/-- The rows after the half-step. -/
def next (x : FVec Ideal S16x2048x2048 .f32) (g : FVec Ideal S1x2048 .f32) (w : FVec Ideal S1x2048x11264 .f32) (v : FVec Ideal S1x5632x2048 .f32) :
    FVec Ideal S16x2048x2048 .f32 := step x (gated (wide (rms x (shapeCast S2048 g shapeCasts_S1x2048_S2048)) w)) v

theorem next_at (x : FVec Ideal S16x2048x2048 .f32) (g : FVec Ideal S1x2048 .f32) (w : FVec Ideal S1x2048x11264 .f32) (v : FVec Ideal S1x5632x2048 .f32)
    (a : Fin 16) (b d : Fin 2048) :
    next x g w v (ix3 a b d) = Row.half (fun d => x (ix3 a b d)) (fun d => g (ix2 0 d)) (fun d k => w (ix3 0 d k)) (fun k d => v (ix3 0 k d)) d := by
  unfold next Row.half Row.act
  simp only [step_at, gated_at, wide_at, rms_at, line_at]

/-- The result at row `r`. -/
theorem out_at (x : FVec Ideal S16x2048x2048 .f32) (g : FVec Ideal S1x2048 .f32) (w : FVec Ideal S1x2048x11264 .f32) (v : FVec Ideal S1x5632x2048 .f32)
    (g2 : FVec Ideal S2048 .f32) (r : Fin 32768) (d : Fin 2048) :
    shapeCast S32768x2048 (rms (next x g w v) g2) shapeCasts_S16x2048x2048_S32768x2048 (ix2 r d)
      = Row.norm (Row.half (fun d => x (ix3 ⟨r.1 / 2048, by omega⟩ ⟨r.1 % 2048, by omega⟩ d)) (fun d => g (ix2 0 d)) (fun d k => w (ix3 0 d k)) (fun k d => v (ix3 0 k d)))
          (fun d => g2 (ix1 d)) d := by
  rw [flat_at, rms_at]
  simp only [next_at]

variable (m : (ℓ : Loc nD τ sig) → Buf (Elt Ideal) ℓ) (c : Dev nD)

set_option maxRecDepth 8192 in
theorem res_eq : Value.res_main_v38 (F := Ideal) m c
    = shapeCast S32768x2048 (rms (next (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg4)))
        shapeCasts_S16x2048x2048_S32768x2048 := rfl

/-- What the reference's result holds at the end. -/
def Ends (s : MemSt nD τ sig (Elt Ideal)) : Prop :=
  s.mem ((c.tc : Thread nD τ).loc main_v38) = Value.res_main_v38 m c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

theorem run_ref (ρ : Dev nD → PrngReg) :
    θ_run defs (onTc (τ := τ) (main (F := Ideal))) ⟨m, fun _ => 0, ρ⟩ (fun r => (∀ c, Ends m c r.2) ∧ r.2.sem = fun _ => 0) :=
  (θ_run defs _ _).mono (fun r h => ⟨fun c => h c, sem_eq_zero_of_no_sems (by decide) r.2⟩) (Value.run m ρ)

end Cert.Proof.Refr2
-- ==== Proof.lean ====
/-
  The proof of the certificate's claim: the three frames and the equality of the kernel's results with the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Maths
public import proofs.«01_k».proof.Proof.Refr
public import proofs.«01_k».proof.Proof.Keys
public import proofs.«01_k».proof.Proof.Vals
public import proofs.«01_k».proof.Proof.Rest
public import proofs.«01_k».proof.Proof.Mix
public import proofs.«01_k».proof.Proof.Refr3
public import proofs.«01_k».proof.Proof.Refr4
public import proofs.«01_k».proof.Proof.Refr5
public import proofs.«01_k».proof.Proof.Refr6
public import proofs.«01_k».proof.Proof.Maths2
public import proofs.«01_k».proof.Proof.Refr2

@[expose] public section

noncomputable section

namespace Cert.Proof

open Idealize.ShloMosaic Idealize.ShloMosaic.TcCoe Idealize.SL.Sem

/-- The idealized kernel terminates with its arguments unchanged and every counter at zero. -/
theorem frame_ideal : Cert.quiescent_KernelIdeal := fun m ρ _ =>
  (θ_run Cert.KernelIdeal.defs _ _).mono (fun _ h => ⟨fun c => (h.1 c).2.2, h.2⟩) (Ffn.run_main (F := Ideal) m ρ)

set_option maxHeartbeats 4000000 in
set_option maxRecDepth 8192 in
/-- The kernel terminates with its arguments unchanged and every counter at zero: the same run over bit patterns. -/
theorem frame_kernel : Cert.quiescent_Kernel := fun m ρ _ =>
  (θ_run Cert.KernelIdeal.defs _ _).mono (fun _ h => ⟨fun c => (h.1 c).2.2, h.2⟩) (Ffn.run_main (F := Bits) m ρ)

/-- The reference terminates with its arguments unchanged; it has no counter. -/
theorem frame_ref : Cert.quiescent_ReferenceIdeal := fun m ρ _ =>
  (θ_run Cert.ReferenceIdeal.defs _ _).mono (fun _ h => ⟨fun c => (h.1 c).2.2, h.2⟩) (Refr.run_ref m ρ)

section Values
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
include h0 h1 h2 h3

/-- The first results are the same array. -/
theorem same0 (s : MemSt Cert.ReferenceIdeal.nD Cert.ReferenceIdeal.τ Cert.ReferenceIdeal.sig (Elt Ideal)) (hs : Refr.Ends m' c s) :
    s.mem ((c.tc : Thread Cert.ReferenceIdeal.nD Cert.ReferenceIdeal.τ).loc Cert.ReferenceIdeal.main_v39) = Ffn.outO c m := by
  refine hs.1.trans (funext fun y => ?_)
  rw [h0, h1, h2, h3]
  obtain ⟨r, d, rfl⟩ : ∃ (r : Fin 32768) (d : Fin 2048), y = ix2 r d := ⟨y 0, y 1, funext fun a => by fin_cases a <;> rfl⟩
  exact (Refr.out0_at _ _ _ _ r d).trans (Ffn.outO_at c m _ _ _ _ rfl rfl rfl rfl r d).symm

include h4

/-- The second results are the same array. -/
theorem same1 (s : MemSt Cert.ReferenceIdeal.nD Cert.ReferenceIdeal.τ Cert.ReferenceIdeal.sig (Elt Ideal)) (hs : Refr.Ends m' c s) :
    s.mem ((c.tc : Thread Cert.ReferenceIdeal.nD Cert.ReferenceIdeal.τ).loc Cert.ReferenceIdeal.main_v41) = Ffn.outY c m := by
  refine hs.2.1.trans ((Refr.res1_eq m' c).trans (funext fun y => ?_))
  rw [h0, h1, h2, h3, h4]
  obtain ⟨r, d, rfl⟩ : ∃ (r : Fin 32768) (d : Fin 2048), y = ix2 r d := ⟨y 0, y 1, funext fun a => by fin_cases a <;> rfl⟩
  exact (Refr.out1_at _ _ _ _ _ r d).trans (Ffn.outY_at c m _ _ _ _ _ rfl rfl rfl rfl rfl r d).symm

end Values

/-- Over the extended reals the kernel and the reference end with the same results. -/
theorem algebraic : Cert.algebraic_KernelIdeal_ReferenceIdeal := fun m g m' g' _ hh =>
  ⟨fun c => Ffn.outO c m, fun c => Ffn.outY c m,
    (θ_run Cert.KernelIdeal.defs _ _).mono (fun _ h c => h.1 c) (Ffn.run_main (F := Ideal) m g),
    (θ_run Cert.ReferenceIdeal.defs _ _).mono
      (fun r h c => ⟨same0 m m' c (hh c).1 (hh c).2.1 (hh c).2.2.1 (hh c).2.2.2.1 r.2 (h.1 c),
        same1 m m' c (hh c).1 (hh c).2.1 (hh c).2.2.1 (hh c).2.2.2.1 (hh c).2.2.2.2 r.2 (h.1 c), (h.1 c).2.2⟩) (Refr.run_ref m' g')⟩

/-- The second idealized kernel terminates with its arguments unchanged and every counter at zero. -/
theorem frame_ideal2 : Cert.quiescent_Kernel2Ideal := fun m ρ _ => Cert.Kernel2Ideal.Gen.frame m ρ

/-- So does the second kernel. -/
theorem frame_kernel2 : Cert.quiescent_Kernel2 := fun m ρ _ => Cert.Kernel2.Gen.frame m ρ

/-- The second reference terminates with its arguments unchanged; it has no counter. -/
theorem frame_ref2 : Cert.quiescent_Reference2Ideal := fun m ρ _ =>
  (θ_run Cert.Reference2Ideal.defs _ _).mono (fun _ h => ⟨fun c => (h.1 c).2, h.2⟩) (Refr2.run_ref m ρ)

section Values
variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)
  (c : Dev Cert.Kernel2Ideal.nD)
  (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
  (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
  (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
  (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
  (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
include h0 h1 h2 h3 h4

/-- The second call's results are the same array. -/
theorem same2 (s : MemSt Cert.Reference2Ideal.nD Cert.Reference2Ideal.τ Cert.Reference2Ideal.sig (Elt Ideal)) (hs : Refr2.Ends m' c s) :
    s.mem ((c.tc : Thread Cert.Reference2Ideal.nD Cert.Reference2Ideal.τ).loc Cert.Reference2Ideal.main_v38) = Cert.Kernel2Ideal.Value.G6 m c := by
  refine hs.1.trans ((Refr2.res_eq m' c).trans (funext fun y => ?_))
  rw [h0, h1, h2, h3, h4]
  obtain ⟨r, d, rfl⟩ : ∃ (r : Fin 32768) (d : Fin 2048), y = ix2 r d := ⟨y 0, y 1, funext fun a => by fin_cases a <;> rfl⟩
  exact (Refr2.out_at _ _ _ _ _ r d).trans (Final.out_at m c _ _ _ _ _ rfl rfl rfl rfl rfl r d).symm

end Values

/-- Over the extended reals the second kernel and its reference end with the same result. -/
theorem algebraic2 : Cert.algebraic_Kernel2Ideal_Reference2Ideal := fun m g m' g' _ hh =>
  ⟨fun c => Cert.Kernel2Ideal.Value.G6 m c,
    Cert.Kernel2Ideal.Value.run m g,
    (θ_run Cert.Reference2Ideal.defs _ _).mono
      (fun r h c => ⟨same2 m m' c (hh c).1 (hh c).2.1 (hh c).2.2.1 (hh c).2.2.2.1 (hh c).2.2.2.2 r.2 (h.1 c), (h.1 c).2⟩) (Refr2.run_ref m' g')⟩

/-- The third idealized kernel terminates with its arguments unchanged and every counter at zero. -/
theorem frame_ideal3 : Cert.quiescent_Kernel3Ideal := fun m ρ _ => Cert.Kernel3Ideal.Gen.frame m ρ

/-- So does the third kernel. -/
theorem frame_kernel3 : Cert.quiescent_Kernel3 := fun m ρ _ => Cert.Kernel3.Gen.frame m ρ

/-- The third reference terminates with its arguments unchanged; it has no counter. -/
theorem frame_ref3 : Cert.quiescent_Reference3Ideal := fun m ρ _ =>
  (θ_run Cert.Reference3Ideal.defs _ _).mono (fun _ h => ⟨fun c => (h.1 c).2, h.2⟩) (Refr3.run_ref m ρ)

section Values
variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)
  (c : Dev Cert.Kernel3Ideal.nD)
  (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
  (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
include h0 h1

/-- The third call's results are the same array. -/
theorem same3 (s : MemSt Cert.Reference3Ideal.nD Cert.Reference3Ideal.τ Cert.Reference3Ideal.sig (Elt Ideal)) (hs : Refr3.Ends m' c s) :
    s.mem ((c.tc : Thread Cert.Reference3Ideal.nD Cert.Reference3Ideal.τ).loc Cert.Reference3Ideal.main_v10) = (Cert.Kernel3Ideal.Gen.dats m 0 c).arrAt 2 Cert.Kernel3Ideal.cfg0.N := by
  refine hs.1.trans (funext fun y => ?_)
  rw [h0, h1]
  obtain ⟨i, j, rfl⟩ : ∃ (i : Fin 32768) (j : Fin 2048), y = ix2 i j := ⟨y 0, y 1, funext fun a => by fin_cases a <;> rfl⟩
  exact ((Refr3.keys_at _ i j (Keys.col j) rfl).trans ((Refr3.proj_at _ _ i _).trans (Keys.out_at m c _ _ rfl rfl i j).symm))

end Values

/-- Over the extended reals the third kernel and its reference end with the same result. -/
theorem algebraic3 : Cert.algebraic_Kernel3Ideal_Reference3Ideal := fun m g m' g' _ hh =>
  ⟨fun c => (Cert.Kernel3Ideal.Gen.dats m 0 c).arrAt 2 Cert.Kernel3Ideal.cfg0.N,
    Cert.Kernel3Ideal.Value.run_blocks m g,
    (θ_run Cert.Reference3Ideal.defs _ _).mono
      (fun r h c => ⟨same3 m m' c (hh c).1 (hh c).2 r.2 (h.1 c), (h.1 c).2⟩) (Refr3.run_ref m' g')⟩

/-- The fourth idealized kernel terminates with its arguments unchanged and every counter at zero. -/
theorem frame_ideal4 : Cert.quiescent_Kernel4Ideal := fun m ρ _ => Cert.Kernel4Ideal.Gen.frame m ρ

/-- So does the fourth kernel. -/
theorem frame_kernel4 : Cert.quiescent_Kernel4 := fun m ρ _ => Cert.Kernel4.Gen.frame m ρ

/-- The fourth reference terminates with its arguments unchanged; it has no counter. -/
theorem frame_ref4 : Cert.quiescent_Reference4Ideal := fun m ρ _ =>
  (θ_run Cert.Reference4Ideal.defs _ _).mono (fun _ h => ⟨fun c => (h.1 c).2, h.2⟩) (Refr4.run_ref m ρ)

section Values
variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ)
  (c : Dev Cert.Kernel4Ideal.nD)
  (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
  (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
include h0 h1

/-- The fourth call's results are the same array. -/
theorem same4 (s : MemSt Cert.Reference4Ideal.nD Cert.Reference4Ideal.τ Cert.Reference4Ideal.sig (Elt Ideal)) (hs : Refr4.Ends m' c s) :
    s.mem ((c.tc : Thread Cert.Reference4Ideal.nD Cert.Reference4Ideal.τ).loc Cert.Reference4Ideal.main_v10) = (Cert.Kernel4Ideal.Gen.dats m 0 c).arrAt 2 Cert.Kernel4Ideal.cfg0.N := by
  refine hs.1.trans (funext fun y => ?_)
  rw [h0, h1]
  obtain ⟨i, j, rfl⟩ : ∃ (i : Fin 1024) (j : Fin 32768), y = ix2 i j := ⟨y 0, y 1, funext fun a => by fin_cases a <;> rfl⟩
  exact (Refr4.vals_at _ i j).trans ((Refr4.proj_at _ _ j _).trans (Vals.out_at m c _ _ rfl rfl i j).symm)

end Values

/-- Over the extended reals the fourth kernel and its reference end with the same result. -/
theorem algebraic4 : Cert.algebraic_Kernel4Ideal_Reference4Ideal := fun m g m' g' _ hh =>
  ⟨fun c => (Cert.Kernel4Ideal.Gen.dats m 0 c).arrAt 2 Cert.Kernel4Ideal.cfg0.N,
    Cert.Kernel4Ideal.Value.run_blocks m g,
    (θ_run Cert.Reference4Ideal.defs _ _).mono
      (fun r h c => ⟨same4 m m' c (hh c).1 (hh c).2 r.2 (h.1 c), (h.1 c).2⟩) (Refr4.run_ref m' g')⟩

/-- The fifth idealized kernel terminates with its arguments unchanged and every counter at zero. -/
theorem frame_ideal5 : Cert.quiescent_Kernel5Ideal := fun m ρ _ => Cert.Kernel5Ideal.Gen.frame m ρ

/-- So does the fifth kernel. -/
theorem frame_kernel5 : Cert.quiescent_Kernel5 := fun m ρ _ => Cert.Kernel5.Gen.frame m ρ

/-- The fifth reference terminates with its arguments unchanged; it has no counter. -/
theorem frame_ref5 : Cert.quiescent_Reference5Ideal := fun m ρ _ =>
  (θ_run Cert.Reference5Ideal.defs _ _).mono (fun _ h => ⟨fun c => (h.1 c).2, h.2⟩) (Refr5.run_ref m ρ)

section Values
variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ)
  (c : Dev Cert.Kernel5Ideal.nD)
  (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
  (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
include h0 h1

/-- The fifth call's results are the same array. -/
theorem same5 (s : MemSt Cert.Reference5Ideal.nD Cert.Reference5Ideal.τ Cert.Reference5Ideal.sig (Elt Ideal)) (hs : Refr5.Ends m' c s) :
    s.mem ((c.tc : Thread Cert.Reference5Ideal.nD Cert.Reference5Ideal.τ).loc Cert.Reference5Ideal.main_v9) = (Cert.Kernel5Ideal.Gen.dats m 0 c).arrAt 2 Cert.Kernel5Ideal.cfg0.N := by
  refine hs.1.trans (funext fun y => ?_)
  rw [h0, h1]
  obtain ⟨i, j, rfl⟩ : ∃ (i : Fin 32768) (j : Fin 5120), y = ix2 i j := ⟨y 0, y 1, funext fun a => by fin_cases a <;> rfl⟩
  exact (Refr5.rest_at _ i j (Rest.col j) (by unfold Rest.col; split <;> rfl)).trans ((Refr5.proj_at _ _ i _).trans (Rest.out_at m c _ _ rfl rfl i j).symm)

end Values

/-- Over the extended reals the fifth kernel and its reference end with the same result. -/
theorem algebraic5 : Cert.algebraic_Kernel5Ideal_Reference5Ideal := fun m g m' g' _ hh =>
  ⟨fun c => (Cert.Kernel5Ideal.Gen.dats m 0 c).arrAt 2 Cert.Kernel5Ideal.cfg0.N,
    Cert.Kernel5Ideal.Value.run_blocks m g,
    (θ_run Cert.Reference5Ideal.defs _ _).mono
      (fun r h c => ⟨same5 m m' c (hh c).1 (hh c).2 r.2 (h.1 c), (h.1 c).2⟩) (Refr5.run_ref m' g')⟩

/-- The sixth idealized kernel terminates with its arguments unchanged and every counter at zero. -/
theorem frame_ideal6 : Cert.quiescent_Kernel6Ideal := fun m ρ _ => Cert.Kernel6Ideal.Gen.frame m ρ

/-- So does the sixth kernel. -/
theorem frame_kernel6 : Cert.quiescent_Kernel6 := fun m ρ _ => Cert.Kernel6.Gen.frame m ρ

/-- The sixth reference terminates with its arguments unchanged; it has no counter. -/
theorem frame_ref6 : Cert.quiescent_Reference6Ideal := fun m ρ _ =>
  (θ_run Cert.Reference6Ideal.defs _ _).mono (fun _ h => ⟨fun c => (h.1 c).2, h.2⟩) (Refr6.run_ref m ρ)

section Values
variable (m : (ℓ : Loc Cert.Kernel6Ideal.nD Cert.Kernel6Ideal.τ Cert.Kernel6Ideal.sig) → Buf (Elt Ideal) ℓ)
  (m' : (ℓ : Loc Cert.Reference6Ideal.nD Cert.Reference6Ideal.τ Cert.Reference6Ideal.sig) → Buf (Elt Ideal) ℓ)
  (c : Dev Cert.Kernel6Ideal.nD)
  (h0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0))
  (h1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
  (h2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2))
  (h3 : m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3))
  (h4 : m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4))
  (h5 : m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5))
  (h6 : m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6))
include h0 h1 h2 h3 h4 h5 h6

/-- The sixth call's results are the same array. -/
theorem same6 (s : MemSt Cert.Reference6Ideal.nD Cert.Reference6Ideal.τ Cert.Reference6Ideal.sig (Elt Ideal)) (hs : Refr6.Ends m' c s) :
    s.mem ((c.tc : Thread Cert.Reference6Ideal.nD Cert.Reference6Ideal.τ).loc Cert.Reference6Ideal.main_v26) = (Cert.Kernel6Ideal.Gen.dats m 0 c).arrAt 8 Cert.Kernel6Ideal.cfg0.N := by
  refine hs.1.trans (funext fun y => ?_)
  rw [h0, h1, h2, h3, h4, h5, h6]
  obtain ⟨i, j, rfl⟩ : ∃ (i : Fin 32768) (j : Fin 2048), y = ix2 i j := ⟨y 0, y 1, funext fun a => by fin_cases a <;> rfl⟩
  exact (Refr6.res_at _ _ _ _ _ _ _ i j).trans (Mix.out_at m c _ _ _ _ _ _ _ rfl rfl rfl rfl rfl rfl rfl i j).symm

end Values

/-- Over the extended reals the sixth kernel and its reference end with the same result. -/
theorem algebraic6 : Cert.algebraic_Kernel6Ideal_Reference6Ideal := fun m g m' g' _ hh =>
  ⟨fun c => (Cert.Kernel6Ideal.Gen.dats m 0 c).arrAt 8 Cert.Kernel6Ideal.cfg0.N,
    Cert.Kernel6Ideal.Value.run_blocks m g,
    (θ_run Cert.Reference6Ideal.defs _ _).mono
      (fun r h c => ⟨same6 m m' c (hh c).1 (hh c).2.1 (hh c).2.2.1 (hh c).2.2.2.1 (hh c).2.2.2.2.1 (hh c).2.2.2.2.2.1 (hh c).2.2.2.2.2.2 r.2 (h.1 c), (h.1 c).2⟩) (Refr6.run_ref m' g')⟩

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    ⟨frame_kernel, frame_ideal, frame_ref,
      frame_kernel2, frame_ideal2, frame_ref2,
      frame_kernel3, frame_ideal3, frame_ref3,
      frame_kernel4, frame_ideal4, frame_ref4,
      frame_kernel5, frame_ideal5, frame_ref5,
      frame_kernel6, frame_ideal6, frame_ref6,
      trivial, algebraic, trivial, algebraic2, trivial, algebraic3, trivial, algebraic4, trivial, algebraic5, trivial, algebraic6⟩⟩

end Cert.Proof
